-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_logits [hPre_finite_logits : Cert.Pre_finite_logits.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_logits.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_logits [hPre_finite_logits : Cert.Pre_finite_logits.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_logits.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_logits [hKernel7Ideal : Cert.Kernel7Ideal.Facts] [hPre_finite_logits : Cert.Pre_finite_logits.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_logits m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_logits [hReference7Ideal : Cert.Reference7Ideal.Facts] [hPre_finite_logits : Cert.Pre_finite_logits.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_logits m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_logits [hKernel7Ideal : Cert.Kernel7Ideal.Facts] [hReference7Ideal : Cert.Reference7Ideal.Facts] [hPre_finite_logits : Cert.Pre_finite_logits.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_logits m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_v29) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite_logits : Cert.Pre_finite_logits.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_logits (hKernel7Ideal := hKernel7Ideal) (hPre_finite_logits := hPre_finite_logits)
    ∧ quiescent_Reference7Ideal (hReference7Ideal := hReference7Ideal)
    ∧ quiescent_Reference7Ideal_pre_finite_logits (hReference7Ideal := hReference7Ideal) (hPre_finite_logits := hPre_finite_logits)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_logits (hKernel7Ideal := hKernel7Ideal) (hReference7Ideal := hReference7Ideal) (hPre_finite_logits := hPre_finite_logits)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x8x96 .f32) (main_arg1 : FVec F S8192x8x96 .f32) (main_arg2 : FVec F S8192x8x64 .f32) (main_arg3 : FVec F S8192x512 .f32) : IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : IVec S_ 1 := andi main_v3 main_v7
  let main_v9 : FVec F S8192x8x64 .f32 := Host.absf main_arg2
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  let main_c_3 : IVec S_ 1 := constantI S_ 1 1#1
  let main_v12 : IVec S_ 1 := (fun x v => Host.reduce IntOp.andi x v reducesTo_S8192x8x64_S_d0_1_2 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_finite_logits.lean ====
abbrev S8192x1024 : Shape := ⟨2, ![8192, 1024]⟩
abbrev S512x8192 : Shape := ⟨2, ![512, 8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .bf16) (main_arg1 : FVec F S8192x1024 .bf16) (main_arg2 : FVec F S512x8192 .bf16) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .bf16 := Host.absf main_arg1
  let main_cst_0 : FVec F S_ .bf16 := constant S_ .bf16 0x7F80#16
  let main_v5 : FVec F S8192x1024 .bf16 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S8192x8x32 : Shape := ⟨3, ![8192, 8, 32]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x128 : Shape := ⟨3, ![8192, 8, 128]⟩
abbrev S8192x1024 : Shape := ⟨2, ![8192, 1024]⟩
abbrev S1024x8192 : Shape := ⟨2, ![1024, 8192]⟩
abbrev S512x8192 : Shape := ⟨2, ![512, 8192]⟩
abbrev S4x2x8192 : Shape := ⟨3, ![4, 2, 8192]⟩
abbrev S4x8192x2 : Shape := ⟨3, ![4, 8192, 2]⟩
abbrev S8192x4x2 : Shape := ⟨3, ![8192, 4, 2]⟩
abbrev S1024x256 : Shape := ⟨2, ![1024, 256]⟩
abbrev S2048x256 : Shape := ⟨2, ![2048, 256]⟩
abbrev S2048x128 : Shape := ⟨2, ![2048, 128]⟩
abbrev S256x1024 : Shape := ⟨2, ![256, 1024]⟩
abbrev S1024x128 : Shape := ⟨2, ![1024, 128]⟩
abbrev S128x1024 : Shape := ⟨2, ![128, 1024]⟩
abbrev S1x1024x2 : Shape := ⟨3, ![1, 1024, 2]⟩
abbrev S8192x256 : Shape := ⟨2, ![8192, 256]⟩
abbrev S256x2048 : Shape := ⟨2, ![256, 2048]⟩
abbrev S128x2048 : Shape := ⟨2, ![128, 2048]⟩
abbrev S1024x2048 : Shape := ⟨2, ![1024, 2048]⟩
abbrev S1x1024x1 : Shape := ⟨3, ![1, 1024, 1]⟩
abbrev S1024x1 : Shape := ⟨2, ![1024, 1]⟩
abbrev S64x2048 : Shape := ⟨2, ![64, 2048]⟩
abbrev S64x1024 : Shape := ⟨2, ![64, 1024]⟩

abbrev nBuf : Space → Nat
  | .hbm => 65
  | .vmem => 25
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8192x8x64, .f32⟩
  | .hbm, ⟨5, _⟩ => ⟨S8192x8x64, .f32⟩
  | .hbm, ⟨6, _⟩ => ⟨S8x8192x8192, .f32⟩
  | .hbm, ⟨7, _⟩ => ⟨S8192x8x32, .f32⟩
  | .hbm, ⟨8, _⟩ => ⟨S8192x8x32, .f32⟩
  | .hbm, ⟨9, _⟩ => ⟨S8x8192x8192, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x64x8192, .f32⟩
  | .hbm, ⟨26, _⟩ => ⟨S8192x8x64, .f32⟩
  | .hbm, ⟨27, _⟩ => ⟨S_, .f32⟩
  | .hbm, ⟨28, _⟩ => ⟨S_, .f32⟩
  | .hbm, ⟨29, _⟩ => ⟨S8x8192x1, .f32⟩
  | .hbm, ⟨30, _⟩ => ⟨S8x8192x1, .f32⟩
  | .hbm, ⟨31, _⟩ => ⟨S8x8192x1, .f32⟩
  | .hbm, ⟨32, _⟩ => ⟨S8x8192x1, .f32⟩
  | .hbm, ⟨33, _⟩ => ⟨S8x8192, .f32⟩
  | .hbm, ⟨34, _⟩ => ⟨S8192x8x64, .f32⟩
  | .hbm, ⟨35, _⟩ => ⟨S8192x8x64, .f32⟩
  | .hbm, ⟨36, _⟩ => ⟨S_, .f32⟩
  | .hbm, ⟨37, _⟩ => ⟨S8192x8, .f32⟩
  | .hbm, ⟨38, _⟩ => ⟨S_, .f32⟩
  | .hbm, ⟨39, _⟩ => ⟨S8192x8x96, .f32⟩
  | .hbm, ⟨40, _⟩ => ⟨S8192x8x96, .f32⟩
  | .hbm, ⟨41, _⟩ => ⟨S8192x8x96, .f32⟩
  | .hbm, ⟨42, _⟩ => ⟨S8192x8x96, .f32⟩
  | .hbm, ⟨43, _⟩ => ⟨S_, .i32⟩
  | .hbm, ⟨44, _⟩ => ⟨S_, .f32⟩
  | .hbm, ⟨45, _⟩ => ⟨S8192x8x128, .f32⟩
  | .hbm, ⟨46, _⟩ => ⟨S8192x1024, .f32⟩
  | .hbm, ⟨47, _⟩ => ⟨S8192x1024, .bf16⟩
  | .hbm, ⟨48, _⟩ => ⟨S_, .i32⟩
  | .hbm, ⟨49, _⟩ => ⟨S_, .f32⟩
  | .hbm, ⟨50, _⟩ => ⟨S8192x8x128, .f32⟩
  | .hbm, ⟨51, _⟩ => ⟨S8192x1024, .f32⟩
  | .hbm, ⟨52, _⟩ => ⟨S8192x1024, .bf16⟩
  | .hbm, ⟨53, _⟩ => ⟨S8192x512, .f32⟩
  | .hbm, ⟨54, _⟩ => ⟨S8192x512, .bf16⟩
  | .hbm, ⟨55, _⟩ => ⟨S8192x512, .bf16⟩
  | .hbm, ⟨56, _⟩ => ⟨S1024x8192, .bf16⟩
  | .hbm, ⟨57, _⟩ => ⟨S512x8192, .bf16⟩
  | .hbm, ⟨58, _⟩ => ⟨S4x2x8192, .f32⟩
  | .hbm, ⟨59, _⟩ => ⟨S4x8192x2, .f32⟩
  | .hbm, ⟨60, _⟩ => ⟨S8192x4x2, .f32⟩
  | .hbm, ⟨61, _⟩ => ⟨S4x8192x2, .f32⟩
  | .hbm, ⟨62, _⟩ => ⟨S8192x1024, .bf16⟩
  | .hbm, ⟨63, _⟩ => ⟨S1024x8192, .bf16⟩
  | .hbm, ⟨64, _⟩ => ⟨S512x8192, .bf16⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x1024, .bf16⟩
  | .local _ .vmem, ⟨7, _⟩ => ⟨S256x1024, .bf16⟩
  | .local _ .vmem, ⟨8, _⟩ => ⟨S1024x128, .bf16⟩
  | .local _ .vmem, ⟨9, _⟩ => ⟨S1024x128, .bf16⟩
  | .local _ .vmem, ⟨10, _⟩ => ⟨S128x1024, .bf16⟩
  | .local _ .vmem, ⟨11, _⟩ => ⟨S128x1024, .bf16⟩
  | .local _ .vmem, ⟨12, _⟩ => ⟨S1x1024x2, .f32⟩
  | .local _ .vmem, ⟨13, _⟩ => ⟨S1x1024x2, .f32⟩
  | .local _ .vmem, ⟨14, _⟩ => ⟨S1x1024x2, .f32⟩
  | .local _ .vmem, ⟨15, _⟩ => ⟨S1x1024x2, .f32⟩
  | .local _ .vmem, ⟨16, _⟩ => ⟨S8192x256, .bf16⟩
  | .local _ .vmem, ⟨17, _⟩ => ⟨S8192x256, .bf16⟩
  | .local _ .vmem, ⟨18, _⟩ => ⟨S256x2048, .bf16⟩
  | .local _ .vmem, ⟨19, _⟩ => ⟨S256x2048, .bf16⟩
  | .local _ .vmem, ⟨20, _⟩ => ⟨S128x2048, .bf16⟩
  | .local _ .vmem, ⟨21, _⟩ => ⟨S128x2048, .bf16⟩
  | .local _ .vmem, ⟨22, _⟩ => ⟨S8192x256, .f32⟩
  | .local _ .vmem, ⟨23, _⟩ => ⟨S256x2048, .f32⟩
  | .local _ .vmem, ⟨24, _⟩ => ⟨S128x2048, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48_0 : Ref sig .tc := ⟨.hbm, 62, rfl⟩
abbrev main_v48_1 : Ref sig .tc := ⟨.hbm, 63, rfl⟩
abbrev main_v48_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c1024_i32 : BitVec 32 := 1024#32
  let v15 : BitVec 32 := Scalar.muli arg2 c1024_i32
  v15
def k0_off1 (i : grid0.Coords) : Fin 2 → Nat :=
  let arg2 : BitVec 32 := BitVec.ofNat 32 (i 2).val
  let c1024_i32 : BitVec 32 := 1024#32
  let v15 : BitVec 32 := Scalar.muli arg2 c1024_i32
  let v16 : BitVec 32 := v15
  let v45 : Index := Scalar.indexCast v16
  let c0_26 : Index := 0#32
  ![v45.toNat, 0]
def k0_off2 (i : grid0.Coords) : Fin 2 → Nat :=
  let arg2 : BitVec 32 := BitVec.ofNat 32 (i 2).val
  let c1024_i32 : BitVec 32 := 1024#32
  let v15 : BitVec 32 := Scalar.muli arg2 c1024_i32
  let v16 : BitVec 32 := v15
  let v90 : Index := Scalar.indexCast v16
  let c128_54 : Index := 128#32
  ![v90.toNat, 128]
def k0_cond4 (i : grid0.Coords) : BitVec 1 :=
  let arg1 : BitVec 32 := BitVec.ofNat 32 (i 1).val
  let c3_i32 : BitVec 32 := 3#32
  let v109 : BitVec 1 := Scalar.cmpi .eq arg1 c3_i32
  let arg2 : BitVec 32 := BitVec.ofNat 32 (i 2).val
  let c7_i32_65 : BitVec 32 := 7#32
  let v110 : BitVec 1 := Scalar.cmpi .eq arg2 c7_i32_65
  let v111 : BitVec 1 := Scalar.andi v109 v110
  let v112 : BitVec 32 := Scalar.extui v111
  let c0_i32_66 : BitVec 32 := 0#32
  let v113 : BitVec 1 := Scalar.cmpi .ne v112 c0_i32_66
  v113

def k0_cond3 (i : grid0.Coords) : BitVec 1 :=
  let arg2 : BitVec 32 := BitVec.ofNat 32 (i 2).val
  let c7_i32 : BitVec 32 := 7#32
  let v106 : BitVec 1 := Scalar.cmpi .eq arg2 c7_i32
  let v107 : BitVec 32 := Scalar.extui v106
  let c0_i32_64 : BitVec 32 := 0#32
  let v108 : BitVec 1 := Scalar.cmpi .ne v107 c0_i32_64
  v108

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1024x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1024x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S8192x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S8192x8x32 : Shape := ⟨3, ![8192, 8, 32]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x32 : Shape := ⟨3, ![8, 8192, 32]⟩
abbrev S8x8192x64 : Shape := ⟨3, ![8, 8192, 64]⟩
abbrev S8192x8x128 : Shape := ⟨3, ![8192, 8, 128]⟩
abbrev S8192x1024 : Shape := ⟨2, ![8192, 1024]⟩
abbrev S1024x8192 : Shape := ⟨2, ![1024, 8192]⟩
abbrev S512x8192 : Shape := ⟨2, ![512, 8192]⟩

abbrev nBuf : Space → Nat
  | .hbm => 116
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8192x8x64, .f32⟩
  | .hbm, ⟨5, _⟩ => ⟨S8192x8x64, .f32⟩
  | .hbm, ⟨6, _⟩ => ⟨S8x8192x8192, .f32⟩
  | .hbm, ⟨7, _⟩ => ⟨S8192x8x32, .f32⟩
  | .hbm, ⟨8, _⟩ => ⟨S8192x8x32, .f32⟩
  | .hbm, ⟨9, _⟩ => ⟨S8x8192x8192, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .i1⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S_, .f32⟩
  | .hbm, ⟨23, _⟩ => ⟨S8x8192, .f32⟩
  | .hbm, ⟨24, _⟩ => ⟨S8x8192, .f32⟩
  | .hbm, ⟨25, _⟩ => ⟨S_, .f32⟩
  | .hbm, ⟨26, _⟩ => ⟨S8x8192, .f32⟩
  | .hbm, ⟨27, _⟩ => ⟨S8x8192, .i1⟩
  | .hbm, ⟨28, _⟩ => ⟨S_, .f32⟩
  | .hbm, ⟨29, _⟩ => ⟨S8x8192, .f32⟩
  | .hbm, ⟨30, _⟩ => ⟨S8x8192, .i1⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192, .f32⟩
  | .hbm, ⟨45, _⟩ => ⟨S8x8192x1, .f32⟩
  | .hbm, ⟨46, _⟩ => ⟨S8x8192x8192, .f32⟩
  | .hbm, ⟨47, _⟩ => ⟨S8x8192x8192, .f32⟩
  | .hbm, ⟨48, _⟩ => ⟨S8x8192x1, .f32⟩
  | .hbm, ⟨49, _⟩ => ⟨S_, .f32⟩
  | .hbm, ⟨50, _⟩ => ⟨S8x8192x1, .f32⟩
  | .hbm, ⟨51, _⟩ => ⟨S8x8192x1, .f32⟩
  | .hbm, ⟨52, _⟩ => ⟨S8x64x8192, .f32⟩
  | .hbm, ⟨53, _⟩ => ⟨S8192x8x64, .f32⟩
  | .hbm, ⟨54, _⟩ => ⟨S8192x512, .f32⟩
  | .hbm, ⟨55, _⟩ => ⟨S8192x8x64, .f32⟩
  | .hbm, ⟨56, _⟩ => ⟨S8x64x8192, .f32⟩
  | .hbm, ⟨57, _⟩ => ⟨S8x8192x8192, .f32⟩
  | .hbm, ⟨58, _⟩ => ⟨S8x64x8192, .f32⟩
  | .hbm, ⟨59, _⟩ => ⟨S8192x8x64, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S8x8192x1, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S8x8192, .f32⟩
  | .hbm, ⟨71, _⟩ => ⟨S8x8192x8192, .f32⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S8x8192x8192, .f32⟩
  | .hbm, ⟨76, _⟩ => ⟨S8x8192x8192, .f32⟩
  | .hbm, ⟨77, _⟩ => ⟨S8x8192x32, .f32⟩
  | .hbm, ⟨78, _⟩ => ⟨S8192x8x32, .f32⟩
  | .hbm, ⟨79, _⟩ => ⟨S8x8192x32, .f32⟩
  | .hbm, ⟨80, _⟩ => ⟨S8192x8x32, .f32⟩
  | .hbm, ⟨81, _⟩ => ⟨S_, .f32⟩
  | .hbm, ⟨82, _⟩ => ⟨S8192x8x96, .f32⟩
  | .hbm, ⟨83, _⟩ => ⟨S_, .f32⟩
  | .hbm, ⟨84, _⟩ => ⟨S8192x8x96, .f32⟩
  | .hbm, ⟨85, _⟩ => ⟨S8x8192x64, .f32⟩
  | .hbm, ⟨86, _⟩ => ⟨S8192x8x64, .f32⟩
  | .hbm, ⟨87, _⟩ => ⟨S8x8192x64, .f32⟩
  | .hbm, ⟨88, _⟩ => ⟨S8192x8x64, .f32⟩
  | .hbm, ⟨89, _⟩ => ⟨S_, .f32⟩
  | .hbm, ⟨90, _⟩ => ⟨S8192x8x96, .f32⟩
  | .hbm, ⟨91, _⟩ => ⟨S8192x8x96, .f32⟩
  | .hbm, ⟨92, _⟩ => ⟨S_, .f32⟩
  | .hbm, ⟨93, _⟩ => ⟨S8192x8x96, .f32⟩
  | .hbm, ⟨94, _⟩ => ⟨S8192x8x96, .f32⟩
  | .hbm, ⟨95, _⟩ => ⟨S_, .f32⟩
  | .hbm, ⟨96, _⟩ => ⟨S8192x8x96, .f32⟩
  | .hbm, ⟨97, _⟩ => ⟨S8192x8x96, .f32⟩
  | .hbm, ⟨98, _⟩ => ⟨S_, .i32⟩
  | .hbm, ⟨99, _⟩ => ⟨S_, .f32⟩
  | .hbm, ⟨100, _⟩ => ⟨S8192x8x128, .f32⟩
  | .hbm, ⟨101, _⟩ => ⟨S8192x1024, .f32⟩
  | .hbm, ⟨102, _⟩ => ⟨S8192x1024, .bf16⟩
  | .hbm, ⟨103, _⟩ => ⟨S_, .f32⟩
  | .hbm, ⟨104, _⟩ => ⟨S_, .f32⟩
  | .hbm, ⟨105, _⟩ => ⟨S8192x8x96, .f32⟩
  | .hbm, ⟨106, _⟩ => ⟨S8192x8x96, .f32⟩
  | .hbm, ⟨107, _⟩ => ⟨S_, .i32⟩
  | .hbm, ⟨108, _⟩ => ⟨S_, .f32⟩
  | .hbm, ⟨109, _⟩ => ⟨S8192x8x128, .f32⟩
  | .hbm, ⟨110, _⟩ => ⟨S8192x1024, .f32⟩
  | .hbm, ⟨111, _⟩ => ⟨S1024x8192, .f32⟩
  | .hbm, ⟨112, _⟩ => ⟨S1024x8192, .bf16⟩
  | .hbm, ⟨113, _⟩ => ⟨S8192x512, .f32⟩
  | .hbm, ⟨114, _⟩ => ⟨S512x8192, .f32⟩
  | .hbm, ⟨115, _⟩ => ⟨S512x8192, .bf16⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_cst_16 : Ref sig .tc := ⟨.hbm, 92, rfl⟩
abbrev main_v71 : Ref sig .tc := ⟨.hbm, 93, rfl⟩
abbrev main_v72 : Ref sig .tc := ⟨.hbm, 94, rfl⟩
abbrev main_cst_17 : Ref sig .tc := ⟨.hbm, 95, rfl⟩
abbrev main_v73 : Ref sig .tc := ⟨.hbm, 96, rfl⟩
abbrev main_v74 : Ref sig .tc := ⟨.hbm, 97, rfl⟩
abbrev main_c : Ref sig .tc := ⟨.hbm, 98, rfl⟩
abbrev main_call0_v0 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_18 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_19 : Ref sig .tc := ⟨.hbm, 107, rfl⟩
abbrev main_call1_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩

abbrev nD : Nat := 1
abbrev τ : Topo := Topo.v7x

variable {F : FTy → Type} [FloatOps F]
-- ==== Kernel2.lean ====
abbrev S8192x1024 : Shape := ⟨2, ![8192, 1024]⟩
abbrev S8192x4608 : Shape := ⟨2, ![8192, 4608]⟩
abbrev S1024x4608 : Shape := ⟨2, ![1024, 4608]⟩
abbrev S2048x512 : Shape := ⟨2, ![2048, 512]⟩
abbrev S2048x1536 : Shape := ⟨2, ![2048, 1536]⟩
abbrev S512x1536 : Shape := ⟨2, ![512, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x4608, .f32⟩
  | .local _ .vmem, ⟨0, _⟩ => ⟨S2048x512, .bf16⟩
  | .local _ .vmem, ⟨1, _⟩ => ⟨S2048x512, .bf16⟩
  | .local _ .vmem, ⟨2, _⟩ => ⟨S2048x1536, .bf16⟩
  | .local _ .vmem, ⟨3, _⟩ => ⟨S2048x1536, .bf16⟩
  | .local _ .vmem, ⟨4, _⟩ => ⟨S512x1536, .f32⟩
  | .local _ .vmem, ⟨5, _⟩ => ⟨S512x1536, .f32⟩
  | .local _ .vmem, ⟨6, _⟩ => ⟨S512x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S_, .f32⟩
  | .hbm, ⟨3, _⟩ => ⟨S1024x4608, .f32⟩
  | .hbm, ⟨4, _⟩ => ⟨S8192x1024, .f32⟩
  | .hbm, ⟨5, _⟩ => ⟨S8192x4608, .f32⟩
  | .hbm, ⟨6, _⟩ => ⟨S8192x4608, .f32⟩
  | .hbm, ⟨7, _⟩ => ⟨S4608x1024, .f32⟩
  | .hbm, ⟨8, _⟩ => ⟨S1024x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x4608 : Shape := ⟨2, ![8192, 4608]⟩
abbrev S4608x1024 : Shape := ⟨2, ![4608, 1024]⟩
abbrev S8192x1024 : Shape := ⟨2, ![8192, 1024]⟩
abbrev S1024 : Shape := ⟨1, ![1024]⟩
abbrev S1x1024 : Shape := ⟨2, ![1, 1024]⟩
abbrev S512x2304 : Shape := ⟨2, ![512, 2304]⟩
abbrev S2304x1024 : Shape := ⟨2, ![2304, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x4608, .bf16⟩
  | .hbm, ⟨1, _⟩ => ⟨S4608x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S2304x1024, .bf16⟩
  | .local _ .vmem, ⟨3, _⟩ => ⟨S2304x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_9 : BitVec 32 := 0#32
  let v16 : BitVec 1 := Scalar.cmpi .ne v15 c0_i32_9
  v16

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_3 : BitVec 32 := 0#32
  let v4 : BitVec 1 := Scalar.cmpi .eq arg1 c0_i32_3
  let v5 : BitVec 1 := Scalar.andi v3 v4
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference3Ideal.lean ====
abbrev S8192x4608 : Shape := ⟨2, ![8192, 4608]⟩
abbrev S4608x1024 : Shape := ⟨2, ![4608, 1024]⟩
abbrev S8192x1024 : Shape := ⟨2, ![8192, 1024]⟩
abbrev S1024 : Shape := ⟨1, ![1024]⟩
abbrev S1024x4608 : Shape := ⟨2, ![1024, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S4608x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S4608x1024, .f32⟩
  | .hbm, ⟨7, _⟩ => ⟨S1024x4608, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x4608, .f32⟩
  | .hbm, ⟨29, _⟩ => ⟨S8192x4608, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel4.lean ====
abbrev S8192x1024 : Shape := ⟨2, ![8192, 1024]⟩
abbrev S1024x6656 : Shape := ⟨2, ![1024, 6656]⟩
abbrev S8192x6656 : Shape := ⟨2, ![8192, 6656]⟩
abbrev S1024x1024 : Shape := ⟨2, ![1024, 1024]⟩
abbrev S1024x3328 : Shape := ⟨2, ![1024, 3328]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6656, .bf16⟩
  | .hbm, ⟨2, _⟩ => ⟨S8192x6656, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3328, .bf16⟩
  | .local _ .vmem, ⟨3, _⟩ => ⟨S1024x3328, .bf16⟩
  | .local _ .vmem, ⟨4, _⟩ => ⟨S1024x3328, .bf16⟩
  | .local _ .vmem, ⟨5, _⟩ => ⟨S1024x3328, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x6656 : Shape := ⟨2, ![1024, 6656]⟩
abbrev S8192x6656 : Shape := ⟨2, ![8192, 6656]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6656, .bf16⟩
  | .hbm, ⟨2, _⟩ => ⟨S8192x1024, .f32⟩
  | .hbm, ⟨3, _⟩ => ⟨S1024x6656, .f32⟩
  | .hbm, ⟨4, _⟩ => ⟨S8192x6656, .f32⟩
  | .hbm, ⟨5, _⟩ => ⟨S8192x6656, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x1024 : Shape := ⟨2, ![2048, 1024]⟩
abbrev S_ : Shape := ⟨0, ![]⟩
abbrev S8192x1024 : Shape := ⟨2, ![8192, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S_, .f32⟩
  | .hbm, ⟨3, _⟩ => ⟨S8192x1024, .f32⟩
  | .hbm, ⟨4, _⟩ => ⟨S2048x1024, .f32⟩
  | .hbm, ⟨5, _⟩ => ⟨S1024x2048, .f32⟩
  | .hbm, ⟨6, _⟩ => ⟨S8192x2048, .f32⟩
  | .hbm, ⟨7, _⟩ => ⟨S8192x2048, .f32⟩
  | .hbm, ⟨8, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S8192x2048 : Shape := ⟨2, ![8192, 2048]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S512x8192 : Shape := ⟨2, ![512, 8192]⟩
abbrev S8192x512 : Shape := ⟨2, ![8192, 512]⟩
abbrev S4x2x8192 : Shape := ⟨3, ![4, 2, 8192]⟩
abbrev S512x256 : Shape := ⟨2, ![512, 256]⟩
abbrev S4096x256 : Shape := ⟨2, ![4096, 256]⟩
abbrev S128x4096 : Shape := ⟨2, ![128, 4096]⟩
abbrev S512x128 : Shape := ⟨2, ![512, 128]⟩
abbrev S1x2x512 : Shape := ⟨3, ![1, 2, 512]⟩
abbrev S1x512 : Shape := ⟨2, ![1, 512]⟩
abbrev S64x512 : Shape := ⟨2, ![64, 512]⟩
abbrev S4096x128 : Shape := ⟨2, ![4096, 128]⟩
abbrev S4096x512 : Shape := ⟨2, ![4096, 512]⟩
abbrev S512 : Shape := ⟨1, ![512]⟩
abbrev S64x4096 : Shape := ⟨2, ![64, 4096]⟩
abbrev S128x512 : Shape := ⟨2, ![128, 512]⟩
abbrev S2x512 : Shape := ⟨2, ![2, 512]⟩

abbrev nBuf : Space → Nat
  | .hbm => 5
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S512x8192, .bf16⟩
  | .hbm, ⟨3, _⟩ => ⟨S8192x512, .f32⟩
  | .hbm, ⟨4, _⟩ => ⟨S4x2x8192, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S128x4096, .bf16⟩
  | .local _ .vmem, ⟨5, _⟩ => ⟨S128x4096, .bf16⟩
  | .local _ .vmem, ⟨6, _⟩ => ⟨S512x128, .f32⟩
  | .local _ .vmem, ⟨7, _⟩ => ⟨S512x128, .f32⟩
  | .local _ .vmem, ⟨8, _⟩ => ⟨S1x2x512, .f32⟩
  | .local _ .vmem, ⟨9, _⟩ => ⟨S1x2x512, .f32⟩
  | .local _ .vmem, ⟨10, _⟩ => ⟨S1x512, .f32⟩
  | .local _ .vmem, ⟨11, _⟩ => ⟨S1x512, .f32⟩
  | .local _ .vmem, ⟨12, _⟩ => ⟨S64x512, .f32⟩
  | .local _ .vmem, ⟨13, _⟩ => ⟨S1x512, .f32⟩
  | .local _ .vmem, ⟨14, _⟩ => ⟨S1x512, .f32⟩
  | .local _ .vmem, ⟨15, _⟩ => ⟨S64x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 2], ![false, false, false]⟩

def k0_cond2 (i : grid0.Coords) : BitVec 1 :=
  let arg2 : BitVec 32 := BitVec.ofNat 32 (i 2).val
  let c1_i32 : BitVec 32 := 1#32
  let v69 : BitVec 1 := Scalar.cmpi .eq arg2 c1_i32
  let v70 : BitVec 32 := Scalar.extui v69
  let c0_i32_41 : BitVec 32 := 0#32
  let v71 : BitVec 1 := Scalar.cmpi .ne v70 c0_i32_41
  v71

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S8192x1024 : Shape := ⟨2, ![8192, 1024]⟩
abbrev S512x8192 : Shape := ⟨2, ![512, 8192]⟩
abbrev S_ : Shape := ⟨0, ![]⟩
abbrev S8192x8x128 : Shape := ⟨3, ![8192, 8, 128]⟩
abbrev S8x8192x8192 : Shape := ⟨3, ![8, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8192x8x64 : Shape := ⟨3, ![8192, 8, 64]⟩
abbrev S8192x512 : Shape := ⟨2, ![8192, 512]⟩
abbrev S4x2x8192 : Shape := ⟨3, ![4, 2, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S512x8192, .bf16⟩
  | .hbm, ⟨3, _⟩ => ⟨S_, .f32⟩
  | .hbm, ⟨4, _⟩ => ⟨S_, .f32⟩
  | .hbm, ⟨5, _⟩ => ⟨S8192x1024, .f32⟩
  | .hbm, ⟨6, _⟩ => ⟨S8192x8x128, .f32⟩
  | .hbm, ⟨7, _⟩ => ⟨S8192x1024, .f32⟩
  | .hbm, ⟨8, _⟩ => ⟨S8192x8x128, .f32⟩
  | .hbm, ⟨9, _⟩ => ⟨S8x8192x8192, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S8x8192, .f32⟩
  | .hbm, ⟨14, _⟩ => ⟨S_, .f32⟩
  | .hbm, ⟨15, _⟩ => ⟨S8x8192, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S512x8192, .f32⟩
  | .hbm, ⟨27, _⟩ => ⟨S8x64x8192, .f32⟩
  | .hbm, ⟨28, _⟩ => ⟨S8x64x8192, .f32⟩
  | .hbm, ⟨29, _⟩ => ⟨S8192x8x64, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S8x8192, .f32⟩
  | .hbm, ⟨35, _⟩ => ⟨S8x8192, .f32⟩
  | .hbm, ⟨36, _⟩ => ⟨S8192x512, .f32⟩
  | .hbm, ⟨37, _⟩ => ⟨S4x2x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x384 : Shape := ⟨2, ![8192, 384]⟩
abbrev S8192x1024 : Shape := ⟨2, ![8192, 1024]⟩
abbrev S384x1024 : Shape := ⟨2, ![384, 1024]⟩
abbrev S2048x384 : Shape := ⟨2, ![2048, 384]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S384x1024, .f32⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S384x1024, .f32⟩
  | .local _ .vmem, ⟨5, _⟩ => ⟨S384x1024, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x384 : Shape := ⟨2, ![8192, 384]⟩
abbrev S8192x1024 : Shape := ⟨2, ![8192, 1024]⟩
abbrev S_ : Shape := ⟨0, ![]⟩
abbrev S384x1024 : Shape := ⟨2, ![384, 1024]⟩
abbrev S1024x384 : Shape := ⟨2, ![1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x1024, .bf16⟩
  | .hbm, ⟨2, _⟩ => ⟨S_, .f32⟩
  | .hbm, ⟨3, _⟩ => ⟨S384x1024, .f32⟩
  | .hbm, ⟨4, _⟩ => ⟨S8192x384, .f32⟩
  | .hbm, ⟨5, _⟩ => ⟨S8192x1024, .f32⟩
  | .hbm, ⟨6, _⟩ => ⟨S8192x1024, .f32⟩
  | .hbm, ⟨7, _⟩ => ⟨S1024x384, .f32⟩
  | .hbm, ⟨8, _⟩ => ⟨S384x1024, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x256 : Shape := ⟨2, ![8192, 256]⟩
abbrev S8192x1536 : Shape := ⟨2, ![8192, 1536]⟩
abbrev S256x1536 : Shape := ⟨2, ![256, 1536]⟩
abbrev S2048x256 : Shape := ⟨2, ![2048, 256]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1536, .bf16⟩
  | .hbm, ⟨2, _⟩ => ⟨S256x1536, .f32⟩
  | .local _ .vmem, ⟨0, _⟩ => ⟨S2048x256, .bf16⟩
  | .local _ .vmem, ⟨1, _⟩ => ⟨S2048x256, .bf16⟩
  | .local _ .vmem, ⟨2, _⟩ => ⟨S2048x1536, .bf16⟩
  | .local _ .vmem, ⟨3, _⟩ => ⟨S2048x1536, .bf16⟩
  | .local _ .vmem, ⟨4, _⟩ => ⟨S256x1536, .f32⟩
  | .local _ .vmem, ⟨5, _⟩ => ⟨S256x1536, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x256 : Shape := ⟨2, ![8192, 256]⟩
abbrev S8192x1536 : Shape := ⟨2, ![8192, 1536]⟩
abbrev S_ : Shape := ⟨0, ![]⟩
abbrev S256x1536 : Shape := ⟨2, ![256, 1536]⟩
abbrev S1536x256 : Shape := ⟨2, ![1536, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1536, .bf16⟩
  | .hbm, ⟨2, _⟩ => ⟨S_, .f32⟩
  | .hbm, ⟨3, _⟩ => ⟨S256x1536, .f32⟩
  | .hbm, ⟨4, _⟩ => ⟨S8192x256, .f32⟩
  | .hbm, ⟨5, _⟩ => ⟨S8192x1536, .f32⟩
  | .hbm, ⟨6, _⟩ => ⟨S8192x1536, .f32⟩
  | .hbm, ⟨7, _⟩ => ⟨S1536x256, .f32⟩
  | .hbm, ⟨8, _⟩ => ⟨S256x1536, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.MlaBwd.Nat.lean ====
/- Arrays of extended reals read at natural numbers (zero outside), and what a window of one and a window written
   into one read there. -/
module

public import Idealize.ShloMosaic.Lib.VecWindow
public import Idealize.ShloMosaic.Lib.Pointwise
public import Idealize.ShloMosaic.Lib.Pipeline.ValueKit

@[expose] public section

noncomputable section

namespace Cert.MlaBwd

open Idealize.ShloMosaic Idealize.ShloMosaic.Pipeline
open VecWindow (window put)

/-- A matrix at a row and a column. -/
def at2 {a b : ℕ} (x : (⟨2, ![a, b]⟩ : Shape).Idx → EReal) (i j : ℕ) : EReal :=
  if h : i < a ∧ j < b then x (ix2 ⟨i, h.1⟩ ⟨j, h.2⟩) else 0

/-- An array of three axes likewise. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem at2_ix {a b : ℕ} (x : (⟨2, ![a, b]⟩ : Shape).Idx → EReal) (i : Fin a) (j : Fin b) : x (ix2 i j) = at2 x i j := by
  rw [at2, dif_pos ⟨i.isLt, j.isLt⟩]

theorem at3_ix {a b c : ℕ} (x : (⟨3, ![a, b, c]⟩ : Shape).Idx → EReal) (i : Fin a) (j : Fin b) (k : Fin c) : x (ix3 i j k) = at3 x i j k := by
  rw [at3, dif_pos ⟨i.isLt, j.isLt, k.isLt⟩]

theorem window_ix2 {a b o₀ o₁ s₀ s₁ : ℕ} (x : (⟨2, ![a, b]⟩ : Shape).Idx → EReal) (inb) (i : Fin s₀) (j : Fin s₁) :
    window x ![o₀, o₁] ![s₀, s₁] inb (ix2 i j) = at2 x (o₀ + i.val) (o₁ + j.val) := by
  have h0 : o₀ + s₀ ≤ a := inb 0
  have h1 : o₁ + s₁ ≤ b := inb 1
  rw [at2, dif_pos ⟨by omega, by omega⟩]
  unfold window
  congr 1
  funext d
  apply Fin.ext
  match d with
  | ⟨0, _⟩ => exact ValueKit.rect_emb_unit_val _ _ _ _ _
  | ⟨1, _⟩ => exact ValueKit.rect_emb_unit_val _ _ _ _ _

theorem window_of {a b o₀ o₁ s₀ s₁ : ℕ} {off : Fin 2 → ℕ} (hoff : off = ![o₀, o₁]) (x : (⟨2, ![a, b]⟩ : Shape).Idx → EReal) (inb) (i : Fin s₀) (j : Fin s₁) :
    window x off ![s₀, s₁] inb (ix2 i j) = at2 x (o₀ + i.val) (o₁ + j.val) := by
  subst hoff; exact window_ix2 x inb i j

theorem window_ix3 {a b c o₀ o₁ o₂ s₀ s₁ s₂ : ℕ} (x : (⟨3, ![a, b, c]⟩ : Shape).Idx → EReal) (inb) (i : Fin s₀) (j : Fin s₁) (k : Fin s₂) :
    window x ![o₀, o₁, o₂] ![s₀, s₁, s₂] inb (ix3 i j k) = at3 x (o₀ + i.val) (o₁ + j.val) (o₂ + k.val) := by
  have h0 : o₀ + s₀ ≤ a := inb 0
  have h1 : o₁ + s₁ ≤ b := inb 1
  have h2 : o₂ + s₂ ≤ c := inb 2
  rw [at3, dif_pos ⟨by omega, by omega, by omega⟩]
  unfold window
  congr 1
  funext d
  apply Fin.ext
  match d with
  | ⟨0, _⟩ => exact ValueKit.rect_emb_unit_val _ _ _ _ _
  | ⟨1, _⟩ => exact ValueKit.rect_emb_unit_val _ _ _ _ _
  | ⟨2, _⟩ => exact ValueKit.rect_emb_unit_val _ _ _ _ _

theorem at2_put {a b o₀ o₁ s₀ s₁ : ℕ} (x : (⟨2, ![a, b]⟩ : Shape).Idx → EReal) (w : (⟨2, ![s₀, s₁]⟩ : Shape).Idx → EReal) {i j : ℕ}
    (hi : i < a) (hj : j < b) :
    at2 (put x ![o₀, o₁] ![s₀, s₁] w) i j
      = if o₀ ≤ i ∧ i < o₀ + s₀ ∧ o₁ ≤ j ∧ j < o₁ + s₁ then at2 w (i - o₀) (j - o₁) else at2 x i j := by
  rw [at2, dif_pos ⟨hi, hj⟩]
  unfold put
  split
  · rename_i h
    have h0 : o₀ ≤ i ∧ i < o₀ + s₀ := h 0
    have h1 : o₁ ≤ j ∧ j < o₁ + s₁ := h 1
    rw [if_pos ⟨h0.1, h0.2, h1.1, h1.2⟩, at2, dif_pos ⟨by omega, by omega⟩]
    congr 1
    funext d
    apply Fin.ext
    match d with
    | ⟨0, _⟩ => rfl
    | ⟨1, _⟩ => rfl
  · rename_i h
    rw [if_neg, at2, dif_pos ⟨hi, hj⟩]
    rintro ⟨a0, a1, a2, a3⟩
    refine h fun d => ?_
    match d with
    | ⟨0, _⟩ => exact ⟨a0, a1⟩
    | ⟨1, _⟩ => exact ⟨a2, a3⟩

end Cert.MlaBwd

end
-- ==== Proof.MlaBwd.Reals.lean ====
/- The attention's backward pass over the reals, and the identities that tie the two ways of computing it. -/
module

public import Idealize.ShloMosaic.PureOps.Ideal
public import Idealize.ShloMosaic.Lib.IdealHost

@[expose] public section

noncomputable section

namespace Cert.MlaBwd

open Idealize.ShloMosaic

/-- The attention's operands: queries, keys and values by row, head and lane, the output's gradient by row and lane. -/
structure Operands where
  q : ℕ → ℕ → ℕ → ℝ
  k : ℕ → ℕ → ℕ → ℝ
  v : ℕ → ℕ → ℕ → ℝ
  g : ℕ → ℕ → ℝ
  scale : ℝ

namespace Operands

variable (D : Operands)

def logit (h r c : ℕ) : ℝ :=
  ((∑ l ∈ Finset.range 64, D.q r h l * D.k c h l) + ∑ l ∈ Finset.range 32, D.q r h (64 + l) * D.k c h (64 + l)) * D.scale

/-- The softmax's denominator. -/
def mass (h r : ℕ) : ℝ := ∑ c ∈ Finset.range 8192, Real.exp (D.logit h r c)

def prob (h r c : ℕ) : ℝ := Real.exp (D.logit h r c) / D.mass h r

def out (r h d : ℕ) : ℝ := ∑ c ∈ Finset.range 8192, D.v c h d * D.prob h r c

/-- The probabilities' gradient. -/
def dprob (h r c : ℕ) : ℝ := ∑ d ∈ Finset.range 64, D.g r (64 * h + d) * D.v c h d

/-- The output's gradient times the output. -/
def delta (r h : ℕ) : ℝ := ∑ d ∈ Finset.range 64, D.g r (64 * h + d) * D.out r h d

/-- The gradient of the logits. -/
def dlogit (h r c : ℕ) : ℝ := D.prob h r c * (D.dprob h r c - D.delta r h)

/-- The three gradients, as the call scales them. -/
def dq (r h l : ℕ) : ℝ := ∑ c ∈ Finset.range 8192, D.dlogit h r c * D.k c h l
def dk (c h l : ℕ) : ℝ := ∑ r ∈ Finset.range 8192, D.q r h l * D.scale / Real.log 2 * D.dlogit h r c
def dv (c h d : ℕ) : ℝ := ∑ r ∈ Finset.range 8192, D.g r (64 * h + d) * D.prob h r c

theorem mass_pos (h r : ℕ) : 0 < D.mass h r :=
  Finset.sum_pos (fun _ _ => Real.exp_pos _) ⟨0, Finset.mem_range.mpr (by norm_num)⟩

/-- The softmax does not see a shift of all logits. -/
theorem shifted_mass (h r : ℕ) (t : ℝ) : (∑ c ∈ Finset.range 8192, Real.exp (D.logit h r c - t)) = Real.exp (-t) * D.mass h r := by
  unfold mass
  rw [Finset.mul_sum]
  refine Finset.sum_congr rfl fun c _ => ?_
  rw [← Real.exp_add]
  congr 1
  ring

theorem shifted_prob (h r c : ℕ) (t : ℝ) : Real.exp (D.logit h r c - t) / (Real.exp (-t) * D.mass h r) = D.prob h r c := by
  unfold prob
  rw [sub_eq_add_neg, Real.exp_add, mul_comm (Real.exp (-t)), mul_div_mul_right _ _ (Real.exp_pos _).ne']

/-- The denominator's logarithm, whatever the shift. -/
theorem shifted_lse (h r : ℕ) (t : ℝ) : t + Real.log (Real.exp (-t) * D.mass h r) = Real.log (D.mass h r) := by
  rw [Real.log_mul (Real.exp_pos _).ne' (D.mass_pos h r).ne', Real.log_exp]
  ring

/-- The base-two softmax from the base-two logarithm of the denominator. -/
theorem rpow_prob (h r c : ℕ) : Real.rpow 2 (D.logit h r c / Real.log 2 - Real.log (D.mass h r) / Real.log 2) = D.prob h r c := by
  have h2 : (0 : ℝ) < 2 := by norm_num
  have hl : Real.log 2 ≠ 0 := (Real.log_pos (by norm_num)).ne'
  show (2 : ℝ) ^ (_ : ℝ) = _
  rw [Real.rpow_def_of_pos h2, ← sub_div, mul_div_cancel₀ _ hl, Real.exp_sub, Real.exp_log (D.mass_pos h r)]
  rfl

/-- The mean term, summed over keys. -/
theorem delta_eq (r h : ℕ) : D.delta r h = ∑ c ∈ Finset.range 8192, D.dprob h r c * D.prob h r c := by
  unfold delta out dprob
  simp only [Finset.mul_sum, Finset.sum_mul]
  rw [Finset.sum_comm]
  refine Finset.sum_congr rfl fun c _ => Finset.sum_congr rfl fun d _ => ?_
  ring

/-- The logits' gradient the way an autodiff of the softmax writes it. -/
theorem dlogit_eq (h r c : ℕ) (t : ℝ) :
    (D.dprob h r c * (1 / (Real.exp (-t) * D.mass h r))
        + -(∑ x ∈ Finset.range 8192, D.dprob h r x * (1 / ((Real.exp (-t) * D.mass h r) * (Real.exp (-t) * D.mass h r))) * Real.exp (D.logit h r x - t)))
      * Real.exp (D.logit h r c - t) = D.dlogit h r c := by
  have hm : Real.exp (-t) * D.mass h r ≠ 0 := (mul_pos (Real.exp_pos _) (D.mass_pos h r)).ne'
  have e : ∀ x, Real.exp (D.logit h r x - t) = D.prob h r x * (Real.exp (-t) * D.mass h r) := fun x => by
    rw [← D.shifted_prob h r x t, div_mul_cancel₀ _ hm]
  have es : (∑ x ∈ Finset.range 8192, D.dprob h r x * (1 / ((Real.exp (-t) * D.mass h r) * (Real.exp (-t) * D.mass h r))) * Real.exp (D.logit h r x - t))
      = D.delta r h * (1 / (Real.exp (-t) * D.mass h r)) := by
    rw [delta_eq, Finset.sum_mul]
    refine Finset.sum_congr rfl fun x _ => ?_
    rw [e x]
    field_simp
  rw [es, e c]
  unfold dlogit
  generalize Real.exp (-t) * D.mass h r = z at hm
  field_simp
  ring

end Operands

/-- A sum over a head's padded lanes is the two parts' sums. -/
theorem sum_padded (a b : ℕ → ℝ) :
    (∑ l ∈ Finset.range 128, (if l < 96 then a l else 0) * (if l < 96 then b l else 0))
      = (∑ l ∈ Finset.range 64, a l * b l) + ∑ l ∈ Finset.range 32, a (64 + l) * b (64 + l) := by
  rw [show (128 : ℕ) = 64 + 32 + 32 from rfl, Finset.sum_range_add, Finset.sum_range_add]
  have h0 : (∑ l ∈ Finset.range 32, (if 64 + 32 + l < 96 then a (64 + 32 + l) else 0) * (if 64 + 32 + l < 96 then b (64 + 32 + l) else 0)) = 0 :=
    Finset.sum_eq_zero fun l _ => by rw [if_neg (by omega), zero_mul]
  rw [h0, add_zero]
  refine congrArg₂ (· + ·) (Finset.sum_congr rfl fun l hl => ?_) (Finset.sum_congr rfl fun l hl => ?_) <;>
    (have := Finset.mem_range.mp hl; rw [if_pos (by omega), if_pos (by omega)])

/-! ## Sums, quotients and maxima of reals among the extended reals -/

theorem coe_sum (s : Finset ℕ) (f : ℕ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_fin {n : ℕ} (f : Fin n → EReal) (g : ℕ → ℝ) (h : ∀ i : Fin n, f i = (g i.val : EReal)) :
    (∑ i, f i) = ((∑ i ∈ Finset.range n, g i : ℝ) : EReal) := by
  rw [coe_sum, ← Fin.sum_univ_eq_sum_range (fun i => (g i : EReal)) n]
  exact Finset.sum_congr rfl fun i _ => h i

theorem sum_range_coe {n : ℕ} (f : ℕ → EReal) (g : ℕ → ℝ) (h : ∀ i < n, f i = (g i : EReal)) :
    (∑ i ∈ Finset.range n, f i) = ((∑ i ∈ Finset.range n, g i : ℝ) : EReal) := by
  rw [coe_sum]
  exact Finset.sum_congr rfl fun i hi => h i (Finset.mem_range.mp hi)

theorem div_real {y : ℝ} (hy : y ≠ 0) (x : ℝ) : Ideal.div (x : EReal) (y : EReal) = ((x / y : ℝ) : EReal) := by
  rw [Ideal.div_coe hy, ← EReal.coe_mul, mul_one_div]

theorem sub_real (x y : ℝ) : (x : EReal) - (y : EReal) = ((x - y : ℝ) : EReal) := (EReal.coe_sub x y).symm

theorem log_real {y : ℝ} (hy : 0 < y) : Ideal.log (y : EReal) = (Real.log y : EReal) := by
  rw [Ideal.log_coe, if_neg (not_le.mpr hy)]

/-- The largest of finitely many reals is a real. -/
theorem fold_max_real {n : ℕ} (hn : 0 < n) (f : Fin n → EReal) (h : ∀ i, ∃ s : ℝ, f i = (s : EReal)) :
    ∃ t : ℝ, Finset.fold max (⊥ : EReal) f Finset.univ = (t : EReal) := by
  classical
  have key : ∀ s : Finset (Fin n), (s = ∅ ∧ Finset.fold max (⊥ : EReal) f s = ⊥) ∨ ∃ t : ℝ, Finset.fold max (⊥ : EReal) f s = (t : EReal) := by
    intro s
    induction s using Finset.induction_on with
    | empty => exact Or.inl ⟨rfl, rfl⟩
    | insert a s ha ih =>
      right
      obtain ⟨u, hu⟩ := h a
      rw [Finset.fold_insert ha, hu]
      rcases ih with ⟨_, e⟩ | ⟨t, e⟩
      · exact ⟨u, by rw [e, max_eq_left bot_le]⟩
      · exact ⟨max u t, by rw [e]; exact (EReal.coe_strictMono.monotone.map_max).symm⟩
  rcases key Finset.univ with ⟨e, _⟩ | e
  · exact absurd e (Finset.ne_empty_of_mem (Finset.mem_univ (⟨0, hn⟩ : Fin n)))
  · exact e

/-! ## The literals -/

theorem negInf_f32 : Ideal.ofBits .f32 0xFF800000#32 = ⊥ := by
  simp [Ideal.ofBits, Ideal.ieee]

/-- The zero of the padded lanes. -/
theorem pad_zero : FloatOps.sitofp (F := Ideal) .f32 (0#32 : BitVec 32) = ((0 : ℝ) : EReal) := by
  simp [FloatOps.sitofp]

theorem one_f32 : Ideal.ofBits .f32 0x3F800000#32 = ((1 : ℝ) : EReal) := by
  simp [Ideal.ofBits, Ideal.ieee, -EReal.coe_mul]; norm_num

theorem posInf_f32 : Ideal.ofBits .f32 0x7F800000#32 = ⊤ := by
  simp [Ideal.ofBits, Ideal.ieee]

theorem two_f32 : Ideal.ofBits .f32 0x40000000#32 = ((2 : ℝ) : EReal) := by
  simp [Ideal.ofBits, Ideal.ieee, -EReal.coe_mul]; norm_num

theorem scale_f32 : ∃ s : ℝ, Ideal.ofBits .f32 0x3DD105EC#32 = (s : EReal) ∧ s ≠ 0 := by
  refine ⟨13698540 / 134217728, ?_, by norm_num⟩
  simp [Ideal.ofBits, Ideal.ieee, -EReal.coe_mul]; norm_num

theorem log_two_f32 : Ideal.log (Ideal.ofBits .f32 0x40000000#32) = (Real.log 2 : EReal) := by
  rw [two_f32, log_real (by norm_num)]

end Cert.MlaBwd

end
-- ==== Proof.MlaBwd.Are.lean ====
/- The arguments as reals. -/
module

public import proofs.«01_k».proof.Proof.MlaBwd.Nat
public import proofs.«01_k».proof.Proof.MlaBwd.Reals

@[expose] public section

noncomputable section

namespace Cert.MlaBwd

open Idealize.ShloMosaic

/-- The arguments are these reals. -/
structure Operands.Are (D : Operands) (x0 x1 : (⟨3, ![8192, 8, 96]⟩ : Shape).Idx → EReal) (x2 : (⟨3, ![8192, 8, 64]⟩ : Shape).Idx → EReal)
    (x3 : (⟨2, ![8192, 512]⟩ : Shape).Idx → EReal) : Prop where
  q : ∀ (r : Fin 8192) (h : Fin 8) (l : Fin 96), x0 (ix3 r h l) = (D.q r.val h.val l.val : EReal)
  k : ∀ (r : Fin 8192) (h : Fin 8) (l : Fin 96), x1 (ix3 r h l) = (D.k r.val h.val l.val : EReal)
  v : ∀ (r : Fin 8192) (h : Fin 8) (d : Fin 64), x2 (ix3 r h d) = (D.v r.val h.val d.val : EReal)
  g : ∀ (r : Fin 8192) (l : Fin 512), x3 (ix2 r l) = (D.g r.val l.val : EReal)
  scale : Ideal.ofBits .f32 0x3DD105EC#32 = (D.scale : EReal)
  scale_ne : D.scale ≠ 0

/-- Arrays with no infinite element are reals. -/
theorem exists_are {x0 x1 : (⟨3, ![8192, 8, 96]⟩ : Shape).Idx → EReal} {x2 : (⟨3, ![8192, 8, 64]⟩ : Shape).Idx → EReal} {x3 : (⟨2, ![8192, 512]⟩ : Shape).Idx → EReal}
    (h0 : ∀ i, ∃ s : ℝ, x0 i = (s : EReal)) (h1 : ∀ i, ∃ s : ℝ, x1 i = (s : EReal)) (h2 : ∀ i, ∃ s : ℝ, x2 i = (s : EReal)) (h3 : ∀ i, ∃ s : ℝ, x3 i = (s : EReal)) :
    ∃ D : Operands, D.Are x0 x1 x2 x3 := by
  obtain ⟨s, hs, hn⟩ := scale_f32
  have key : ∀ e : EReal, (∃ s : ℝ, e = (s : EReal)) → e = (e.toReal : EReal) := by
    rintro _ ⟨s, rfl⟩
    rw [EReal.toReal_coe]
  refine ⟨⟨fun r h l => (at3 x0 r h l).toReal, fun r h l => (at3 x1 r h l).toReal, fun r h l => (at3 x2 r h l).toReal, fun r l => (at2 x3 r l).toReal, s⟩, ?_, ?_, ?_, ?_, hs, hn⟩
  · exact fun r h l => (key _ (h0 _)).trans (congrArg (fun e : EReal => (e.toReal : EReal)) (at3_ix x0 r h l))
  · exact fun r h l => (key _ (h1 _)).trans (congrArg (fun e : EReal => (e.toReal : EReal)) (at3_ix x1 r h l))
  · exact fun r h l => (key _ (h2 _)).trans (congrArg (fun e : EReal => (e.toReal : EReal)) (at3_ix x2 r h l))
  · exact fun r l => (key _ (h3 _)).trans (congrArg (fun e : EReal => (e.toReal : EReal)) (at2_ix x3 r l))

/-! ## Sums of products of reals -/

theorem sum_mul_real {n : ℕ} {f g : Fin n → EReal} (a b : ℕ → ℝ) (hf : ∀ i : Fin n, f i = (a i.val : EReal)) (hg : ∀ i : Fin n, g i = (b i.val : EReal)) :
    (∑ i, f i * g i) = ((∑ i ∈ Finset.range n, a i * b i : ℝ) : EReal) :=
  sum_fin _ (fun i => a i * b i) fun i => by rw [hf, hg, EReal.coe_mul]

end Cert.MlaBwd

end
-- ==== Proof.MlaBwd.Finite.lean ====
/- What the precondition says: no element of an argument is infinite, so the arguments are reals. -/
module

public import proofs.«01_k».proof.Defs
public import proofs.«01_k».proof.Proof.Gen.Pre_finite
public import Idealize.ShloMosaic.Lib.ReduceAll
public import proofs.«01_k».proof.Proof.MlaBwd.Are

@[expose] public section

set_option maxRecDepth 16384
set_option maxHeartbeats 1000000

noncomputable section

namespace Cert.MlaBwd

open Idealize.ShloMosaic Idealize.SL.Sem

/-- A comparison with infinity that holds everywhere. -/
theorem real_of_all {s t u : Shape} {axes : List (Fin s.rank)} [Subsingleton t.Idx] (x b : FVec Ideal s .f32) (init : u.Idx → BitVec 1) (h : s.ReducesTo axes t)
    (hu : 0 < u.numel) (j : t.Idx) (hb : ∀ i, b i = ⊤) (e : Host.reduce IntOp.andi (cmpf .olt (Host.absf x) b) init h hu j = 1#1) (i : s.Idx) :
    ∃ r : ℝ, x i = (r : EReal) := by
  have e1 := Host.reduce_andi_all _ _ _ _ j e i
  have e2 : Ideal.cmp .olt (max (x i) (-(x i))) (b i) = 1#1 := e1
  rw [hb i] at e2
  generalize x i = y at e2
  induction y using EReal.rec with
  | bot => exact absurd e2 (by simp [Ideal.cmp])
  | coe r => exact ⟨r, rfl⟩
  | top => exact absurd e2 (by simp [Ideal.cmp])

instance : Subsingleton Cert.Pre_finite.S_.Idx := ⟨fun a b => funext fun d => d.elim0⟩

/-- The conjunction of the four arguments' checks, taken apart. -/
theorem real_args (x0 x1 : FVec Ideal Cert.Pre_finite.S8192x8x96 .f32) (x2 : FVec Ideal Cert.Pre_finite.S8192x8x64 .f32) (x3 : FVec Ideal Cert.Pre_finite.S8192x512 .f32)
    (h : Cert.Pre_finite.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ ∀ i, ∃ r : ℝ, x3 i = (r : EReal) := by
  have j : Cert.Pre_finite.S_.Idx := fun d => d.elim0
  have e := congrFun h j
  unfold Cert.Pre_finite.fn Cert.Pre_finite.fn_part1 at e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ j (fun i => posInf_f32) e0, real_of_all _ _ _ _ _ j (fun i => posInf_f32) e1,
    real_of_all _ _ _ _ _ j (fun i => posInf_f32) e2, real_of_all _ _ _ _ _ j (fun i => posInf_f32) e3⟩

end Cert.MlaBwd

end
-- ==== Proof.MlaBwd.Step.lean ====
/- What one grid point of the attention's backward call computes, as plain functions of the blocks it is given and of
   the three accumulators it carries: no memory in them. -/
module

public import proofs.«01_k».proof.Proof.Gen.KernelIdeal.Skeleton
public import Idealize.ShloMosaic.Lib.VecWindow

@[expose] public section

set_option maxRecDepth 16384

noncomputable section

namespace Cert.MlaBwd

open Idealize.ShloMosaic Idealize.SL.Sem Cert.KernelIdeal Cert.KernelIdeal.Gen
open VecWindow (window put)

variable {F : FTy → Type} [FloatOps F]

/-- The eight blocks a point reads. -/
structure Blocks (F : FTy → Type) [FloatOps F] where
  q : Vec F S1024x256 .bf16
  k : Vec F S2048x256 .bf16
  v : Vec F S2048x128 .bf16
  qT : Vec F S256x1024 .bf16
  dO : Vec F S1024x128 .bf16
  doT : Vec F S128x1024 .bf16
  lse : Vec F S1x1024x2 .f32
  dcol : Vec F S1x1024x2 .f32

/-- The three accumulators carried from point to point: the queries' gradient of a pair of heads, and the transposed
    gradients of one block of keys and of values. -/
structure Acc (F : FTy → Type) [FloatOps F] where
  dq : Vec F S8192x256 .f32
  dkt : Vec F S256x2048 .f32
  dvt : Vec F S128x2048 .f32

namespace Blocks

variable (b : Blocks F)

/-- The whole of the values' block and of the outputs' gradient's, as the body loads them. -/
def vAll : Vec F S2048x128 .bf16 := window b.v ![0, 0] S2048x128.size inb_S2048x128_S2048x128_0_0
def dOAll : Vec F S1024x128 .bf16 := window b.dO ![0, 0] S1024x128.size inb_S1024x128_S1024x128_0_0
/-- The pair's first head: its queries, keys, row maxima and row sums. -/
def qA : Vec F S1024x128 .bf16 := window b.q ![0, 0] S1024x128.size inb_S1024x256_S1024x128_0_0
def kA : Vec F S2048x128 .bf16 := window b.k ![0, 0] S2048x128.size inb_S2048x256_S2048x128_0_0
def lseA : Vec F S1x1024x1 .f32 := window b.lse ![0, 0, 0] S1x1024x1.size inb_S1x1024x2_S1x1024x1_0_0_0
def dcolA : Vec F S1x1024x1 .f32 := window b.dcol ![0, 0, 0] S1x1024x1.size inb_S1x1024x2_S1x1024x1_0_0_0
def doTA : Vec F S64x1024 .bf16 := window b.doT ![0, 0] S64x1024.size inb_S128x1024_S64x1024_0_0
def qTA : Vec F S128x1024 .bf16 := window b.qT ![0, 0] S128x1024.size inb_S256x1024_S128x1024_0_0
/-- The pair's second head. -/
def qB : Vec F S1024x128 .bf16 := window b.q ![0, 128] S1024x128.size inb_S1024x256_S1024x128_0_128
def kB : Vec F S2048x128 .bf16 := window b.k ![0, 128] S2048x128.size inb_S2048x256_S2048x128_0_128
def lseB : Vec F S1x1024x1 .f32 := window b.lse ![0, 0, 1] S1x1024x1.size inb_S1x1024x2_S1x1024x1_0_0_1
def dcolB : Vec F S1x1024x1 .f32 := window b.dcol ![0, 0, 1] S1x1024x1.size inb_S1x1024x2_S1x1024x1_0_0_1
def doTB : Vec F S64x1024 .bf16 := window b.doT ![64, 0] S64x1024.size inb_S128x1024_S64x1024_64_0
def qTB : Vec F S128x1024 .bf16 := window b.qT ![128, 0] S128x1024.size inb_S256x1024_S128x1024_128_0

/-- The first head's probabilities. -/
def pA : FVec F S1024x2048 .f32 := k0_pay13 b.qA b.kA b.lseA

/-- The values' gradient with the first head's rows updated, then the second head's. -/
def dvt1 (d : Vec F S128x2048 .f32) : Vec F S128x2048 .f32 :=
  put d ![0, 0] S64x2048.size (k0_pay14 b.pA (window d ![0, 0] S64x2048.size inb_S128x2048_S64x2048_0_0) b.doTA)
def dvt2 (d : Vec F S128x2048 .f32) : Vec F S128x2048 .f32 :=
  put (b.dvt1 d) ![64, 0] S64x2048.size
    (k0_pay22 (k0_pay18 b.qB) (k0_pay19 b.kB) b.lseB (window d ![64, 0] S64x2048.size inb_S128x2048_S64x2048_64_0) b.doTB)

/-- The queries' gradient likewise, at the rows of the point's query block. -/
def dq1 (i : grid0.Coords) (d : Vec F S8192x256 .f32) : Vec F S8192x256 .f32 :=
  put d (k0_off1 i) S1024x128.size
    (k0_pay16 (k0_pay10 b.vAll) (k0_pay11 b.kA) (k0_pay12 b.dOAll) b.pA b.dcolA (window d (k0_off1 i) S1024x128.size (k0_off1_inb i)))
def dq2 (i : grid0.Coords) (d : Vec F S8192x256 .f32) : Vec F S8192x256 .f32 :=
  put (b.dq1 i d) (k0_off2 i) S1024x128.size
    (k0_pay24 (k0_pay9 b.dOAll) (k0_pay10 b.vAll) (k0_pay18 b.qB) (k0_pay19 b.kB) (k0_pay20 k0_pay8) b.lseB b.dcolB
      (window d (k0_off2 i) S1024x128.size (k0_off2_inb i)))

/-- The keys' gradient likewise. -/
def dkt1 (d : Vec F S256x2048 .f32) : Vec F S256x2048 .f32 :=
  put d ![0, 0] S128x2048.size
    (k0_pay17 (k0_pay10 b.vAll) (k0_pay12 b.dOAll) b.pA b.dcolA (window d ![0, 0] S128x2048.size inb_S256x2048_S128x2048_0_0) b.qTA)
def dkt2 (d : Vec F S256x2048 .f32) : Vec F S256x2048 .f32 :=
  put (b.dkt1 d) ![128, 0] S128x2048.size
    (k0_pay1 (k0_pay23 (k0_pay9 b.dOAll) (k0_pay10 b.vAll) (k0_pay18 b.qB) (k0_pay19 b.kB) (k0_pay20 k0_pay8) b.lseB b.dcolB)
      (window d ![128, 0] S128x2048.size inb_S256x2048_S128x2048_128_0) (k0_pay25 b.qTB))

/-- One point's update of the three accumulators. -/
def step (i : grid0.Coords) (a : Acc F) : Acc F := ⟨b.dq2 i a.dq, b.dkt2 a.dkt, b.dvt2 a.dvt⟩

end Blocks

/-- The first point of a pair of heads, the first and the last of a block of keys, and the last point of a pair. -/
abbrev firstOfPair (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev firstOfKeys (i : grid0.Coords) : Prop := (Scalar.cmpi .ne (Scalar.extui (Scalar.cmpi .eq (BitVec.ofNat 32 (i 2).val) 0#32)) 0#32) = 1#1
abbrev lastOfKeys (i : grid0.Coords) : Prop := k0_cond3 i = 1#1
abbrev lastOfPair (i : grid0.Coords) : Prop := k0_cond4 i = 1#1

/-- The accumulators a point starts from: zeroed where it is the first of what they accumulate. -/
def start (i : grid0.Coords) (a : Acc F) : Acc F where
  dq := if firstOfPair i then k0_pay5 else a.dq
  dkt := if firstOfKeys i then k0_pay6 else a.dkt
  dvt := if firstOfKeys i then k0_pay7 else a.dvt

/-- The accumulators a point leaves. -/
def next (i : grid0.Coords) (b : Blocks F) (a : Acc F) : Acc F := b.step i (start i a)

/-- The point's query rows: the two heads' windows of the accumulator, in closed form. -/
theorem off1_eq (i : grid0.Coords) : k0_off1 i = ![1024 * (i 2).val, 0] := by
  have h : (i 2).val < 8 := (i 2).isLt
  unfold k0_off1
  generalize (i 2).val = n at h
  obtain ⟨n, rfl⟩ : ∃ r : Fin 8, r.val = n := ⟨⟨n, h⟩, rfl⟩
  revert n
  decide +kernel

theorem off2_eq (i : grid0.Coords) : k0_off2 i = ![1024 * (i 2).val, 128] := by
  have h : (i 2).val < 8 := (i 2).isLt
  unfold k0_off2
  generalize (i 2).val = n at h
  obtain ⟨n, rfl⟩ : ∃ r : Fin 8, r.val = n := ⟨⟨n, h⟩, rfl⟩
  revert n
  decide +kernel

end Cert.MlaBwd

end
-- ==== Proof.MlaBwd.Heads.lean ====
/- What one grid point computes, read at an index, the floats being extended reals: of each of the pair's two heads the
   probabilities and the logits' gradients of one block, and the three accumulators' updates as sums of products. -/
module

public import proofs.«01_k».proof.Proof.MlaBwd.Step
public import proofs.«01_k».proof.Proof.MlaBwd.Nat

@[expose] public section

set_option maxRecDepth 16384

noncomputable section

namespace Cert.MlaBwd

open Idealize.ShloMosaic Idealize.ShloMosaic.TcCoe Idealize.SL.Sem Cert.KernelIdeal Cert.KernelIdeal.Gen
open VecWindow (window put)

namespace Blocks

variable (b : Blocks Ideal)

/-- The probability of key `c` for query `r` of the pair's head `h`: two to the logit less the row's log-sum. -/
def prob (h r c : ℕ) : EReal :=
  Ideal.exp2 ((∑ l ∈ Finset.range 128, at2 b.q r (128 * h + l) * at2 b.k c (128 * h + l)) - at3 b.lse 0 r h)

/-- The probability's gradient: the output's gradient of the row against the key's values. -/
def dprob (h r c : ℕ) : EReal := ∑ d ∈ Finset.range 64, at2 b.dO r (64 * h + d) * at2 b.v c (64 * h + d)

/-- The logit's gradient. -/
def dlogit (h r c : ℕ) : EReal := b.prob h r c * (b.dprob h r c - at3 b.dcol 0 r h)

/-- A sum over the first half of the lanes alone, and over the second, as the masks make them. -/
theorem sum_low (f : ℕ → EReal) :
    (∑ x : Fin 128, Scalar.select (IntOp.cmpi CmpIPredicate.slt (BitVec.ofNat 32 x.val) 64#32) (f x.val) (0 : EReal)) = ∑ k ∈ Finset.range 64, f k := by
  have h : ∀ x : Fin 128, IntOp.cmpi CmpIPredicate.slt (BitVec.ofNat 32 x.val) 64#32 = if x.val < 64 then 1#1 else 0#1 := by
    decide +kernel
  have h' : ∀ x : Fin 128, Scalar.select (IntOp.cmpi CmpIPredicate.slt (BitVec.ofNat 32 x.val) 64#32) (f x.val) (0 : EReal) = if x.val < 64 then f x.val else 0 := by
    intro x; rw [h]; split <;> rfl
  rw [Finset.sum_congr rfl fun x _ => h' x, ← Finset.sum_range (fun x => if x < 64 then f x else 0), show (128 : ℕ) = 64 + 64 from rfl, Finset.sum_range_add]
  rw [Finset.sum_congr rfl fun k hk => if_pos (Finset.mem_range.mp hk), Finset.sum_eq_zero fun k _ => if_neg (show ¬ 64 + k < 64 by omega), add_zero]

theorem sum_high (f : ℕ → EReal) :
    (∑ x : Fin 128, Scalar.select (IntOp.xori (IntOp.cmpi CmpIPredicate.slt (BitVec.ofNat 32 x.val) 64#32) 1#1) (f x.val) (0 : EReal)) = ∑ k ∈ Finset.range 64, f (64 + k) := by
  have h : ∀ x : Fin 128, IntOp.xori (IntOp.cmpi CmpIPredicate.slt (BitVec.ofNat 32 x.val) 64#32) 1#1 = if x.val < 64 then 0#1 else 1#1 := by
    decide +kernel
  have h' : ∀ x : Fin 128, Scalar.select (IntOp.xori (IntOp.cmpi CmpIPredicate.slt (BitVec.ofNat 32 x.val) 64#32) 1#1) (f x.val) (0 : EReal) = if x.val < 64 then 0 else f x.val := by
    intro x; rw [h]; split <;> rfl
  rw [Finset.sum_congr rfl fun x _ => h' x, ← Finset.sum_range (fun x => if x < 64 then 0 else f x), show (128 : ℕ) = 64 + 64 from rfl, Finset.sum_range_add]
  rw [Finset.sum_eq_zero fun k hk => if_pos (Finset.mem_range.mp hk), zero_add]
  exact Finset.sum_congr rfl fun k _ => if_neg (show ¬ 64 + k < 64 by omega)

theorem kB_ix (c : Fin 2048) (l : Fin 128) : k0_pay19 b.kB (ix2 c l) = at2 b.k c.val (128 + l.val) := by
  pointwise [k0_pay19, kB, window_ix2]

theorem probA (r : Fin 1024) (c : Fin 2048) : b.pA (ix2 r c) = b.prob 0 r c := by
  unfold pA prob
  pointwise [k0_pay13, k0_pay11, qA, kA, lseA, window_ix2, window_ix3]
  simp only [Finset.sum_range]
  rfl

theorem probB (r : Fin 1024) (c : Fin 2048) : k0_pay21 (k0_pay18 b.qB) (k0_pay19 b.kB) b.lseB (ix2 r c) = b.prob 1 r c := by
  unfold prob
  pointwise [k0_pay21, k0_pay18, k0_pay19, qB, kB, lseB, window_ix2, window_ix3]
  simp only [Finset.sum_range]
  rfl

theorem dsA (r : Fin 1024) (c : Fin 2048) :
    k0_pay15 (k0_pay10 b.vAll) (k0_pay12 b.dOAll) b.pA b.dcolA (ix2 r c) = b.dlogit 0 r c := by
  unfold dlogit dprob
  pointwise [k0_pay15, k0_pay12, k0_pay8, k0_pay9, k0_pay10, vAll, dOAll, dcolA, probA, window_ix2, window_ix3]
  rw [← sum_low]

theorem dsB (r : Fin 1024) (c : Fin 2048) :
    k0_pay23 (k0_pay9 b.dOAll) (k0_pay10 b.vAll) (k0_pay18 b.qB) (k0_pay19 b.kB) (k0_pay20 k0_pay8) b.lseB b.dcolB (ix2 r c) = b.dlogit 1 r c := by
  unfold dlogit dprob
  pointwise [k0_pay23, k0_pay20, k0_pay8, k0_pay9, k0_pay10, vAll, dOAll, dcolB, probB, window_ix2, window_ix3]
  rw [← sum_high (fun x => at2 b.dO r.val x * at2 b.v c.val x)]

/-- The values' gradient: each row gains the output's gradient times the probabilities of the row's head. -/
theorem at2_dvt (d : Vec Ideal S128x2048 .f32) {a c : ℕ} (ha : a < 128) (hc : c < 2048) :
    at2 (b.dvt2 d) a c = at2 d a c + ∑ r ∈ Finset.range 1024, at2 b.doT a r * b.prob (a / 64) r c := by
  unfold dvt2 dvt1
  rw [at2_put _ _ ha hc, at2_put _ _ ha hc]
  by_cases h : a < 64
  · rw [if_neg (by omega), if_pos (by omega), show a / 64 = 0 by omega, Nat.sub_zero, Nat.sub_zero]
    obtain ⟨a, rfl⟩ : ∃ r : Fin 64, r.val = a := ⟨⟨a, h⟩, rfl⟩
    obtain ⟨c, rfl⟩ : ∃ r : Fin 2048, r.val = c := ⟨⟨c, hc⟩, rfl⟩
    rw [← at2_ix]
    pointwise [k0_pay14, doTA, window_ix2, probA]
    simp only [zero_add, Finset.sum_range]
  · rw [if_pos (by omega), show a / 64 = 1 by omega, Nat.sub_zero]
    obtain ⟨a, rfl⟩ : ∃ r : Fin 64, r.val + 64 = a := ⟨⟨a - 64, by omega⟩, by show a - 64 + 64 = a; omega⟩
    obtain ⟨c, rfl⟩ : ∃ r : Fin 2048, r.val = c := ⟨⟨c, hc⟩, rfl⟩
    rw [Nat.add_sub_cancel, ← at2_ix]
    pointwise [k0_pay22, doTB, window_ix2, probB]
    simp only [zero_add, Finset.sum_range, Nat.add_comm 64]

/-- The keys' gradient: each row gains the queries times the logits' gradients of the row's head. -/
theorem at2_dkt (d : Vec Ideal S256x2048 .f32) {a c : ℕ} (ha : a < 256) (hc : c < 2048) :
    at2 (b.dkt2 d) a c = at2 d a c + ∑ r ∈ Finset.range 1024, at2 b.qT a r * b.dlogit (a / 128) r c := by
  unfold dkt2 dkt1
  rw [at2_put _ _ ha hc, at2_put _ _ ha hc]
  by_cases h : a < 128
  · rw [if_neg (by omega), if_pos (by omega), show a / 128 = 0 by omega, Nat.sub_zero, Nat.sub_zero]
    obtain ⟨a, rfl⟩ : ∃ r : Fin 128, r.val = a := ⟨⟨a, h⟩, rfl⟩
    obtain ⟨c, rfl⟩ : ∃ r : Fin 2048, r.val = c := ⟨⟨c, hc⟩, rfl⟩
    rw [← at2_ix]
    pointwise [k0_pay17, qTA, window_ix2, dsA]
    simp only [zero_add, Finset.sum_range]
  · rw [if_pos (by omega), show a / 128 = 1 by omega, Nat.sub_zero]
    obtain ⟨a, rfl⟩ : ∃ r : Fin 128, r.val + 128 = a := ⟨⟨a - 128, by omega⟩, by show a - 128 + 128 = a; omega⟩
    obtain ⟨c, rfl⟩ : ∃ r : Fin 2048, r.val = c := ⟨⟨c, hc⟩, rfl⟩
    rw [Nat.add_sub_cancel, ← at2_ix]
    pointwise [k0_pay1, k0_pay25, qTB, window_ix2, dsB]
    simp only [zero_add, Finset.sum_range, Nat.add_comm 128]

/-- The queries' gradient: each row of the point's query block gains the logits' gradients of the lane's head times the keys. -/
theorem at2_dq (i : grid0.Coords) (d : Vec Ideal S8192x256 .f32) {R l : ℕ} (hR : R < 8192) (hl : l < 256) :
    at2 (b.dq2 i d) R l = at2 d R l + (if 1024 * (i 2).val ≤ R ∧ R < 1024 * (i 2).val + 1024 then
      ∑ c ∈ Finset.range 2048, b.dlogit (l / 128) (R - 1024 * (i 2).val) c * at2 b.k c l else 0) := by
  have hi : (i 2).val < 8 := (i 2).isLt
  unfold dq2 dq1
  have e1 := off1_eq i
  have e2 := off2_eq i
  simp only [e1, e2]
  generalize (i 2).val = n at *
  rw [at2_put _ _ hR hl, at2_put _ _ hR hl]
  by_cases hr : 1024 * n ≤ R ∧ R < 1024 * n + 1024
  · rw [if_pos hr]
    obtain ⟨r, rfl⟩ : ∃ r : Fin 1024, 1024 * n + r.val = R := ⟨⟨R - 1024 * n, by omega⟩, by show 1024 * n + (R - 1024 * n) = R; omega⟩
    rw [Nat.add_sub_cancel_left]
    by_cases h : l < 128
    · rw [if_neg (by omega), if_pos (by omega), show l / 128 = 0 by omega, Nat.sub_zero]
      obtain ⟨l, rfl⟩ : ∃ r : Fin 128, r.val = l := ⟨⟨l, h⟩, rfl⟩
      rw [← at2_ix]
      pointwise [k0_pay16, k0_pay11, kA, window_ix2, dsA]
      rw [window_of e1]
      simp only [zero_add, Finset.sum_range]
    · rw [if_pos (by omega), show l / 128 = 1 by omega]
      obtain ⟨l, rfl⟩ : ∃ r : Fin 128, r.val + 128 = l := ⟨⟨l - 128, by omega⟩, by show l - 128 + 128 = l; omega⟩
      rw [Nat.add_sub_cancel, ← at2_ix]
      pointwise [k0_pay24, kB_ix, dsB]
      rw [window_of e2]
      simp only [Finset.sum_range, Nat.add_comm 128]
  · rw [if_neg hr, if_neg (by omega), if_neg (by omega), add_zero]

end Blocks

end Cert.MlaBwd

end
-- ==== Proof.MlaBwd.Stores.lean ====
/- What two stores leave in a buffer, and what a load then reads: the shapes of the attention's backward accumulators,
   each of which a point updates in two windows. -/
module

public import Idealize.ShloMosaic.Lib.VecWindow

@[expose] public section

noncomputable section

namespace Cert.MlaBwd

open Idealize.ShloMosaic
open VecWindow (window put)

theorem put_congr {s : Shape} {α : Type} {x x' : s.Idx → α} (off size : Fin s.rank → ℕ) {w w' : ((a : Fin s.rank) → Fin (size a)) → α}
    (hx : x = x') (hw : w = w') : put x off size w = put x' off size w' := by rw [hx, hw]

/-- Two windows that cover the buffer leave nothing of what was under them. -/
theorem put_put_cover {s : Shape} {α : Type} (x x' : s.Idx → α) (off size off' size' : Fin s.rank → ℕ)
    (w : ((a : Fin s.rank) → Fin (size a)) → α) (w' : ((a : Fin s.rank) → Fin (size' a)) → α)
    (h : ∀ y : s.Idx, (∀ a, off a ≤ (y a).val ∧ (y a).val < off a + size a) ∨ (∀ a, off' a ≤ (y a).val ∧ (y a).val < off' a + size' a)) :
    put (put x off size w) off' size' w' = put (put x' off size w) off' size' w' := by
  funext y
  unfold put
  by_cases h' : ∀ a, off' a ≤ (y a).val ∧ (y a).val < off' a + size' a
  · rw [dif_pos h', dif_pos h']
  · rw [dif_neg h', dif_neg h']
    have h1 := (h y).resolve_right h'
    rw [dif_pos h1, dif_pos h1]

variable {sig : RefSig} {κ : Kind} {sp : Space} {s : Shape} {e : EltTy} {Val : EltTy → Type}

/-- Two stores over the contents `f`. -/
theorem read_two (v : View sig κ sp s e) (f : v.ty.Contents Val) (off size off' size' : Fin s.rank → ℕ)
    (inb : ∀ a, off a + size a ≤ s.size a) (inb' : ∀ a, off' a + size' a ≤ s.size a)
    (w : (Rect.unit off size inb).shape.Idx → Val e) (w' : (Rect.unit off' size' inb').shape.Idx → Val e) :
    v.read Val (v.writes Val f [⟨Rect.unit off' size' inb', w'⟩, ⟨Rect.unit off size inb, w⟩])
      = put (put (v.read Val f) off size w) off' size' w' := by
  rw [View.read_writes_cons_put _ _ _ _ _ rfl, View.read_writes_cons_put _ _ _ _ _ rfl, View.writes_nil]

/-- Two stores over a store of the whole buffer. -/
theorem read_three (v : View sig κ sp s e) (f : v.ty.Contents Val) (off size off' size' off₀ : Fin s.rank → ℕ)
    (inb : ∀ a, off a + size a ≤ s.size a) (inb' : ∀ a, off' a + size' a ≤ s.size a) (inb₀ : ∀ a, off₀ a + s.size a ≤ s.size a)
    (w : (Rect.unit off size inb).shape.Idx → Val e) (w' : (Rect.unit off' size' inb').shape.Idx → Val e) (w₀ : (Rect.unit off₀ s.size inb₀).shape.Idx → Val e) :
    v.read Val (v.writes Val f [⟨Rect.unit off' size' inb', w'⟩, ⟨Rect.unit off size inb, w⟩, ⟨Rect.unit off₀ s.size inb₀, w₀⟩])
      = put (put w₀ off size w) off' size' w' := by
  rw [View.read_writes_cons_put _ _ _ _ _ rfl, View.read_writes_cons_put _ _ _ _ _ rfl, View.read_writes_full]

/-- A load after a store of the whole buffer. -/
theorem load_init (v : View sig κ sp s e) (f : v.ty.Contents Val) (off size off₀ : Fin s.rank → ℕ)
    (inb : ∀ a, off a + size a ≤ s.size a) (inb₀ : ∀ a, off₀ a + s.size a ≤ s.size a) (w₀ : (Rect.unit off₀ s.size inb₀).shape.Idx → Val e) :
    v.readAt Val (Rect.unit off size inb).toLoadRect (v.writes Val f [⟨Rect.unit off₀ s.size inb₀, w₀⟩]) = window w₀ off size inb := by
  rw [View.readAt_unit _ _ _ rfl inb, View.read_writes_full]

/-- A load of a window beside the one stored since. -/
theorem load_beside (v : View sig κ sp s e) (f : v.ty.Contents Val) (off size off' size' off₀ : Fin s.rank → ℕ)
    (inb : ∀ a, off a + size a ≤ s.size a) (inb' : ∀ a, off' a + size' a ≤ s.size a) (inb₀ : ∀ a, off₀ a + s.size a ≤ s.size a)
    (w : (Rect.unit off size inb).shape.Idx → Val e) (w₀ : (Rect.unit off₀ s.size inb₀).shape.Idx → Val e)
    (a : Fin s.rank) (h : off' a + size' a ≤ off a ∨ off a + size a ≤ off' a) :
    v.readAt Val (Rect.unit off' size' inb').toLoadRect (v.writes Val f [⟨Rect.unit off size inb, w⟩, ⟨Rect.unit off₀ s.size inb₀, w₀⟩])
      = window w₀ off' size' inb' := by
  rw [View.readAt_unit _ _ _ rfl inb', View.read_writes_cons_put _ _ _ _ _ rfl, View.read_writes_full]
  exact VecWindow.window_put_of_disjoint _ _ _ _ _ _ _ a h

/-- A load of the whole buffer after two stores. -/
theorem load_two (v : View sig κ sp s e) (f : v.ty.Contents Val) (off size off' size' off₀ : Fin s.rank → ℕ)
    (inb : ∀ a, off a + size a ≤ s.size a) (inb' : ∀ a, off' a + size' a ≤ s.size a) (inb₀ : ∀ a, off₀ a + s.size a ≤ s.size a)
    (w : (Rect.unit off size inb).shape.Idx → Val e) (w' : (Rect.unit off' size' inb').shape.Idx → Val e) :
    v.readAt Val (Rect.unit off₀ s.size inb₀).toLoadRect (v.writes Val f [⟨Rect.unit off' size' inb', w'⟩, ⟨Rect.unit off size inb, w⟩])
      = put (put (v.read Val f) off size w) off' size' w' := by
  rw [View.readAt_full, read_two]

/-- The same where the two windows cover the buffer: the contents under them do not matter. -/
theorem load_two_cover (v : View sig κ sp s e) (f : v.ty.Contents Val) (x : s.Idx → Val e) (off size off' size' off₀ : Fin s.rank → ℕ)
    (inb : ∀ a, off a + size a ≤ s.size a) (inb' : ∀ a, off' a + size' a ≤ s.size a) (inb₀ : ∀ a, off₀ a + s.size a ≤ s.size a)
    (w : (Rect.unit off size inb).shape.Idx → Val e) (w' : (Rect.unit off' size' inb').shape.Idx → Val e)
    (h : ∀ y : s.Idx, (∀ a, off a ≤ (y a).val ∧ (y a).val < off a + size a) ∨ (∀ a, off' a ≤ (y a).val ∧ (y a).val < off' a + size' a)) :
    v.readAt Val (Rect.unit off₀ s.size inb₀).toLoadRect (v.writes Val f [⟨Rect.unit off' size' inb', w'⟩, ⟨Rect.unit off size inb, w⟩])
      = put (put x off size w) off' size' w' := by
  rw [load_two, put_put_cover _ x _ _ _ _ _ _ h]

/-- The two halves of the rows of an accumulator cover it. -/
theorem halves_cover {n k h : ℕ} (hn : n = h + h) (y : (⟨2, ![n, k]⟩ : Shape).Idx) :
    (∀ a, (![0, 0] : Fin 2 → ℕ) a ≤ (y a).val ∧ (y a).val < (![0, 0] : Fin 2 → ℕ) a + (![h, k] : Fin 2 → ℕ) a)
      ∨ (∀ a, (![h, 0] : Fin 2 → ℕ) a ≤ (y a).val ∧ (y a).val < (![h, 0] : Fin 2 → ℕ) a + (![h, k] : Fin 2 → ℕ) a) := by
  have h0 : (y 0).val < n := (y 0).isLt
  have h1 : (y 1).val < k := (y 1).isLt
  rcases Nat.lt_or_ge (y 0).val h with hlt | hge
  · refine Or.inl fun a => ?_
    match a with
    | 0 => exact ⟨Nat.zero_le _, by show (y 0).val < 0 + h; omega⟩
    | 1 => exact ⟨Nat.zero_le _, by show (y 1).val < 0 + k; omega⟩
  · refine Or.inr fun a => ?_
    match a with
    | 0 => exact ⟨hge, by show (y 0).val < h + h; omega⟩
    | 1 => exact ⟨Nat.zero_le _, by show (y 1).val < 0 + k; omega⟩

end Cert.MlaBwd

end
-- ==== Proof.MlaBwd.Body.lean ====
/- What the attention's backward body does at one grid point, as a triple: on whole buffers holding the point's blocks
   and the three accumulators it leaves the accumulators `next` names, and an output's block only where the point is
   the last of what that output's block accumulates. -/
module

public import proofs.«01_k».proof.Proof.MlaBwd.Step
public import proofs.«01_k».proof.Proof.MlaBwd.Stores
public import proofs.«01_k».proof.Proof.Gen.KernelIdeal.Launch
public import Idealize.ShloMosaic.Lib.Pipeline.FrameBody
public import Idealize.ShloMosaic.Lib.Tactic
@[expose] public section

set_option maxRecDepth 16384

noncomputable section

namespace Cert.MlaBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (F) in
/-- The body at point `i`, on the given buffers, runs to the accumulators and output blocks `next` names. -/
def BodyRuns (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x1024 .bf16) (harg6 : arg6.IsWhole) (arg7 : Memref sig .tc .vmem S1024x128 .bf16) (harg7 : arg7.IsWhole) (arg8 : Memref sig .tc .vmem S128x1024 .bf16) (harg8 : arg8.IsWhole) (arg9 : Memref sig .tc .vmem S1x1024x2 .f32) (harg9 : arg9.IsWhole) (arg10 : Memref sig .tc .vmem S1x1024x2 .f32) (harg10 : arg10.IsWhole) (arg11 : Memref sig .tc .vmem S8192x256 .bf16) (harg11 : arg11.IsWhole) (arg12 : Memref sig .tc .vmem S256x2048 .bf16) (harg12 : arg12.IsWhole) (arg13 : Memref sig .tc .vmem S128x2048 .bf16) (harg13 : arg13.IsWhole) (arg14 : Memref sig .tc .vmem S8192x256 .f32) (harg14 : arg14.IsWhole) (arg15 : Memref sig .tc .vmem S256x2048 .f32) (harg15 : arg15.IsWhole) (arg16 : Memref sig .tc .vmem S128x2048 .f32) (harg16 : arg16.IsWhole) : Prop :=
  ∀ (x0 : Vec F S1024x256 .bf16) (x1 : Vec F S2048x256 .bf16) (x2 : Vec F S2048x128 .bf16) (x3 : Vec F S256x1024 .bf16) (x4 : Vec F S1024x128 .bf16) (x5 : Vec F S128x1024 .bf16) (x6 : Vec F S1x1024x2 .f32) (x7 : Vec F S1x1024x2 .f32) (o0 : Vec F S8192x256 .bf16) (o1 : Vec F S256x2048 .bf16) (o2 : Vec F S128x2048 .bf16) (a0 : Vec F S8192x256 .f32) (a1 : Vec F S256x2048 .f32) (a2 : Vec F S128x2048 .f32)
    (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare o0 ∗ owns (c : Thread nD τ) arg12 fullShare o1 ∗ owns (c : Thread nD τ) arg13 fullShare o2 ∗ owns (c : Thread nD τ) arg14 fullShare a0 ∗ owns (c : Thread nD τ) arg15 fullShare a1 ∗ owns (c : Thread nD τ) arg16 fullShare a2
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare (if lastOfPair i then k0_pay4 (next i ⟨x0, x1, x2, x3, x4, x5, x6, x7⟩ ⟨a0, a1, a2⟩).dq else o0) ∗ owns (c : Thread nD τ) arg12 fullShare (if lastOfKeys i then k0_pay2 (next i ⟨x0, x1, x2, x3, x4, x5, x6, x7⟩ ⟨a0, a1, a2⟩).dkt else o1) ∗ owns (c : Thread nD τ) arg13 fullShare (if lastOfKeys i then k0_pay3 (next i ⟨x0, x1, x2, x3, x4, x5, x6, x7⟩ ⟨a0, a1, a2⟩).dvt else o2) ∗ owns (c : Thread nD τ) arg14 fullShare (next i ⟨x0, x1, x2, x3, x4, x5, x6, x7⟩ ⟨a0, a1, a2⟩).dq ∗ owns (c : Thread nD τ) arg15 fullShare (next i ⟨x0, x1, x2, x3, x4, x5, x6, x7⟩ ⟨a0, a1, a2⟩).dkt ∗ owns (c : Thread nD τ) arg16 fullShare (next i ⟨x0, x1, x2, x3, x4, x5, x6, x7⟩ ⟨a0, a1, a2⟩).dvt) -∗ K ⟨⟩))
      ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16) K

end Cert.MlaBwd

end
-- ==== Proof.MlaBwd.BodyMid.lean ====
/- The attention's backward body at a point inside a block of keys. -/
module

public import proofs.«01_k».proof.Proof.MlaBwd.Body
@[expose] public section

set_option maxRecDepth 16384

noncomputable section

namespace Cert.MlaBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

open VecWindow (window put)

set_option maxHeartbeats 2000000 in
theorem body_mid (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x1024 .bf16) (harg6 : arg6.IsWhole) (arg7 : Memref sig .tc .vmem S1024x128 .bf16) (harg7 : arg7.IsWhole) (arg8 : Memref sig .tc .vmem S128x1024 .bf16) (harg8 : arg8.IsWhole) (arg9 : Memref sig .tc .vmem S1x1024x2 .f32) (harg9 : arg9.IsWhole) (arg10 : Memref sig .tc .vmem S1x1024x2 .f32) (harg10 : arg10.IsWhole) (arg11 : Memref sig .tc .vmem S8192x256 .bf16) (harg11 : arg11.IsWhole) (arg12 : Memref sig .tc .vmem S256x2048 .bf16) (harg12 : arg12.IsWhole) (arg13 : Memref sig .tc .vmem S128x2048 .bf16) (harg13 : arg13.IsWhole) (arg14 : Memref sig .tc .vmem S8192x256 .f32) (harg14 : arg14.IsWhole) (arg15 : Memref sig .tc .vmem S256x2048 .f32) (harg15 : arg15.IsWhole) (arg16 : Memref sig .tc .vmem S128x2048 .f32) (harg16 : arg16.IsWhole)
    (hc0 : ¬firstOfPair i) (hc1 : ¬firstOfKeys i) (hc2 : ¬lastOfKeys i) (hc3 : ¬lastOfPair i) :
    BodyRuns F c i arg3 harg3 arg4 harg4 arg5 harg5 arg6 harg6 arg7 harg7 arg8 harg8 arg9 harg9 arg10 harg10 arg11 harg11 arg12 harg12 arg13 harg13 arg14 harg14 arg15 harg15 arg16 harg16 := by
  intro x0 x1 x2 x3 x4 x5 x6 x7 o0 o1 o2 a0 a1 a2 E K
  simp only [cc0_mla_bwd_eq_skeleton]; unfold cc0_mla_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := hf0; obtain rfl := hf1; obtain rfl := hf2; obtain rfl := hf3; obtain rfl := hf4; obtain rfl := hf5; obtain rfl := hf6; obtain rfl := hf7; obtain rfl := hf8; obtain rfl := hf9; obtain rfl := hf10; obtain rfl := hf11; obtain rfl := hf12; obtain rfl := hf13
  sl_exec (disch := first | sl_exact hc0 | sl_exact hc1 | sl_exact hc2 | sl_exact hc3)
  sl_step
  iapply Hk
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    rotate_left
    · iexact H8
    · ipureintro; rw [if_neg hc3]
  isplitl [H9]
  · iexists _; isplitr
    rotate_left
    · iexact H9
    · ipureintro; rw [if_neg hc2]
  isplitl [H10]
  · iexists _; isplitr
    rotate_left
    · iexact H10
    · ipureintro; rw [if_neg hc2]
  isplitl [H11]
  · iexists _; isplitr
    rotate_left
    · iexact H11
    · ipureintro; simp only [next, Blocks.step, start, if_neg hc0, if_neg hc1]; exact (read_two ..).trans rfl
  isplitl [H12]
  · iexists _; isplitr
    rotate_left
    · iexact H12
    · ipureintro; simp only [next, Blocks.step, start, if_neg hc0, if_neg hc1]; exact (read_two ..).trans rfl
  · iexists _; isplitr
    rotate_left
    · iexact H13
    · ipureintro; simp only [next, Blocks.step, start, if_neg hc0, if_neg hc1]; exact (read_two ..).trans rfl

end Cert.MlaBwd

end
-- ==== Proof.MlaBwd.BodyPair.lean ====
/- The attention's backward body at the first point of a pair of heads. -/
module

public import proofs.«01_k».proof.Proof.MlaBwd.Body
@[expose] public section

set_option maxRecDepth 16384

noncomputable section

namespace Cert.MlaBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

open VecWindow (window put)

set_option maxHeartbeats 2000000 in
theorem body_pair (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x1024 .bf16) (harg6 : arg6.IsWhole) (arg7 : Memref sig .tc .vmem S1024x128 .bf16) (harg7 : arg7.IsWhole) (arg8 : Memref sig .tc .vmem S128x1024 .bf16) (harg8 : arg8.IsWhole) (arg9 : Memref sig .tc .vmem S1x1024x2 .f32) (harg9 : arg9.IsWhole) (arg10 : Memref sig .tc .vmem S1x1024x2 .f32) (harg10 : arg10.IsWhole) (arg11 : Memref sig .tc .vmem S8192x256 .bf16) (harg11 : arg11.IsWhole) (arg12 : Memref sig .tc .vmem S256x2048 .bf16) (harg12 : arg12.IsWhole) (arg13 : Memref sig .tc .vmem S128x2048 .bf16) (harg13 : arg13.IsWhole) (arg14 : Memref sig .tc .vmem S8192x256 .f32) (harg14 : arg14.IsWhole) (arg15 : Memref sig .tc .vmem S256x2048 .f32) (harg15 : arg15.IsWhole) (arg16 : Memref sig .tc .vmem S128x2048 .f32) (harg16 : arg16.IsWhole)
    (hc0 : firstOfPair i) (hc1 : firstOfKeys i) (hc2 : ¬lastOfKeys i) (hc3 : ¬lastOfPair i) :
    BodyRuns F c i arg3 harg3 arg4 harg4 arg5 harg5 arg6 harg6 arg7 harg7 arg8 harg8 arg9 harg9 arg10 harg10 arg11 harg11 arg12 harg12 arg13 harg13 arg14 harg14 arg15 harg15 arg16 harg16 := by
  intro x0 x1 x2 x3 x4 x5 x6 x7 o0 o1 o2 a0 a1 a2 E K
  simp only [cc0_mla_bwd_eq_skeleton]; unfold cc0_mla_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := hf0; obtain rfl := hf1; obtain rfl := hf2; obtain rfl := hf3; obtain rfl := hf4; obtain rfl := hf5; obtain rfl := hf6; obtain rfl := hf7; obtain rfl := hf8; obtain rfl := hf9; obtain rfl := hf10; obtain rfl := hf11; obtain rfl := hf12; obtain rfl := hf13
  sl_exec (disch := first | sl_exact hc0 | sl_exact hc1 | sl_exact hc2 | sl_exact hc3)
  sl_step
  iapply Hk
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    rotate_left
    · iexact H8
    · ipureintro; rw [if_neg hc3]
  isplitl [H9]
  · iexists _; isplitr
    rotate_left
    · iexact H9
    · ipureintro; rw [if_neg hc2]
  isplitl [H10]
  · iexists _; isplitr
    rotate_left
    · iexact H10
    · ipureintro; rw [if_neg hc2]
  isplitl [H11]
  · iexists _; isplitr
    rotate_left
    · iexact H11
    · ipureintro; simp only [next, Blocks.step, start, if_pos hc0, if_pos hc1]; unfold Blocks.dq2 Blocks.dq1
      refine (read_three ..).trans (put_congr _ _ (put_congr _ _ rfl ?_) ?_)
      · exact congr (congrArg (k0_pay16 _ _ _ _) rfl) (load_init ..)
      · exact congr (congrArg (k0_pay24 _ _ _ _ _ _) rfl) (load_beside (a := (1 : Fin 2)) (h := Or.inr (show 0 + 128 ≤ 128 from le_rfl)) ..)
  isplitl [H12]
  · iexists _; isplitr
    rotate_left
    · iexact H12
    · ipureintro; simp only [next, Blocks.step, start, if_pos hc0, if_pos hc1]; unfold Blocks.dkt2 Blocks.dkt1
      refine (read_three ..).trans (put_congr _ _ (put_congr _ _ rfl ?_) ?_)
      · exact congr (congr (congrArg (k0_pay17 _ _ _) rfl) (load_init ..)) rfl
      · exact congr (congr (congrArg k0_pay1 rfl) (load_beside (a := (0 : Fin 2)) (h := Or.inr (by decide)) ..)) rfl
  · iexists _; isplitr
    rotate_left
    · iexact H13
    · ipureintro; simp only [next, Blocks.step, start, if_pos hc0, if_pos hc1]; unfold Blocks.dvt2 Blocks.dvt1
      refine (read_three ..).trans (put_congr _ _ (put_congr _ _ rfl ?_) ?_)
      · exact congr (congr (congrArg k0_pay14 rfl) (load_init ..)) rfl
      · exact congr (congr (congrArg (k0_pay22 _ _) rfl) (load_beside (a := (0 : Fin 2)) (h := Or.inr (by decide)) ..)) rfl

end Cert.MlaBwd

end
-- ==== Proof.MlaBwd.BodyKeys.lean ====
/- The attention's backward body at the first point of a later block of keys. -/
module

public import proofs.«01_k».proof.Proof.MlaBwd.Body
@[expose] public section

set_option maxRecDepth 16384

noncomputable section

namespace Cert.MlaBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

open VecWindow (window put)

set_option maxHeartbeats 2000000 in
theorem body_keys (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x1024 .bf16) (harg6 : arg6.IsWhole) (arg7 : Memref sig .tc .vmem S1024x128 .bf16) (harg7 : arg7.IsWhole) (arg8 : Memref sig .tc .vmem S128x1024 .bf16) (harg8 : arg8.IsWhole) (arg9 : Memref sig .tc .vmem S1x1024x2 .f32) (harg9 : arg9.IsWhole) (arg10 : Memref sig .tc .vmem S1x1024x2 .f32) (harg10 : arg10.IsWhole) (arg11 : Memref sig .tc .vmem S8192x256 .bf16) (harg11 : arg11.IsWhole) (arg12 : Memref sig .tc .vmem S256x2048 .bf16) (harg12 : arg12.IsWhole) (arg13 : Memref sig .tc .vmem S128x2048 .bf16) (harg13 : arg13.IsWhole) (arg14 : Memref sig .tc .vmem S8192x256 .f32) (harg14 : arg14.IsWhole) (arg15 : Memref sig .tc .vmem S256x2048 .f32) (harg15 : arg15.IsWhole) (arg16 : Memref sig .tc .vmem S128x2048 .f32) (harg16 : arg16.IsWhole)
    (hc0 : ¬firstOfPair i) (hc1 : firstOfKeys i) (hc2 : ¬lastOfKeys i) (hc3 : ¬lastOfPair i) :
    BodyRuns F c i arg3 harg3 arg4 harg4 arg5 harg5 arg6 harg6 arg7 harg7 arg8 harg8 arg9 harg9 arg10 harg10 arg11 harg11 arg12 harg12 arg13 harg13 arg14 harg14 arg15 harg15 arg16 harg16 := by
  intro x0 x1 x2 x3 x4 x5 x6 x7 o0 o1 o2 a0 a1 a2 E K
  simp only [cc0_mla_bwd_eq_skeleton]; unfold cc0_mla_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := hf0; obtain rfl := hf1; obtain rfl := hf2; obtain rfl := hf3; obtain rfl := hf4; obtain rfl := hf5; obtain rfl := hf6; obtain rfl := hf7; obtain rfl := hf8; obtain rfl := hf9; obtain rfl := hf10; obtain rfl := hf11; obtain rfl := hf12; obtain rfl := hf13
  sl_exec (disch := first | sl_exact hc0 | sl_exact hc1 | sl_exact hc2 | sl_exact hc3)
  sl_step
  iapply Hk
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    rotate_left
    · iexact H8
    · ipureintro; rw [if_neg hc3]
  isplitl [H9]
  · iexists _; isplitr
    rotate_left
    · iexact H9
    · ipureintro; rw [if_neg hc2]
  isplitl [H10]
  · iexists _; isplitr
    rotate_left
    · iexact H10
    · ipureintro; rw [if_neg hc2]
  isplitl [H11]
  · iexists _; isplitr
    rotate_left
    · iexact H11
    · ipureintro; simp only [next, Blocks.step, start, if_neg hc0, if_pos hc1]; exact (read_two ..).trans rfl
  isplitl [H12]
  · iexists _; isplitr
    rotate_left
    · iexact H12
    · ipureintro; simp only [next, Blocks.step, start, if_neg hc0, if_pos hc1]; unfold Blocks.dkt2 Blocks.dkt1
      refine (read_three ..).trans (put_congr _ _ (put_congr _ _ rfl ?_) ?_)
      · exact congr (congr (congrArg (k0_pay17 _ _ _) rfl) (load_init ..)) rfl
      · exact congr (congr (congrArg k0_pay1 rfl) (load_beside (a := (0 : Fin 2)) (h := Or.inr (by decide)) ..)) rfl
  · iexists _; isplitr
    rotate_left
    · iexact H13
    · ipureintro; simp only [next, Blocks.step, start, if_neg hc0, if_pos hc1]; unfold Blocks.dvt2 Blocks.dvt1
      refine (read_three ..).trans (put_congr _ _ (put_congr _ _ rfl ?_) ?_)
      · exact congr (congr (congrArg k0_pay14 rfl) (load_init ..)) rfl
      · exact congr (congr (congrArg (k0_pay22 _ _) rfl) (load_beside (a := (0 : Fin 2)) (h := Or.inr (by decide)) ..)) rfl

end Cert.MlaBwd

end
-- ==== Proof.MlaBwd.BodyKeysLast.lean ====
/- The attention's backward body at the last point of an earlier block of keys. -/
module

public import proofs.«01_k».proof.Proof.MlaBwd.Body
@[expose] public section

set_option maxRecDepth 16384

noncomputable section

namespace Cert.MlaBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

open VecWindow (window put)

set_option maxHeartbeats 2000000 in
theorem body_keys_last (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x1024 .bf16) (harg6 : arg6.IsWhole) (arg7 : Memref sig .tc .vmem S1024x128 .bf16) (harg7 : arg7.IsWhole) (arg8 : Memref sig .tc .vmem S128x1024 .bf16) (harg8 : arg8.IsWhole) (arg9 : Memref sig .tc .vmem S1x1024x2 .f32) (harg9 : arg9.IsWhole) (arg10 : Memref sig .tc .vmem S1x1024x2 .f32) (harg10 : arg10.IsWhole) (arg11 : Memref sig .tc .vmem S8192x256 .bf16) (harg11 : arg11.IsWhole) (arg12 : Memref sig .tc .vmem S256x2048 .bf16) (harg12 : arg12.IsWhole) (arg13 : Memref sig .tc .vmem S128x2048 .bf16) (harg13 : arg13.IsWhole) (arg14 : Memref sig .tc .vmem S8192x256 .f32) (harg14 : arg14.IsWhole) (arg15 : Memref sig .tc .vmem S256x2048 .f32) (harg15 : arg15.IsWhole) (arg16 : Memref sig .tc .vmem S128x2048 .f32) (harg16 : arg16.IsWhole)
    (hc0 : ¬firstOfPair i) (hc1 : ¬firstOfKeys i) (hc2 : lastOfKeys i) (hc3 : ¬lastOfPair i) :
    BodyRuns F c i arg3 harg3 arg4 harg4 arg5 harg5 arg6 harg6 arg7 harg7 arg8 harg8 arg9 harg9 arg10 harg10 arg11 harg11 arg12 harg12 arg13 harg13 arg14 harg14 arg15 harg15 arg16 harg16 := by
  intro x0 x1 x2 x3 x4 x5 x6 x7 o0 o1 o2 a0 a1 a2 E K
  simp only [cc0_mla_bwd_eq_skeleton]; unfold cc0_mla_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := hf0; obtain rfl := hf1; obtain rfl := hf2; obtain rfl := hf3; obtain rfl := hf4; obtain rfl := hf5; obtain rfl := hf6; obtain rfl := hf7; obtain rfl := hf8; obtain rfl := hf9; obtain rfl := hf10; obtain rfl := hf11; obtain rfl := hf12; obtain rfl := hf13
  sl_exec (disch := first | sl_exact hc0 | sl_exact hc1 | sl_exact hc2 | sl_exact hc3)
  sl_step
  iapply Hk
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    rotate_left
    · iexact H8
    · ipureintro; rw [if_neg hc3]
  isplitl [H9]
  · iexists _; isplitr
    rotate_left
    · iexact H9
    · ipureintro; rw [if_pos hc2]; simp only [next, Blocks.step, start, if_neg hc0, if_neg hc1]
      refine (View.read_writes_full ..).trans (congrArg k0_pay2 ?_)
      exact (load_two_cover _ _ (View.read (Elt F) arg15.view f12) _ _ _ _ _ _ _ _ _ _ (halves_cover (by decide))).trans rfl
  isplitl [H10]
  · iexists _; isplitr
    rotate_left
    · iexact H10
    · ipureintro; rw [if_pos hc2]; simp only [next, Blocks.step, start, if_neg hc0, if_neg hc1]
      refine (View.read_writes_full ..).trans (congrArg k0_pay3 ?_)
      exact (load_two_cover _ _ (View.read (Elt F) arg16.view f13) _ _ _ _ _ _ _ _ _ _ (halves_cover (by decide))).trans rfl
  isplitl [H11]
  · iexists _; isplitr
    rotate_left
    · iexact H11
    · ipureintro; simp only [next, Blocks.step, start, if_neg hc0, if_neg hc1]; exact (read_two ..).trans rfl
  isplitl [H12]
  · iexists _; isplitr
    rotate_left
    · iexact H12
    · ipureintro; simp only [next, Blocks.step, start, if_neg hc0, if_neg hc1]; exact (read_two ..).trans rfl
  · iexists _; isplitr
    rotate_left
    · iexact H13
    · ipureintro; simp only [next, Blocks.step, start, if_neg hc0, if_neg hc1]; exact (read_two ..).trans rfl

end Cert.MlaBwd

end
-- ==== Proof.MlaBwd.BodyPairLast.lean ====
/- The attention's backward body at the last point of a pair of heads. -/
module

public import proofs.«01_k».proof.Proof.MlaBwd.Body
@[expose] public section

set_option maxRecDepth 16384

noncomputable section

namespace Cert.MlaBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

open VecWindow (window put)

set_option maxHeartbeats 2000000 in
theorem body_pair_last (c : Dev nD) (i : grid0.Coords) (arg3 : Memref sig .tc .vmem S1024x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S256x1024 .bf16) (harg6 : arg6.IsWhole) (arg7 : Memref sig .tc .vmem S1024x128 .bf16) (harg7 : arg7.IsWhole) (arg8 : Memref sig .tc .vmem S128x1024 .bf16) (harg8 : arg8.IsWhole) (arg9 : Memref sig .tc .vmem S1x1024x2 .f32) (harg9 : arg9.IsWhole) (arg10 : Memref sig .tc .vmem S1x1024x2 .f32) (harg10 : arg10.IsWhole) (arg11 : Memref sig .tc .vmem S8192x256 .bf16) (harg11 : arg11.IsWhole) (arg12 : Memref sig .tc .vmem S256x2048 .bf16) (harg12 : arg12.IsWhole) (arg13 : Memref sig .tc .vmem S128x2048 .bf16) (harg13 : arg13.IsWhole) (arg14 : Memref sig .tc .vmem S8192x256 .f32) (harg14 : arg14.IsWhole) (arg15 : Memref sig .tc .vmem S256x2048 .f32) (harg15 : arg15.IsWhole) (arg16 : Memref sig .tc .vmem S128x2048 .f32) (harg16 : arg16.IsWhole)
    (hc0 : ¬firstOfPair i) (hc1 : ¬firstOfKeys i) (hc2 : lastOfKeys i) (hc3 : lastOfPair i) :
    BodyRuns F c i arg3 harg3 arg4 harg4 arg5 harg5 arg6 harg6 arg7 harg7 arg8 harg8 arg9 harg9 arg10 harg10 arg11 harg11 arg12 harg12 arg13 harg13 arg14 harg14 arg15 harg15 arg16 harg16 := by
  intro x0 x1 x2 x3 x4 x5 x6 x7 o0 o1 o2 a0 a1 a2 E K
  simp only [cc0_mla_bwd_eq_skeleton]; unfold cc0_mla_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := hf0; obtain rfl := hf1; obtain rfl := hf2; obtain rfl := hf3; obtain rfl := hf4; obtain rfl := hf5; obtain rfl := hf6; obtain rfl := hf7; obtain rfl := hf8; obtain rfl := hf9; obtain rfl := hf10; obtain rfl := hf11; obtain rfl := hf12; obtain rfl := hf13
  sl_exec (disch := first | sl_exact hc0 | sl_exact hc1 | sl_exact hc2 | sl_exact hc3)
  sl_step
  iapply Hk
  isplitl [H0]
  · iexists _; isplitr
    · ipureintro; exact rfl
    iexact H0
  isplitl [H1]
  · iexists _; isplitr
    · ipureintro; exact rfl
    iexact H1
  isplitl [H2]
  · iexists _; isplitr
    · ipureintro; exact rfl
    iexact H2
  isplitl [H3]
  · iexists _; isplitr
    · ipureintro; exact rfl
    iexact H3
  isplitl [H4]
  · iexists _; isplitr
    · ipureintro; exact rfl
    iexact H4
  isplitl [H5]
  · iexists _; isplitr
    · ipureintro; exact rfl
    iexact H5
  isplitl [H6]
  · iexists _; isplitr
    · ipureintro; exact rfl
    iexact H6
  isplitl [H7]
  · iexists _; isplitr
    · ipureintro; exact rfl
    iexact H7
  isplitl [H8]
  · iexists _; isplitr
    rotate_left
    · iexact H8
    · ipureintro; rw [if_pos hc3]; simp only [next, Blocks.step, start, if_neg hc0, if_neg hc1]
      refine (View.read_writes_full ..).trans (congrArg k0_pay4 ?_)
      exact (load_two ..).trans rfl
  isplitl [H9]
  · iexists _; isplitr
    rotate_left
    · iexact H9
    · ipureintro; rw [if_pos hc2]; simp only [next, Blocks.step, start, if_neg hc0, if_neg hc1]
      refine (View.read_writes_full ..).trans (congrArg k0_pay2 ?_)
      exact (load_two_cover _ _ (View.read (Elt F) arg15.view f12) _ _ _ _ _ _ _ _ _ _ (halves_cover (by decide))).trans rfl
  isplitl [H10]
  · iexists _; isplitr
    rotate_left
    · iexact H10
    · ipureintro; rw [if_pos hc2]; simp only [next, Blocks.step, start, if_neg hc0, if_neg hc1]
      refine (View.read_writes_full ..).trans (congrArg k0_pay3 ?_)
      exact (load_two_cover _ _ (View.read (Elt F) arg16.view f13) _ _ _ _ _ _ _ _ _ _ (halves_cover (by decide))).trans rfl
  isplitl [H11]
  · iexists _; isplitr
    rotate_left
    · iexact H11
    · ipureintro; simp only [next, Blocks.step, start, if_neg hc0, if_neg hc1]; exact (read_two ..).trans rfl
  isplitl [H12]
  · iexists _; isplitr
    rotate_left
    · iexact H12
    · ipureintro; simp only [next, Blocks.step, start, if_neg hc0, if_neg hc1]; exact (read_two ..).trans rfl
  · iexists _; isplitr
    rotate_left
    · iexact H13
    · ipureintro; simp only [next, Blocks.step, start, if_neg hc0, if_neg hc1]; exact (read_two ..).trans rfl

end Cert.MlaBwd

end
-- ==== Proof.MlaBwd.BodyAll.lean ====
/- The body at any point of the grid, and when a point is the first or the last of what it accumulates. -/
module

public import proofs.«01_k».proof.Proof.MlaBwd.BodyMid
public import proofs.«01_k».proof.Proof.MlaBwd.BodyPair
public import proofs.«01_k».proof.Proof.MlaBwd.BodyKeys
public import proofs.«01_k».proof.Proof.MlaBwd.BodyKeysLast
public import proofs.«01_k».proof.Proof.MlaBwd.BodyPairLast
public import proofs.«01_k».proof.Proof.Gen.KernelIdeal.Points
public import Idealize.ShloMosaic.Lib.WordCmp

@[expose] public section

set_option maxRecDepth 16384

noncomputable section

namespace Cert.MlaBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem firstOfPair_iff (t : Fin cfg0.N) : firstOfPair (grid0.coords t) ↔ t.val % 32 = 0 := by
  have ht : t.val < 128 := Nat.lt_of_lt_of_eq t.isLt N_0
  have e1 : (grid0.coords t 1).val = t.val / 8 % 4 := Pipeline.Grid.coords_val t 1 (by decide) rfl
  have e2 : (grid0.coords t 2).val = t.val / 1 % 8 := Pipeline.Grid.coords_val t 2 (by decide) rfl
  unfold firstOfPair
  simp only [e1, e2]
  word_cmp

theorem firstOfKeys_iff (t : Fin cfg0.N) : firstOfKeys (grid0.coords t) ↔ t.val % 8 = 0 := by
  have ht : t.val < 128 := Nat.lt_of_lt_of_eq t.isLt N_0
  have e1 : (grid0.coords t 1).val = t.val / 8 % 4 := Pipeline.Grid.coords_val t 1 (by decide) rfl
  have e2 : (grid0.coords t 2).val = t.val / 1 % 8 := Pipeline.Grid.coords_val t 2 (by decide) rfl
  unfold firstOfKeys
  simp only [e1, e2]
  word_cmp

theorem lastOfKeys_iff (t : Fin cfg0.N) : lastOfKeys (grid0.coords t) ↔ t.val % 8 = 7 := by
  have ht : t.val < 128 := Nat.lt_of_lt_of_eq t.isLt N_0
  have e1 : (grid0.coords t 1).val = t.val / 8 % 4 := Pipeline.Grid.coords_val t 1 (by decide) rfl
  have e2 : (grid0.coords t 2).val = t.val / 1 % 8 := Pipeline.Grid.coords_val t 2 (by decide) rfl
  unfold lastOfKeys k0_cond3
  simp only [e1, e2]
  word_cmp

theorem lastOfPair_iff (t : Fin cfg0.N) : lastOfPair (grid0.coords t) ↔ t.val % 32 = 31 := by
  have ht : t.val < 128 := Nat.lt_of_lt_of_eq t.isLt N_0
  have e1 : (grid0.coords t 1).val = t.val / 8 % 4 := Pipeline.Grid.coords_val t 1 (by decide) rfl
  have e2 : (grid0.coords t 2).val = t.val / 1 % 8 := Pipeline.Grid.coords_val t 2 (by decide) rfl
  unfold lastOfPair k0_cond4
  simp only [e1, e2]
  word_cmp

/-- The body at point `t`, on the buffers the pipeline gives it and on the three accumulators. -/
theorem body_runs (c : Dev nD) (t : Fin cfg0.N) : BodyRuns F c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) := by
  by_cases h0 : firstOfPair (grid0.coords t)
  · have e := (firstOfPair_iff t).mp h0
    exact body_pair c _ _ _ _ _ _ _ _ _ _ _ _ _ _ _ _ _ _ _ _ _ _ _ _ _ _ _ _ _ h0 ((firstOfKeys_iff t).mpr (by omega)) (mt (lastOfKeys_iff t).mp (by omega)) (mt (lastOfPair_iff t).mp (by omega))
  by_cases h1 : firstOfKeys (grid0.coords t)
  · have e := (firstOfKeys_iff t).mp h1
    exact body_keys c _ _ _ _ _ _ _ _ _ _ _ _ _ _ _ _ _ _ _ _ _ _ _ _ _ _ _ _ _ h0 h1 (mt (lastOfKeys_iff t).mp (by omega)) (mt (lastOfPair_iff t).mp (by omega))
  by_cases h3 : lastOfPair (grid0.coords t)
  · have e := (lastOfPair_iff t).mp h3
    exact body_pair_last c _ _ _ _ _ _ _ _ _ _ _ _ _ _ _ _ _ _ _ _ _ _ _ _ _ _ _ _ _ h0 h1 ((lastOfKeys_iff t).mpr (by omega)) h3
  by_cases h2 : lastOfKeys (grid0.coords t)
  · exact body_keys_last c _ _ _ _ _ _ _ _ _ _ _ _ _ _ _ _ _ _ _ _ _ _ _ _ _ _ _ _ _ h0 h1 h2 h3
  · exact body_mid c _ _ _ _ _ _ _ _ _ _ _ _ _ _ _ _ _ _ _ _ _ _ _ _ _ _ _ _ _ h0 h1 h2 h3

end Cert.MlaBwd

end
-- ==== Proof.MlaBwd.Run.lean ====
/- The whole launch of the attention's backward call, for any float values: what the accumulators hold before each
   point, the pipeline's data, the body's obligation at every point, and the run. -/
module

public import proofs.«01_k».proof.Proof.MlaBwd.BodyAll
public import proofs.«01_k».proof.Proof.Gen.KernelIdeal.Frame
public import Idealize.ShloMosaic.Lib.Claim

@[expose] public section

set_option maxRecDepth 16384

noncomputable section

namespace Cert.MlaBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The blocks point `t` reads. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t⟩

/-- The accumulators before point `n` (nothing reads them before the first). -/
def accAt (c : Dev nD) : ℕ → Acc F
  | 0 => ⟨k0_pay5, k0_pay6, k0_pay7⟩
  | n + 1 => if h : n < cfg0.N then next (grid0.coords ⟨n, h⟩) (blocksAt m c ⟨n, h⟩) (accAt c n) else accAt c n

theorem accAt_succ (c : Dev nD) (t : Fin cfg0.N) :
    accAt m c (t.val + 1) = next (grid0.coords t) (blocksAt m c t) (accAt m c t.val) := by
  rw [accAt, dif_pos t.isLt]

/-- The first point of a pair starts from nothing the accumulators hold. -/
theorem next_of_first (i : grid0.Coords) (h0 : firstOfPair i) (h1 : firstOfKeys i) (b : Blocks F) (a a' : Acc F) : next i b a = next i b a' := by
  unfold next start
  simp only [if_pos h0, if_pos h1]

/-- What the three accumulators' buffers hold before point `n`, and the generator's register at some state. -/
def carried (c : Dev nD) (n : ℕ) : sProp 𝕄 :=
  iprop(∃ a : Acc F, ⌜n ≠ 0 → a = accAt m c n⌝ ∗ ((owns (c : Thread nD τ) (Memref.whole cc0_scratch0 : Memref sig .tc .vmem S8192x256 .f32) fullShare a.dq ∗ owns (c : Thread nD τ) (Memref.whole cc0_scratch1 : Memref sig .tc .vmem S256x2048 .f32) fullShare a.dkt ∗ owns (c : Thread nD τ) (Memref.whole cc0_scratch2 : Memref sig .tc .vmem S128x2048 .f32) fullShare a.dvt) ∗ (∃ r, prngReg c r)))

/-- The pipeline's data: the arrays as the launch finds them, each input's block left in place, each output's block the
    rounded accumulator after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay4 (accAt m c (t.val + 1)).dq
    | ⟨9, _⟩ => k0_pay2 (accAt m c (t.val + 1)).dkt
    | ⟨10, _⟩ => k0_pay3 (accAt m c (t.val + 1)).dvt
  Φ t := carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = k0_pay4 (accAt m c (t.val + 1)).dq := by dsimp only [dats]
theorem after_9 (c : Dev nD) (t : Fin cfg0.N) : (dats m 0 c).after 9 t = k0_pay2 (accAt m c (t.val + 1)).dkt := by dsimp only [dats]
theorem after_10 (c : Dev nD) (t : Fin cfg0.N) : (dats m 0 c).after 10 t = k0_pay3 (accAt m c (t.val + 1)).dvt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- An input's buffer is left at its block. -/
theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (grid0.coords t) = false from rfl, after_7]

theorem idle_8 : ∀ t : Fin cfg0.N, cfg0.idle 8 (grid0.coords t) = !decide (t.val % 32 = 31) := by decide +kernel

/-- Output 0's buffer: at its block's last point the rounded accumulator, untouched before. -/
theorem leaves_8 (c : Dev nD) (t : Fin cfg0.N) (d : Vec F S8192x256 .bf16) :
    owns (c : Thread nD τ) (win0_8.stage (cfg0.slots t 8)) fullShare (if lastOfPair (grid0.coords t) then k0_pay4 (accAt m c (t.val + 1)).dq else (dats m 0 c).before 8 t d) ⊢ (dats m 0 c).leavesExact 8 t := by
  by_cases h : t.val % 32 = 31
  · rw [if_pos ((lastOfPair_iff t).mpr h)]
    unfold Dat.leavesExact
    rw [show cfg0.idle 8 (grid0.coords t) = false by rw [idle_8, decide_eq_true h]; rfl, after_8]
  · rw [if_neg (mt (lastOfPair_iff t).mp h), Dat.leavesExact_idle (dats m 0 c) 8 t (by rw [idle_8, decide_eq_false h]; rfl) (Bool.eq_false_iff.mpr fun hf => h ((flush0_8 t).mp hf))]
    iintro H; iexists d; iexact H

theorem idle_9 : ∀ t : Fin cfg0.N, cfg0.idle 9 (grid0.coords t) = !decide (t.val % 8 = 7) := by decide +kernel

/-- Output 1's buffer: at its block's last point the rounded accumulator, untouched before. -/
theorem leaves_9 (c : Dev nD) (t : Fin cfg0.N) (d : Vec F S256x2048 .bf16) :
    owns (c : Thread nD τ) (win0_9.stage (cfg0.slots t 9)) fullShare (if lastOfKeys (grid0.coords t) then k0_pay2 (accAt m c (t.val + 1)).dkt else (dats m 0 c).before 9 t d) ⊢ (dats m 0 c).leavesExact 9 t := by
  by_cases h : t.val % 8 = 7
  · rw [if_pos ((lastOfKeys_iff t).mpr h)]
    unfold Dat.leavesExact
    rw [show cfg0.idle 9 (grid0.coords t) = false by rw [idle_9, decide_eq_true h]; rfl, after_9]
  · rw [if_neg (mt (lastOfKeys_iff t).mp h), Dat.leavesExact_idle (dats m 0 c) 9 t (by rw [idle_9, decide_eq_false h]; rfl) (Bool.eq_false_iff.mpr fun hf => h ((flush0_9 t).mp hf))]
    iintro H; iexists d; iexact H

theorem idle_10 : ∀ t : Fin cfg0.N, cfg0.idle 10 (grid0.coords t) = !decide (t.val % 8 = 7) := by decide +kernel

/-- Output 2's buffer: at its block's last point the rounded accumulator, untouched before. -/
theorem leaves_10 (c : Dev nD) (t : Fin cfg0.N) (d : Vec F S128x2048 .bf16) :
    owns (c : Thread nD τ) (win0_10.stage (cfg0.slots t 10)) fullShare (if lastOfKeys (grid0.coords t) then k0_pay3 (accAt m c (t.val + 1)).dvt else (dats m 0 c).before 10 t d) ⊢ (dats m 0 c).leavesExact 10 t := by
  by_cases h : t.val % 8 = 7
  · rw [if_pos ((lastOfKeys_iff t).mpr h)]
    unfold Dat.leavesExact
    rw [show cfg0.idle 10 (grid0.coords t) = false by rw [idle_10, decide_eq_true h]; rfl, after_10]
  · rw [if_neg (mt (lastOfKeys_iff t).mp h), Dat.leavesExact_idle (dats m 0 c) 10 t (by rw [idle_10, decide_eq_false h]; rfl) (Bool.eq_false_iff.mpr fun hf => h ((flush0_10 t).mp hf))]
    iintro H; iexists d; iexact H

/-- What the pipeline hands the body at point `t`, and what it takes back. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, leaves_0, leaves_1, leaves_2, leaves_3, leaves_4, leaves_5, leaves_6, leaves_7]
  rw [show (dats m 0 c).owesAt () t.succ = (dats m 0 c).owesAt () t.castSucc from rfl]
  rw [show (dats m 0 c).Φ t.succ = carried m c (t.val + 1) from rfl, show (dats m 0 c).Φ t.castSucc = carried m c t.val from rfl]
  unfold carried
  iintro ⟨⟨%a, %ha, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hn : next (grid0.coords t) (blocksAt m c t) a = accAt m c (t.val + 1) := by
    rw [accAt_succ]
    by_cases hz : t.val = 0
    · exact next_of_first _ ((firstOfPair_iff t).mpr (by omega)) ((firstOfKeys_iff t).mpr (by omega)) _ _ _
    · rw [ha hz]
  iapply (body_runs c t (iblk m c 0 t) (iblk m c 1 t) (iblk m c 2 t) (iblk m c 3 t) (iblk m c 4 t) (iblk m c 5 t) (iblk m c 6 t) (iblk m c 7 t) ((dats m 0 c).before 8 t d8) ((dats m 0 c).before 9 t d9) ((dats m 0 c).before 10 t d10) a.dq a.dkt a.dvt Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  rw [show next (grid0.coords t) ⟨iblk m c 0 t, iblk m c 1 t, iblk m c 2 t, iblk m c 3 t, iblk m c 4 t, iblk m c 5 t, iblk m c 6 t, iblk m c 7 t⟩ ⟨a.dq, a.dkt, a.dvt⟩ = accAt m c (t.val + 1) from hn]
  iintro ⟨H0, H1, H2, H3, H4, H5, H6, H7, H8, H9, H10, HS0, HS1, HS2⟩
  isplitl [HS0 HS1 HS2 Hg]
  · iexists accAt m c (t.val + 1)
    isplitr
    · ipureintro; exact fun _ => rfl
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves_8 m c t d8); iexact H8
  isplitl [H9]; · iapply (leaves_9 m c t d9); iexact H9
  iapply (leaves_10 m c t d10); iexact H10

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The three accumulators' buffers at any contents, and the register: what a launch gives and takes. -/
theorem scoped_eq (c : Dev nD) :
    (Pipeline.ΦA spec0 c : sProp 𝕄)
      = iprop(((∃ d, owns (c : Thread nD τ) (Memref.whole cc0_scratch0 : Memref sig .tc .vmem S8192x256 .f32) fullShare d) ∗ (∃ d, owns (c : Thread nD τ) (Memref.whole cc0_scratch1 : Memref sig .tc .vmem S256x2048 .f32) fullShare d) ∗ (∃ d, owns (c : Thread nD τ) (Memref.whole cc0_scratch2 : Memref sig .tc .vmem S128x2048 .f32) fullShare d)) ∗ (∃ r, prngReg c r)) := by
  unfold Pipeline.ΦA; rw [scopedRest0_eq]; simp only [owns_whole]; try rfl

theorem enter (c : Dev nD) : Pipeline.ΦA spec0 c ⊢ (dats m 0 c).Φ 0 := by
  rw [scoped_eq, show (dats m 0 c).Φ 0 = carried m c 0 from rfl]
  unfold carried
  iintro ⟨⟨⟨%d0, H0⟩, ⟨%d1, H1⟩, ⟨%d2, H2⟩⟩, Hg⟩
  iexists (⟨d0, d1, d2⟩ : Acc F)
  isplitr
  · ipureintro; exact fun h => absurd rfl h
  isplitl [H0 H1 H2]
  · isplitl [H0]; · iexact H0
    isplitl [H1]; · iexact H1
    iexact H2
  iexact Hg

theorem leave (c : Dev nD) : (dats m 0 c).Φ (Fin.last cfg0.N) ⊢ Pipeline.ΦA spec0 c := by
  rw [scoped_eq, show (dats m 0 c).Φ (Fin.last cfg0.N) = carried m c cfg0.N from rfl]
  unfold carried
  iintro ⟨%a, %ha, ⟨H0, H1, H2⟩, Hg⟩
  isplitl [H0 H1 H2]
  · isplitl [H0]; · iexists _; iexact H0
    isplitl [H1]; · iexists _; iexact H1
    iexists _; iexact H2
  iexact Hg

set_option backward.isDefEq.respectTransparency.types false in
/-- The launch from any memory with zero counters: every final state has each array of the pipeline at what the data
    say, every other buffer as the launch found it, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

/-- The frame: the arguments end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.MlaBwd

end
-- ==== Proof.MlaBwd.Grid.lean ====
/- The blocks each grid point reads, at the arrays they are cut from. Point `t` is of pair `t / 32`, key block
   `t / 8 % 4` and query block `t % 8`. -/
module

public import proofs.«01_k».proof.Proof.MlaBwd.Run
public import proofs.«01_k».proof.Proof.MlaBwd.Nat

@[expose] public section

set_option maxRecDepth 16384

noncomputable section

namespace Cert.MlaBwd

open Idealize.ShloMosaic Idealize.ShloMosaic.TcCoe Idealize.SL.Sem Cert.KernelIdeal Cert.KernelIdeal.Gen
open Idealize.ShloMosaic.Pipeline (Dat)

/-- The windows' index maps, of all points at once. -/
theorem index_in : ∀ t : Fin cfg0.N, win0_0.index t = ![t.val % 8, t.val / 32] ∧ win0_1.index t = ![t.val / 8 % 4, t.val / 32]
    ∧ win0_2.index t = ![t.val / 8 % 4, t.val / 32] ∧ win0_3.index t = ![t.val / 32, t.val % 8] ∧ win0_4.index t = ![t.val % 8, t.val / 32]
    ∧ win0_5.index t = ![t.val / 32, t.val % 8] ∧ win0_6.index t = ![t.val / 32, t.val % 8, 0] ∧ win0_7.index t = ![t.val / 32, t.val % 8, 0] :=
  (by decide +kernel : ∀ t : Fin grid0.N, _)

theorem index_out : ∀ t : Fin cfg0.N, win0_8.index t = ![0, t.val / 32] ∧ win0_9.index t = ![t.val / 32, t.val / 8 % 4]
    ∧ win0_10.index t = ![t.val / 32, t.val / 8 % 4] :=
  (by decide +kernel : ∀ t : Fin grid0.N, _)

theorem coord_2 : ∀ t : Fin cfg0.N, (grid0.coords t 2).val = t.val % 8 := (by decide +kernel : ∀ t : Fin grid0.N, _)

variable (m : (ℓ : Loc nD τ sig) → Buf (Elt Ideal) ℓ) (c : Dev nD) (t : Fin cfg0.N)

theorem lt_N : t.val < 128 := lt_of_lt_of_eq t.isLt N_0

/-- Each window's block: the array at the block's place. -/
theorem block_q {r l : ℕ} (hr : r < 1024) (hl : l < 256) :
    at2 (blocksAt m c t).q r l = at2 (V m c main_v35) (1024 * (t.val % 8) + r) (256 * (t.val / 32) + l) := by
  have ht := lt_N t
  rw [at2, dif_pos ⟨hr, hl⟩, at2, dif_pos ⟨by omega, by omega⟩]
  show iblk m c 0 t _ = _
  generalize hV : V m c = W
  unfold iblk
  rw [hV]
  blk_point [index_in t]

theorem block_k {r l : ℕ} (hr : r < 2048) (hl : l < 256) :
    at2 (blocksAt m c t).k r l = at2 (V m c main_v38) (2048 * (t.val / 8 % 4) + r) (256 * (t.val / 32) + l) := by
  have ht := lt_N t
  rw [at2, dif_pos ⟨hr, hl⟩, at2, dif_pos ⟨by omega, by omega⟩]
  show iblk m c 1 t _ = _
  generalize hV : V m c = W
  unfold iblk
  rw [hV]
  blk_point [index_in t]

theorem block_v {r l : ℕ} (hr : r < 2048) (hl : l < 128) :
    at2 (blocksAt m c t).v r l = at2 (V m c main_v40) (2048 * (t.val / 8 % 4) + r) (128 * (t.val / 32) + l) := by
  have ht := lt_N t
  rw [at2, dif_pos ⟨hr, hl⟩, at2, dif_pos ⟨by omega, by omega⟩]
  show iblk m c 2 t _ = _
  generalize hV : V m c = W
  unfold iblk
  rw [hV]
  blk_point [index_in t]

theorem block_qT {r l : ℕ} (hr : r < 256) (hl : l < 1024) :
    at2 (blocksAt m c t).qT r l = at2 (V m c main_v42) (256 * (t.val / 32) + r) (1024 * (t.val % 8) + l) := by
  have ht := lt_N t
  rw [at2, dif_pos ⟨hr, hl⟩, at2, dif_pos ⟨by omega, by omega⟩]
  show iblk m c 3 t _ = _
  generalize hV : V m c = W
  unfold iblk
  rw [hV]
  blk_point [index_in t]

theorem block_dO {r l : ℕ} (hr : r < 1024) (hl : l < 128) :
    at2 (blocksAt m c t).dO r l = at2 (V m c main_v41) (1024 * (t.val % 8) + r) (128 * (t.val / 32) + l) := by
  have ht := lt_N t
  rw [at2, dif_pos ⟨hr, hl⟩, at2, dif_pos ⟨by omega, by omega⟩]
  show iblk m c 4 t _ = _
  generalize hV : V m c = W
  unfold iblk
  rw [hV]
  blk_point [index_in t]

theorem block_doT {r l : ℕ} (hr : r < 128) (hl : l < 1024) :
    at2 (blocksAt m c t).doT r l = at2 (V m c main_v43) (128 * (t.val / 32) + r) (1024 * (t.val % 8) + l) := by
  have ht := lt_N t
  rw [at2, dif_pos ⟨hr, hl⟩, at2, dif_pos ⟨by omega, by omega⟩]
  show iblk m c 5 t _ = _
  generalize hV : V m c = W
  unfold iblk
  rw [hV]
  blk_point [index_in t]

theorem block_lse {r h : ℕ} (hr : r < 1024) (hh : h < 2) :
    at3 (blocksAt m c t).lse 0 r h = at3 (V m c main_v45) (t.val / 32) (1024 * (t.val % 8) + r) h := by
  have ht := lt_N t
  rw [at3, dif_pos ⟨by omega, hr, hh⟩, at3, dif_pos ⟨by omega, by omega, hh⟩]
  show iblk m c 6 t _ = _
  generalize hV : V m c = W
  unfold iblk
  rw [hV]
  blk_point [index_in t]

theorem block_dcol {r h : ℕ} (hr : r < 1024) (hh : h < 2) :
    at3 (blocksAt m c t).dcol 0 r h = at3 (V m c main_v47) (t.val / 32) (1024 * (t.val % 8) + r) h := by
  have ht := lt_N t
  rw [at3, dif_pos ⟨by omega, hr, hh⟩, at3, dif_pos ⟨by omega, by omega, hh⟩]
  show iblk m c 7 t _ = _
  generalize hV : V m c = W
  unfold iblk
  rw [hV]
  blk_point [index_in t]

end Cert.MlaBwd

end
-- ==== Proof.MlaBwd.Sums.lean ====
/- What the accumulators hold after each grid point: sums over the query rows, or the keys, already visited. -/
module

public import proofs.«01_k».proof.Proof.MlaBwd.Heads
public import proofs.«01_k».proof.Proof.MlaBwd.Grid

@[expose] public section

set_option maxRecDepth 16384

noncomputable section

namespace Cert.MlaBwd

open Idealize.ShloMosaic Idealize.ShloMosaic.TcCoe Idealize.SL.Sem Cert.KernelIdeal Cert.KernelIdeal.Gen

variable (m : (ℓ : Loc nD τ sig) → Buf (Elt Ideal) ℓ) (c : Dev nD)

/-- Head `H`'s probability of key `C` for query `R`, of the arrays the call is given. -/
def prob (H R C : ℕ) : EReal :=
  Ideal.exp2 ((∑ l ∈ Finset.range 128, at2 (V m c main_v35) R (128 * H + l) * at2 (V m c main_v38) C (128 * H + l)) - at3 (V m c main_v45) (H / 2) R (H % 2))

/-- The logit's gradient. -/
def dlogit (H R C : ℕ) : EReal :=
  prob m c H R C * ((∑ d ∈ Finset.range 64, at2 (V m c main_v41) R (64 * H + d) * at2 (V m c main_v40) C (64 * H + d)) - at3 (V m c main_v47) (H / 2) R (H % 2))

theorem block_prob (t : Fin cfg0.N) {h r k : ℕ} (hh : h < 2) (hr : r < 1024) (hk : k < 2048) :
    (blocksAt m c t).prob h r k = prob m c (2 * (t.val / 32) + h) (1024 * (t.val % 8) + r) (2048 * (t.val / 8 % 4) + k) := by
  unfold Blocks.prob prob
  rw [block_lse m c t hr hh, show (2 * (t.val / 32) + h) / 2 = t.val / 32 by omega, show (2 * (t.val / 32) + h) % 2 = h by omega]
  congr 2
  refine Finset.sum_congr rfl fun l hl => ?_
  have hl := Finset.mem_range.mp hl
  rw [block_q m c t hr (by omega), block_k m c t hk (by omega), show 256 * (t.val / 32) + (128 * h + l) = 128 * (2 * (t.val / 32) + h) + l by omega]

theorem block_dlogit (t : Fin cfg0.N) {h r k : ℕ} (hh : h < 2) (hr : r < 1024) (hk : k < 2048) :
    (blocksAt m c t).dlogit h r k = dlogit m c (2 * (t.val / 32) + h) (1024 * (t.val % 8) + r) (2048 * (t.val / 8 % 4) + k) := by
  unfold Blocks.dlogit Blocks.dprob dlogit
  rw [block_prob m c t hh hr hk, block_dcol m c t hr hh, show (2 * (t.val / 32) + h) / 2 = t.val / 32 by omega, show (2 * (t.val / 32) + h) % 2 = h by omega]
  congr 2
  refine Finset.sum_congr rfl fun d hd => ?_
  have hd := Finset.mem_range.mp hd
  rw [block_dO m c t hr (by omega), block_v m c t hk (by omega), show 128 * (t.val / 32) + (64 * h + d) = 64 * (2 * (t.val / 32) + h) + d by omega]

theorem zero_dq (R l : ℕ) : at2 (k0_pay5 (F := Ideal)) R l = 0 := by
  unfold at2; split
  · pointwise [k0_pay5]
  · rfl
theorem zero_dkt (a k : ℕ) : at2 (k0_pay6 (F := Ideal)) a k = 0 := by
  unfold at2; split
  · pointwise [k0_pay6]
  · rfl
theorem zero_dvt (a k : ℕ) : at2 (k0_pay7 (F := Ideal)) a k = 0 := by
  unfold at2; split
  · pointwise [k0_pay7]
  · rfl

/-- A sum over the rows of query blocks `0` to `n`, the last block's apart. -/
theorem sum_rows (f : ℕ → EReal) (n : ℕ) :
    (∑ R ∈ Finset.range (1024 * (n + 1)), f R) = (∑ R ∈ Finset.range (1024 * n), f R) + ∑ r ∈ Finset.range 1024, f (1024 * n + r) := by
  rw [show 1024 * (n + 1) = 1024 * n + 1024 by omega, Finset.sum_range_add]

theorem sum_keys (f : ℕ → EReal) (n : ℕ) :
    (∑ C ∈ Finset.range (2048 * (n + 1)), f C) = (∑ C ∈ Finset.range (2048 * n), f C) + ∑ k ∈ Finset.range 2048, f (2048 * n + k) := by
  rw [show 2048 * (n + 1) = 2048 * n + 2048 by omega, Finset.sum_range_add]

/-- A row's keys before and after one grid point: its own query block adds the current key block. -/
theorem row_step (f : ℕ → EReal) (R j i : ℕ) :
    (∑ C ∈ Finset.range (2048 * (j + if R < 1024 * i then 1 else 0)), f C)
        + (if 1024 * i ≤ R ∧ R < 1024 * i + 1024 then ∑ k ∈ Finset.range 2048, f (2048 * j + k) else 0)
      = ∑ C ∈ Finset.range (2048 * (j + if R < 1024 * (i + 1) then 1 else 0)), f C := by
  by_cases h : R < 1024 * i
  · rw [if_pos h, if_neg (by omega), if_pos (by omega), add_zero]
  · by_cases h' : R < 1024 * (i + 1)
    · rw [if_neg h, if_pos (by omega), if_pos h', Nat.add_zero, sum_keys]
    · rw [if_neg h, if_neg (by omega), if_neg h', add_zero]

/-- The values' gradient after point `n`. -/
theorem acc_dvt (n : ℕ) (hn : n < cfg0.N) {a k : ℕ} (ha : a < 128) (hk : k < 2048) :
    at2 (accAt m c (n + 1)).dvt a k
      = ∑ R ∈ Finset.range (1024 * (n % 8 + 1)), at2 (V m c main_v43) (128 * (n / 32) + a) R * prob m c (2 * (n / 32) + a / 64) R (2048 * (n / 8 % 4) + k) := by
  have step : ∀ (t : Fin cfg0.N), at2 (accAt m c (t.val + 1)).dvt a k = at2 (start (grid0.coords t) (accAt m c t.val)).dvt a k
      + ∑ r ∈ Finset.range 1024, at2 (V m c main_v43) (128 * (t.val / 32) + a) (1024 * (t.val % 8) + r) * prob m c (2 * (t.val / 32) + a / 64) (1024 * (t.val % 8) + r) (2048 * (t.val / 8 % 4) + k) := by
    intro t
    rw [accAt_succ]
    show at2 ((blocksAt m c t).dvt2 _) a k = _
    rw [Blocks.at2_dvt _ _ ha hk]
    congr 1
    refine Finset.sum_congr rfl fun r hr => ?_
    have hr := Finset.mem_range.mp hr
    rw [block_doT m c t ha hr, block_prob m c t (by omega) hr hk]
  induction n with
  | zero =>
    rw [step ⟨0, hn⟩, sum_rows]
    congr 1
    show at2 (if firstOfKeys (grid0.coords ⟨0, hn⟩) then _ else _) a k = _
    rw [if_pos ((firstOfKeys_iff ⟨0, hn⟩).mpr rfl), zero_dvt]
    rfl
  | succ n ih =>
    rw [step ⟨n + 1, hn⟩, sum_rows]
    show at2 (if firstOfKeys (grid0.coords ⟨n + 1, hn⟩) then _ else _) a k + _ = _
    by_cases h : (n + 1) % 8 = 0
    · rw [if_pos ((firstOfKeys_iff ⟨n + 1, hn⟩).mpr h), zero_dvt]
      simp only [h, Nat.mul_zero, Finset.range_zero, Finset.sum_empty]
    · rw [if_neg (mt (firstOfKeys_iff ⟨n + 1, hn⟩).mp h)]
      show at2 (accAt m c (n + 1)).dvt a k + _ = _
      rw [ih (by omega), show (n + 1) / 32 = n / 32 by omega, show (n + 1) / 8 % 4 = n / 8 % 4 by omega, show (n + 1) % 8 = n % 8 + 1 by omega]

/-- The keys' gradient after point `n`. -/
theorem acc_dkt (n : ℕ) (hn : n < cfg0.N) {a k : ℕ} (ha : a < 256) (hk : k < 2048) :
    at2 (accAt m c (n + 1)).dkt a k
      = ∑ R ∈ Finset.range (1024 * (n % 8 + 1)), at2 (V m c main_v42) (256 * (n / 32) + a) R * dlogit m c (2 * (n / 32) + a / 128) R (2048 * (n / 8 % 4) + k) := by
  have step : ∀ (t : Fin cfg0.N), at2 (accAt m c (t.val + 1)).dkt a k = at2 (start (grid0.coords t) (accAt m c t.val)).dkt a k
      + ∑ r ∈ Finset.range 1024, at2 (V m c main_v42) (256 * (t.val / 32) + a) (1024 * (t.val % 8) + r) * dlogit m c (2 * (t.val / 32) + a / 128) (1024 * (t.val % 8) + r) (2048 * (t.val / 8 % 4) + k) := by
    intro t
    rw [accAt_succ]
    show at2 ((blocksAt m c t).dkt2 _) a k = _
    rw [Blocks.at2_dkt _ _ ha hk]
    congr 1
    refine Finset.sum_congr rfl fun r hr => ?_
    have hr := Finset.mem_range.mp hr
    rw [block_qT m c t ha hr, block_dlogit m c t (by omega) hr hk]
  induction n with
  | zero =>
    rw [step ⟨0, hn⟩, sum_rows]
    congr 1
    show at2 (if firstOfKeys (grid0.coords ⟨0, hn⟩) then _ else _) a k = _
    rw [if_pos ((firstOfKeys_iff ⟨0, hn⟩).mpr rfl), zero_dkt]
    rfl
  | succ n ih =>
    rw [step ⟨n + 1, hn⟩, sum_rows]
    show at2 (if firstOfKeys (grid0.coords ⟨n + 1, hn⟩) then _ else _) a k + _ = _
    by_cases h : (n + 1) % 8 = 0
    · rw [if_pos ((firstOfKeys_iff ⟨n + 1, hn⟩).mpr h), zero_dkt]
      simp only [h, Nat.mul_zero, Finset.range_zero, Finset.sum_empty]
    · rw [if_neg (mt (firstOfKeys_iff ⟨n + 1, hn⟩).mp h)]
      show at2 (accAt m c (n + 1)).dkt a k + _ = _
      rw [ih (by omega), show (n + 1) / 32 = n / 32 by omega, show (n + 1) / 8 % 4 = n / 8 % 4 by omega, show (n + 1) % 8 = n % 8 + 1 by omega]

/-- The queries' gradient after point `n`: a row has seen the current key block once its query block has been visited. -/
theorem acc_dq (n : ℕ) (hn : n < cfg0.N) {R l : ℕ} (hR : R < 8192) (hl : l < 256) :
    at2 (accAt m c (n + 1)).dq R l
      = ∑ C ∈ Finset.range (2048 * (n / 8 % 4 + if R < 1024 * (n % 8 + 1) then 1 else 0)), dlogit m c (2 * (n / 32) + l / 128) R C * at2 (V m c main_v38) C (256 * (n / 32) + l) := by
  have step : ∀ (t : Fin cfg0.N), at2 (accAt m c (t.val + 1)).dq R l = at2 (start (grid0.coords t) (accAt m c t.val)).dq R l
      + (if 1024 * (t.val % 8) ≤ R ∧ R < 1024 * (t.val % 8) + 1024 then
        ∑ k ∈ Finset.range 2048, dlogit m c (2 * (t.val / 32) + l / 128) R (2048 * (t.val / 8 % 4) + k) * at2 (V m c main_v38) (2048 * (t.val / 8 % 4) + k) (256 * (t.val / 32) + l) else 0) := by
    intro t
    rw [accAt_succ]
    show at2 ((blocksAt m c t).dq2 _ _) R l = _
    rw [Blocks.at2_dq _ _ _ hR hl, coord_2]
    congr 1
    by_cases h : 1024 * (t.val % 8) ≤ R ∧ R < 1024 * (t.val % 8) + 1024
    · rw [if_pos h, if_pos h]
      refine Finset.sum_congr rfl fun k hk => ?_
      have hk := Finset.mem_range.mp hk
      rw [block_k m c t hk hl, block_dlogit m c t (by omega) (by omega) hk, show 1024 * (t.val % 8) + (R - 1024 * (t.val % 8)) = R by omega]
    · rw [if_neg h, if_neg h]
  have close : ∀ (t : Fin cfg0.N), at2 (start (grid0.coords t) (accAt m c t.val)).dq R l
      = (∑ C ∈ Finset.range (2048 * (t.val / 8 % 4 + if R < 1024 * (t.val % 8) then 1 else 0)), dlogit m c (2 * (t.val / 32) + l / 128) R C * at2 (V m c main_v38) C (256 * (t.val / 32) + l)) →
      at2 (accAt m c (t.val + 1)).dq R l
      = ∑ C ∈ Finset.range (2048 * (t.val / 8 % 4 + if R < 1024 * (t.val % 8 + 1) then 1 else 0)), dlogit m c (2 * (t.val / 32) + l / 128) R C * at2 (V m c main_v38) C (256 * (t.val / 32) + l) := by
    intro t h
    rw [step t, h, row_step (fun C => dlogit m c (2 * (t.val / 32) + l / 128) R C * at2 (V m c main_v38) C (256 * (t.val / 32) + l))]
  induction n with
  | zero =>
    refine close ⟨0, hn⟩ ?_
    show at2 (if firstOfPair (grid0.coords ⟨0, hn⟩) then _ else _) R l = _
    rw [if_pos ((firstOfPair_iff ⟨0, hn⟩).mpr rfl), zero_dq]
    dsimp only
    simp
  | succ n ih =>
    refine close ⟨n + 1, hn⟩ ?_
    show at2 (if firstOfPair (grid0.coords ⟨n + 1, hn⟩) then _ else _) R l = _
    dsimp only
    by_cases h0 : (n + 1) % 32 = 0
    · rw [if_pos ((firstOfPair_iff ⟨n + 1, hn⟩).mpr h0), zero_dq, show (n + 1) / 8 % 4 = 0 by omega, show (n + 1) % 8 = 0 by omega]
      simp
    · rw [if_neg (mt (firstOfPair_iff ⟨n + 1, hn⟩).mp h0)]
      show at2 (accAt m c (n + 1)).dq R l = _
      have e : n / 8 % 4 + (if R < 1024 * (n % 8 + 1) then 1 else 0) = (n + 1) / 8 % 4 + (if R < 1024 * ((n + 1) % 8) then 1 else 0) := by
        by_cases h8 : (n + 1) % 8 = 0
        · rw [if_pos (by omega), if_neg (by omega)]
          omega
        · rw [show (n + 1) / 8 % 4 = n / 8 % 4 by omega, show (n + 1) % 8 = n % 8 + 1 by omega]
      rw [ih (by omega), show (n + 1) / 32 = n / 32 by omega, e]

end Cert.MlaBwd

end
-- ==== Proof.MlaBwd.Final.lean ====
/- The three result arrays of the call, each element one sum over all keys or all queries. -/
module

public import proofs.«01_k».proof.Proof.MlaBwd.Sums

@[expose] public section

set_option maxRecDepth 16384

noncomputable section

namespace Cert.MlaBwd

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The queries' gradient at row `R` and lane `L`. -/
def dqSum (R L : ℕ) : EReal := ∑ C ∈ Finset.range 8192, dlogit m c (L / 128) R C * at2 (V m c main_v38) C L

/-- The keys' gradient at lane `A` of key `C`. -/
def dkSum (A C : ℕ) : EReal := ∑ R ∈ Finset.range 8192, at2 (V m c main_v42) A R * dlogit m c (A / 128) R C

/-- The values' gradient at lane `A` of key `C`. -/
def dvSum (A C : ℕ) : EReal := ∑ R ∈ Finset.range 8192, at2 (V m c main_v43) A R * prob m c (A / 64) R C

theorem round_dq (x : S8192x256.Idx → EReal) (y : S8192x256.Idx) : k0_pay4 (F := Ideal) x y = at2 x (y 0).val (y 1).val := by
  obtain ⟨i, j, rfl⟩ : ∃ i j, y = ix2 i j := ⟨y 0, y 1, by funext d; match d with | ⟨0, _⟩ => rfl | ⟨1, _⟩ => rfl⟩
  rw [show ((ix2 i j : S8192x256.Idx) 0).val = i.val from rfl, show ((ix2 i j : S8192x256.Idx) 1).val = j.val from rfl, ← at2_ix]
  pointwise [k0_pay4]

theorem round_dkt (x : S256x2048.Idx → EReal) (y : S256x2048.Idx) : k0_pay2 (F := Ideal) x y = at2 x (y 0).val (y 1).val := by
  obtain ⟨i, j, rfl⟩ : ∃ i j, y = ix2 i j := ⟨y 0, y 1, by funext d; match d with | ⟨0, _⟩ => rfl | ⟨1, _⟩ => rfl⟩
  rw [show ((ix2 i j : S256x2048.Idx) 0).val = i.val from rfl, show ((ix2 i j : S256x2048.Idx) 1).val = j.val from rfl, ← at2_ix]
  pointwise [k0_pay2]

theorem round_dvt (x : S128x2048.Idx → EReal) (y : S128x2048.Idx) : k0_pay3 (F := Ideal) x y = at2 x (y 0).val (y 1).val := by
  obtain ⟨i, j, rfl⟩ : ∃ i j, y = ix2 i j := ⟨y 0, y 1, by funext d; match d with | ⟨0, _⟩ => rfl | ⟨1, _⟩ => rfl⟩
  rw [show ((ix2 i j : S128x2048.Idx) 0).val = i.val from rfl, show ((ix2 i j : S128x2048.Idx) 1).val = j.val from rfl, ← at2_ix]
  pointwise [k0_pay3]

theorem out_dq : (dats m 0 c).arrAt 8 cfg0.N = fun x : S8192x1024.Idx => dqSum m c (x 0).val (x 1).val := by
  refine (dats m 0 c).arrAt_eq_of_covers 8 _ (by decide +kernel) fun t hf y => ?_
  have ht := lt_N t
  have hl := (flush0_8 t).mp hf
  have h0 : (y 0).val < 8192 := (y 0).isLt
  have h1 : (y 1).val < 256 := (y 1).isLt
  blk_simp [(index_out t).1]
  rw [after_8]
  refine (round_dq _ _).trans ?_
  rw [acc_dq m c t.val t.isLt h0 h1, if_pos (by omega), show 2048 * (t.val / 8 % 4 + 1) = 8192 by omega]
  unfold dqSum
  rw [show (t.val / 32 * 256 + (y 1).val) / 128 = 2 * (t.val / 32) + (y 1).val / 128 by omega, Nat.mul_comm 256]

theorem out_dkt : (dats m 0 c).arrAt 9 cfg0.N = fun x : S1024x8192.Idx => dkSum m c (x 0).val (x 1).val := by
  refine (dats m 0 c).arrAt_eq_of_covers 9 _ (by decide +kernel) fun t hf y => ?_
  have ht := lt_N t
  have hl := (flush0_9 t).mp hf
  have h0 : (y 0).val < 256 := (y 0).isLt
  have h1 : (y 1).val < 2048 := (y 1).isLt
  blk_simp [(index_out t).2.1]
  rw [after_9]
  refine (round_dkt _ _).trans ?_
  rw [acc_dkt m c t.val t.isLt h0 h1, show 1024 * (t.val % 8 + 1) = 8192 by omega]
  unfold dkSum
  rw [show (t.val / 32 * 256 + (y 0).val) / 128 = 2 * (t.val / 32) + (y 0).val / 128 by omega, Nat.mul_comm 256, Nat.mul_comm 2048]

theorem out_dvt : (dats m 0 c).arrAt 10 cfg0.N = fun x : S512x8192.Idx => dvSum m c (x 0).val (x 1).val := by
  refine (dats m 0 c).arrAt_eq_of_covers 10 _ (by decide +kernel) fun t hf y => ?_
  have ht := lt_N t
  have hl := (flush0_10 t).mp hf
  have h0 : (y 0).val < 128 := (y 0).isLt
  have h1 : (y 1).val < 2048 := (y 1).isLt
  blk_simp [(index_out t).2.2]
  rw [after_10]
  refine (round_dvt _ _).trans ?_
  rw [acc_dvt m c t.val t.isLt h0 h1, show 1024 * (t.val % 8 + 1) = 8192 by omega]
  unfold dvSum
  rw [show (t.val / 32 * 128 + (y 0).val) / 64 = 2 * (t.val / 32) + (y 0).val / 64 by omega, Nat.mul_comm 128, Nat.mul_comm 2048]

end Cert.MlaBwd

end
-- ==== Proof.MlaBwd.Host.lean ====
/- The arrays the call is given, as the operations before it compute them. -/
module

public import proofs.«01_k».proof.Proof.MlaBwd.Run
public import proofs.«01_k».proof.Proof.MlaBwd.Nat

@[expose] public section

set_option maxRecDepth 16384
set_option maxHeartbeats 4000000

noncomputable section

namespace Cert.MlaBwd

open Idealize.ShloMosaic Idealize.ShloMosaic.TcCoe Idealize.SL.Sem Cert.KernelIdeal Cert.KernelIdeal.Gen

namespace Given

variable (x0 x1 : FVec Ideal S8192x8x96 .f32) (x2 : FVec Ideal S8192x8x64 .f32) (x3 : FVec Ideal S8192x512 .f32)

/-- The scaled logits. -/
def logits : FVec Ideal S8x8192x8192 .f32 :=
  mulf (addf
    (Host.dotGeneral dot_S8192x8x64_S8192x8x64_S8x8192x8192_2_2_0_0_1_1 none (extractStridedSlice S8192x8x64 ![0, 0, 0] x0 slices_S8192x8x96_S8192x8x64_0_0_0) (extractStridedSlice S8192x8x64 ![0, 0, 0] x1 slices_S8192x8x96_S8192x8x64_0_0_0))
    (Host.dotGeneral dot_S8192x8x32_S8192x8x32_S8x8192x8192_2_2_0_0_1_1 none (extractStridedSlice S8192x8x32 ![0, 0, 64] x0 slices_S8192x8x96_S8192x8x32_0_0_64) (extractStridedSlice S8192x8x32 ![0, 0, 64] x1 slices_S8192x8x96_S8192x8x32_0_0_64)))
    (broadcastInDim S8x8192x8192 ![] bcast_S_S8x8192x8192 (constant S_ .f32 0x3DD105EC#32))

/-- The largest logit of each query. -/
def top : FVec Ideal S8x8192 .f32 := Host.reduce FloatOps.maximumf (logits x0 x1) (constant S_ .f32 0xFF800000#32) reducesTo_S8x8192x8192_S8x8192_d2 h_S_

/-- … one per row of the logits. -/
def topCol : FVec Ideal S8x8192x1 .f32 := broadcastInDim S8x8192x1 ![0, 1] bcast_S8x8192_S8x8192x1_0_1 (top x0 x1)

/-- The exponentials of the shifted logits. -/
def exps : FVec Ideal S8x8192x8192 .f32 := Host.exp (subf (logits x0 x1) (broadcastInDim S8x8192x8192 ![0, 1, 2] bcast_S8x8192x1_S8x8192x8192_0_1_2 (topCol x0 x1)))

/-- Their sum over the keys. -/
def mass : FVec Ideal S8x8192x1 .f32 :=
  broadcastInDim S8x8192x1 ![0, 1] bcast_S8x8192_S8x8192x1_0_1 (Host.reduceAdd (exps x0 x1) (constant S_ .f32 0x00000000#32) reducesTo_S8x8192x8192_S8x8192_d2 h_S_)

/-- The probabilities. -/
def probs : FVec Ideal S8x8192x8192 .f32 := Host.divf (exps x0 x1) (broadcastInDim S8x8192x8192 ![0, 1, 2] bcast_S8x8192x1_S8x8192x8192_0_1_2 (mass x0 x1))

/-- The attention's output. -/
def out : FVec Ideal S8192x8x64 .f32 :=
  transpose S8192x8x64 [2, 0, 1] (Host.dotGeneral dot_S8192x8x64_S8x8192x8192_S8x64x8192_0_2_2_1_1_0 none x2 (probs x0 x1)) transposes_S8x64x8192_S8192x8x64_2_0_1

/-- The natural logarithm of two. -/
def ln2 : FVec Ideal S_ .f32 := Host.log (constant S_ .f32 0x40000000#32)

/-- The base-two logarithm of the softmax's denominator. -/
def lse : FVec Ideal S4x8192x2 .f32 :=
  transpose S4x8192x2 [0, 2, 1] (shapeCast _ (shapeCast S8x8192 (Host.divf (addf (topCol x0 x1) (Host.log (mass x0 x1))) (broadcastInDim S8x8192x1 ![] bcast_S_S8x8192x1 ln2)) shapeCasts_S8x8192x1_S8x8192) shapeCasts_S8x8192_S4x2x8192) transposes_S4x2x8192_S4x8192x2_0_2_1

/-- The output's gradient times the output. -/
def prods : FVec Ideal S8192x8x64 .f32 := mulf (shapeCast S8192x8x64 x3 shapeCasts_S8192x512_S8192x8x64) (out x0 x1 x2)

/-- … summed over each head's lanes. -/
def sums : FVec Ideal S8192x8 .f32 := Host.reduceAdd (prods x0 x1 x2 x3) (constant S_ .f32 0x00000000#32) reducesTo_S8192x8x64_S8192x8_d2 h_S_

/-- … laid out by pairs of heads. -/
def delta : FVec Ideal S4x8192x2 .f32 :=
  transpose S4x8192x2 [1, 0, 2] (shapeCast S8192x4x2 (sums x0 x1 x2 x3) shapeCasts_S8192x8_S8192x4x2) transposes_S8192x4x2_S4x8192x2_1_0_2

/-- The queries scaled and padded to whole lane tiles. -/
def q : FVec Ideal S8192x1024 .bf16 :=
  truncf .bf16 (shapeCast S8192x1024 (pad S8192x8x128 ![0, 0, 0] ![0, 0, 32] ![0, 0, 0] (Host.divf (mulf x0 (broadcastInDim S8192x8x96 ![] bcast_S_S8192x8x96 (constant S_ .f32 0x3DD105EC#32))) (broadcastInDim S8192x8x96 ![] bcast_S_S8192x8x96 ln2)) (sitofp .f32 (constantI S_ 32 0#32)) pads_S8192x8x96_S8192x8x128_000_000_0320 h_S_) shapeCasts_S8192x8x128_S8192x1024) bitsLt_bf16_f32

/-- The keys padded likewise. -/
def k : FVec Ideal S8192x1024 .bf16 :=
  truncf .bf16 (shapeCast S8192x1024 (pad S8192x8x128 ![0, 0, 0] ![0, 0, 32] ![0, 0, 0] x1 (sitofp .f32 (constantI S_ 32 0#32)) pads_S8192x8x96_S8192x8x128_000_000_0320 h_S_) shapeCasts_S8192x8x128_S8192x1024) bitsLt_bf16_f32

/-- The values, one row per key. -/
def v : FVec Ideal S8192x512 .bf16 := truncf .bf16 (shapeCast S8192x512 x2 shapeCasts_S8192x8x64_S8192x512) bitsLt_bf16_f32

/-- The output's gradient. -/
def dO : FVec Ideal S8192x512 .bf16 := truncf .bf16 x3 bitsLt_bf16_f32

/-- The transposes the call multiplies by. -/
def qT : FVec Ideal S1024x8192 .bf16 := transpose S1024x8192 [1, 0] (q x0) transposes_S8192x1024_S1024x8192_1_0
def doT : FVec Ideal S512x8192 .bf16 := transpose S512x8192 [1, 0] (dO x3) transposes_S8192x512_S512x8192_1_0

end Given

variable (m : (ℓ : Loc nD τ sig) → Buf (Elt Ideal) ℓ) (c : Dev nD)

theorem V_q : V m c main_v35 = Given.q (m (c, main_arg0)) := by
  unfold V
  simp only [List.flatten, hostOps0, hostOps0_1, hostOps0_2, hostOps0_3, hostOps0_4, List.append, List.cons_append, List.nil_append, List.append_nil, StableHlo.TRef.binary, StableHlo.TRef.unary, StableHlo.TRef.toBuf, StableHlo.TRef.ofBuf, cast_eq]
  after_results_simp <;> rfl

theorem V_k : V m c main_v38 = Given.k (m (c, main_arg1)) := by
  unfold V
  simp only [List.flatten, hostOps0, hostOps0_1, hostOps0_2, hostOps0_3, hostOps0_4, List.append, List.cons_append, List.nil_append, List.append_nil, StableHlo.TRef.binary, StableHlo.TRef.unary, StableHlo.TRef.toBuf, StableHlo.TRef.ofBuf, cast_eq]
  after_results_simp <;> rfl

theorem V_v : V m c main_v40 = Given.v (m (c, main_arg2)) := by
  unfold V
  simp only [List.flatten, hostOps0, hostOps0_1, hostOps0_2, hostOps0_3, hostOps0_4, List.append, List.cons_append, List.nil_append, List.append_nil, StableHlo.TRef.binary, StableHlo.TRef.unary, StableHlo.TRef.toBuf, StableHlo.TRef.ofBuf, cast_eq]
  after_results_simp <;> rfl

theorem V_dO : V m c main_v41 = Given.dO (m (c, main_arg3)) := by
  unfold V
  simp only [List.flatten, hostOps0, hostOps0_1, hostOps0_2, hostOps0_3, hostOps0_4, List.append, List.cons_append, List.nil_append, List.append_nil, StableHlo.TRef.binary, StableHlo.TRef.unary, StableHlo.TRef.toBuf, StableHlo.TRef.ofBuf, cast_eq]
  after_results_simp <;> rfl

theorem V_qT : V m c main_v42 = Given.qT (m (c, main_arg0)) := by
  unfold V
  simp only [List.flatten, hostOps0, hostOps0_1, hostOps0_2, hostOps0_3, hostOps0_4, List.append, List.cons_append, List.nil_append, List.append_nil, StableHlo.TRef.binary, StableHlo.TRef.unary, StableHlo.TRef.toBuf, StableHlo.TRef.ofBuf, cast_eq]
  after_results_simp <;> rfl

theorem V_doT : V m c main_v43 = Given.doT (m (c, main_arg3)) := by
  unfold V
  simp only [List.flatten, hostOps0, hostOps0_1, hostOps0_2, hostOps0_3, hostOps0_4, List.append, List.cons_append, List.nil_append, List.append_nil, StableHlo.TRef.binary, StableHlo.TRef.unary, StableHlo.TRef.toBuf, StableHlo.TRef.ofBuf, cast_eq]
  after_results_simp <;> rfl

theorem V_lse : V m c main_v45 = Given.lse (m (c, main_arg0)) (m (c, main_arg1)) := by
  unfold V
  simp only [List.flatten, hostOps0, hostOps0_1, hostOps0_2, hostOps0_3, hostOps0_4, List.append, List.cons_append, List.nil_append, List.append_nil, StableHlo.TRef.binary, StableHlo.TRef.unary, StableHlo.TRef.toBuf, StableHlo.TRef.ofBuf, cast_eq]
  after_results_simp <;> rfl

theorem V_delta : V m c main_v47 = Given.delta (m (c, main_arg0)) (m (c, main_arg1)) (m (c, main_arg2)) (m (c, main_arg3)) := by
  unfold V
  simp only [List.flatten, hostOps0, hostOps0_1, hostOps0_2, hostOps0_3, hostOps0_4, List.append, List.cons_append, List.nil_append, List.append_nil, StableHlo.TRef.binary, StableHlo.TRef.unary, StableHlo.TRef.toBuf, StableHlo.TRef.ofBuf, cast_eq]
  after_results_simp <;> rfl

end Cert.MlaBwd

end
-- ==== Proof.MlaBwd.GivenRead.lean ====
/- The arrays the call is given, read at indices. -/
module

public import proofs.«01_k».proof.Proof.MlaBwd.Host
public import proofs.«01_k».proof.Proof.MlaBwd.Reals

@[expose] public section

set_option maxRecDepth 16384
set_option maxHeartbeats 1000000

noncomputable section

namespace Cert.MlaBwd

open Idealize.ShloMosaic Idealize.ShloMosaic.TcCoe Idealize.SL.Sem Cert.KernelIdeal Cert.KernelIdeal.Gen

namespace Given

variable (x0 x1 : FVec Ideal S8192x8x96 .f32) (x2 : FVec Ideal S8192x8x64 .f32) (x3 : FVec Ideal S8192x512 .f32)

theorem logits_at (h : Fin 8) (r c : Fin 8192) : logits x0 x1 (ix3 h r c)
    = ((∑ x : Fin 64, x0 (ix3 r h ⟨x.val, by omega⟩) * x1 (ix3 c h ⟨x.val, by omega⟩)) + ∑ x : Fin 32, x0 (ix3 r h ⟨64 + x.val, by omega⟩) * x1 (ix3 c h ⟨64 + x.val, by omega⟩)) * Ideal.ofBits .f32 0x3DD105EC#32 := by
  pointwise [logits]

theorem topCol_at (h : Fin 8) (r : Fin 8192) : topCol x0 x1 (ix3 h r 0) = top x0 x1 (ix2 h r) := by
  unfold topCol
  generalize top x0 x1 = y
  pointwise []

theorem exps_at (h : Fin 8) (r c : Fin 8192) : exps x0 x1 (ix3 h r c) = Ideal.exp (logits x0 x1 (ix3 h r c) - topCol x0 x1 (ix3 h r 0)) := by
  unfold exps
  generalize topCol x0 x1 = y
  generalize logits x0 x1 = z
  pointwise []

theorem mass_at (h : Fin 8) (r : Fin 8192) : mass x0 x1 (ix3 h r 0) = ∑ c : Fin 8192, exps x0 x1 (ix3 h r c) := by
  unfold mass
  generalize exps x0 x1 = y
  pointwise []

theorem probs_at (h : Fin 8) (r c : Fin 8192) : probs x0 x1 (ix3 h r c) = Ideal.div (exps x0 x1 (ix3 h r c)) (mass x0 x1 (ix3 h r 0)) := by
  unfold probs
  generalize exps x0 x1 = y
  generalize mass x0 x1 = z
  pointwise []

/-- The weighted values before their axes are put back. -/
theorem weighted_at (y : FVec Ideal S8x8192x8192 .f32) (h : Fin 8) (d : Fin 64) (r : Fin 8192) :
    Host.dotGeneral dot_S8192x8x64_S8x8192x8192_S8x64x8192_0_2_2_1_1_0 none x2 y (ix3 h d r) = ∑ c : Fin 8192, x2 (ix3 c h d) * y (ix3 h r c) := by
  pointwise []

theorem out_at (r : Fin 8192) (h : Fin 8) (d : Fin 64) : out x0 x1 x2 (ix3 r h d) = ∑ c : Fin 8192, x2 (ix3 c h d) * probs x0 x1 (ix3 h r c) := by
  rw [← weighted_at]
  unfold out
  generalize Host.dotGeneral dot_S8192x8x64_S8x8192x8192_S8x64x8192_0_2_2_1_1_0 none x2 (probs x0 x1) = y
  pointwise []

/-- The base-two logarithm before it is laid out by pairs of heads. -/
theorem lse_col (y z : FVec Ideal S8x8192x1 .f32) (h : Fin 8) (r : Fin 8192) :
    Host.divf (addf y (Host.log z)) (broadcastInDim S8x8192x1 ![] bcast_S_S8x8192x1 ln2) (ix3 h r 0)
      = Ideal.div (y (ix3 h r 0) + Ideal.log (z (ix3 h r 0))) (Ideal.log (Ideal.ofBits .f32 0x40000000#32)) := by
  pointwise [ln2]

theorem lse_at (p : Fin 4) (r : Fin 8192) (h : Fin 2) : lse x0 x1 (ix3 p r h)
    = Ideal.div (topCol x0 x1 (ix3 ⟨p.val * 2 + h.val, by omega⟩ r 0) + Ideal.log (mass x0 x1 (ix3 ⟨p.val * 2 + h.val, by omega⟩ r 0))) (Ideal.log (Ideal.ofBits .f32 0x40000000#32)) := by
  rw [← lse_col]
  unfold lse
  generalize Host.divf (addf (topCol x0 x1) (Host.log (mass x0 x1))) (broadcastInDim S8x8192x1 ![] bcast_S_S8x8192x1 ln2) = y
  pointwise []

theorem prods_at (r : Fin 8192) (h : Fin 8) (d : Fin 64) : prods x0 x1 x2 x3 (ix3 r h d) = x3 (ix2 r ⟨h.val * 64 + d.val, by omega⟩) * out x0 x1 x2 (ix3 r h d) := by
  unfold prods
  generalize out x0 x1 x2 = y
  pointwise []

theorem sums_at (r : Fin 8192) (h : Fin 8) : sums x0 x1 x2 x3 (ix2 r h) = ∑ d : Fin 64, prods x0 x1 x2 x3 (ix3 r h d) := by
  unfold sums
  generalize prods x0 x1 x2 x3 = y
  pointwise []

theorem delta_at (p : Fin 4) (r : Fin 8192) (h : Fin 2) : delta x0 x1 x2 x3 (ix3 p r h) = sums x0 x1 x2 x3 (ix2 r ⟨p.val * 2 + h.val, by omega⟩) := by
  unfold delta
  generalize sums x0 x1 x2 x3 = y
  pointwise []

theorem q_at (r : Fin 8192) (l : Fin 1024) : q x0 (ix2 r l)
    = if e : l.val / 128 < 8 ∧ l.val % 128 < 96 then
        Ideal.div (x0 (ix3 r ⟨l.val / 128, e.1⟩ ⟨l.val % 128, e.2⟩) * Ideal.ofBits .f32 0x3DD105EC#32) (Ideal.log (Ideal.ofBits .f32 0x40000000#32))
      else FloatOps.sitofp (F := Ideal) .f32 (0#32 : BitVec 32) := by
  pointwise [q, ln2]

theorem k_at (r : Fin 8192) (l : Fin 1024) : k x1 (ix2 r l)
    = if e : l.val / 128 < 8 ∧ l.val % 128 < 96 then x1 (ix3 r ⟨l.val / 128, e.1⟩ ⟨l.val % 128, e.2⟩) else FloatOps.sitofp (F := Ideal) .f32 (0#32 : BitVec 32) := by
  pointwise [k]

theorem v_at (r : Fin 8192) (l : Fin 512) : v x2 (ix2 r l) = x2 (ix3 r ⟨l.val / 64, by omega⟩ ⟨l.val % 64, by omega⟩) := by
  pointwise [v]

theorem dO_at (r : Fin 8192) (l : Fin 512) : dO x3 (ix2 r l) = x3 (ix2 r l) := by
  pointwise [dO]

theorem qT_at (r : Fin 8192) (l : Fin 1024) : qT x0 (ix2 l r) = q x0 (ix2 r l) := by
  unfold qT
  generalize q x0 = y
  pointwise []

theorem doT_at (r : Fin 8192) (l : Fin 512) : doT x3 (ix2 l r) = x3 (ix2 r l) := by
  pointwise [doT, dO]

/-- The largest logit is a real if all are. -/
theorem top_real (hs : ∀ (h : Fin 8) (r c : Fin 8192), ∃ s : ℝ, logits x0 x1 (ix3 h r c) = (s : EReal)) (h : Fin 8) (r : Fin 8192) :
    ∃ t : ℝ, top x0 x1 (ix2 h r) = (t : EReal) := by
  unfold top
  generalize logits x0 x1 = y at hs
  pointwise []
  rw [negInf_f32]
  exact fold_max_real (by norm_num) _ fun c => hs h r c

end Given

end Cert.MlaBwd

end
-- ==== Proof.MlaBwd.GivenReal.lean ====
/- The arrays the call is given at real arguments: the softmax shifted by whatever real the largest logit is. -/
module

public import proofs.«01_k».proof.Proof.MlaBwd.GivenRead
public import proofs.«01_k».proof.Proof.MlaBwd.Are

@[expose] public section

set_option maxRecDepth 16384
set_option maxHeartbeats 1000000

noncomputable section

namespace Cert.MlaBwd

open Idealize.ShloMosaic Idealize.ShloMosaic.TcCoe Idealize.SL.Sem Cert.KernelIdeal Cert.KernelIdeal.Gen

namespace Given

variable {x0 x1 : FVec Ideal S8192x8x96 .f32} {x2 : FVec Ideal S8192x8x64 .f32} {x3 : FVec Ideal S8192x512 .f32} {D : Operands} (A : D.Are x0 x1 x2 x3)
include A

theorem logits_real (h : Fin 8) (r c : Fin 8192) : logits x0 x1 (ix3 h r c) = (D.logit h.val r.val c.val : EReal) := by
  have e1 : (∑ x : Fin 64, x0 (ix3 r h ⟨x.val, by omega⟩) * x1 (ix3 c h ⟨x.val, by omega⟩))
      = ((∑ l ∈ Finset.range 64, D.q r.val h.val l * D.k c.val h.val l : ℝ) : EReal) :=
    sum_mul_real _ _ (fun l => A.q r h ⟨l.val, by omega⟩) (fun l => A.k c h ⟨l.val, by omega⟩)
  have e2 : (∑ x : Fin 32, x0 (ix3 r h ⟨64 + x.val, by omega⟩) * x1 (ix3 c h ⟨64 + x.val, by omega⟩))
      = ((∑ l ∈ Finset.range 32, D.q r.val h.val (64 + l) * D.k c.val h.val (64 + l) : ℝ) : EReal) :=
    sum_mul_real (fun l => D.q r.val h.val (64 + l)) (fun l => D.k c.val h.val (64 + l)) (fun l => A.q r h ⟨64 + l.val, by omega⟩) (fun l => A.k c h ⟨64 + l.val, by omega⟩)
  rw [logits_at, A.scale, e1, e2, ← EReal.coe_add, ← EReal.coe_mul]
  rfl

theorem softmax_real (h : Fin 8) (r : Fin 8192) : ∃ t : ℝ, topCol x0 x1 (ix3 h r 0) = (t : EReal)
    ∧ (∀ c : Fin 8192, exps x0 x1 (ix3 h r c) = (Real.exp (D.logit h.val r.val c.val - t) : EReal))
    ∧ mass x0 x1 (ix3 h r 0) = ((Real.exp (-t) * D.mass h.val r.val : ℝ) : EReal) := by
  obtain ⟨t, ht⟩ := top_real x0 x1 (fun h r c => ⟨_, logits_real A h r c⟩) h r
  have e : ∀ c : Fin 8192, exps x0 x1 (ix3 h r c) = (Real.exp (D.logit h.val r.val c.val - t) : EReal) := fun c => by
    rw [exps_at, logits_real A, topCol_at, ht, sub_real, Ideal.exp_coe]
  refine ⟨t, by rw [topCol_at, ht], e, ?_⟩
  rw [mass_at, sum_fin _ (fun c => Real.exp (D.logit h.val r.val c - t)) e, D.shifted_mass]

theorem probs_real (h : Fin 8) (r c : Fin 8192) : probs x0 x1 (ix3 h r c) = (D.prob h.val r.val c.val : EReal) := by
  obtain ⟨t, _, he, hm⟩ := softmax_real A h r
  rw [probs_at, he, hm, div_real (mul_pos (Real.exp_pos _) (D.mass_pos _ _)).ne', D.shifted_prob]

theorem out_real (r : Fin 8192) (h : Fin 8) (d : Fin 64) : out x0 x1 x2 (ix3 r h d) = (D.out r.val h.val d.val : EReal) := by
  rw [out_at, sum_mul_real (fun c => D.v c h.val d.val) (fun c => D.prob h.val r.val c) (fun c => A.v _ _ _) (fun c => probs_real A _ _ _)]
  rfl

theorem lse_real (p : Fin 4) (r : Fin 8192) (h : Fin 2) :
    lse x0 x1 (ix3 p r h) = ((Real.log (D.mass (p.val * 2 + h.val) r.val) / Real.log 2 : ℝ) : EReal) := by
  obtain ⟨t, ht, _, hm⟩ := softmax_real A ⟨p.val * 2 + h.val, by omega⟩ r
  rw [lse_at, ht, hm, log_real (mul_pos (Real.exp_pos _) (D.mass_pos _ _)), ← EReal.coe_add, D.shifted_lse, log_two_f32,
    div_real (Real.log_pos (by norm_num)).ne']

theorem delta_real (p : Fin 4) (r : Fin 8192) (h : Fin 2) : delta x0 x1 x2 x3 (ix3 p r h) = (D.delta r.val (p.val * 2 + h.val) : EReal) := by
  have e : D.delta r.val (p.val * 2 + h.val) = ∑ d ∈ Finset.range 64, D.g r.val ((p.val * 2 + h.val) * 64 + d) * D.out r.val (p.val * 2 + h.val) d := by
    unfold Operands.delta
    simp only [Nat.mul_comm 64]
  rw [delta_at, sums_at, e]
  exact sum_fin _ _ fun d => by rw [prods_at, A.g, out_real A, ← EReal.coe_mul]

/-! ## The call's operands read at natural numbers -/

theorem q_real {R H l : ℕ} (hR : R < 8192) (hH : H < 8) (hl : l < 128) :
    at2 (a := 8192) (b := 1024) (q x0) R (128 * H + l) = ((if l < 96 then D.q R H l * D.scale / Real.log 2 else 0 : ℝ) : EReal) := by
  refine (at2_ix (a := 8192) (b := 1024) (q x0) ⟨R, hR⟩ ⟨128 * H + l, by omega⟩).symm.trans ((q_at x0 ⟨R, hR⟩ ⟨128 * H + l, by omega⟩).trans ?_)
  by_cases h9 : l < 96
  · rw [dif_pos ⟨by simp only []; omega, by simp only []; omega⟩, A.q, A.scale, ← EReal.coe_mul, log_two_f32, div_real (Real.log_pos (by norm_num)).ne', if_pos h9]
    simp only []
    rw [show (128 * H + l) / 128 = H by omega, show (128 * H + l) % 128 = l by omega]
  · rw [dif_neg (by simp only []; omega), if_neg h9, pad_zero]

theorem k_real {R H l : ℕ} (hR : R < 8192) (hH : H < 8) (hl : l < 128) :
    at2 (a := 8192) (b := 1024) (k x1) R (128 * H + l) = ((if l < 96 then D.k R H l else 0 : ℝ) : EReal) := by
  refine (at2_ix (a := 8192) (b := 1024) (k x1) ⟨R, hR⟩ ⟨128 * H + l, by omega⟩).symm.trans ((k_at x1 ⟨R, hR⟩ ⟨128 * H + l, by omega⟩).trans ?_)
  by_cases h9 : l < 96
  · rw [dif_pos ⟨by simp only []; omega, by simp only []; omega⟩, A.k, if_pos h9]
    simp only []
    rw [show (128 * H + l) / 128 = H by omega, show (128 * H + l) % 128 = l by omega]
  · rw [dif_neg (by simp only []; omega), if_neg h9, pad_zero]

theorem qT_real {R H l : ℕ} (hR : R < 8192) (hH : H < 8) (hl : l < 128) :
    at2 (a := 1024) (b := 8192) (qT x0) (128 * H + l) R = ((if l < 96 then D.q R H l * D.scale / Real.log 2 else 0 : ℝ) : EReal) := by
  refine (at2_ix (a := 1024) (b := 8192) (qT x0) ⟨128 * H + l, by omega⟩ ⟨R, hR⟩).symm.trans ((qT_at x0 ⟨R, hR⟩ ⟨128 * H + l, by omega⟩).trans ?_)
  exact (at2_ix (a := 8192) (b := 1024) (q x0) ⟨R, hR⟩ ⟨128 * H + l, by omega⟩).trans (q_real A hR hH hl)

theorem v_real {R H d : ℕ} (hR : R < 8192) (hH : H < 8) (hd : d < 64) : at2 (a := 8192) (b := 512) (v x2) R (64 * H + d) = (D.v R H d : EReal) := by
  refine (at2_ix (a := 8192) (b := 512) (v x2) ⟨R, hR⟩ ⟨64 * H + d, by omega⟩).symm.trans ((v_at x2 ⟨R, hR⟩ ⟨64 * H + d, by omega⟩).trans ?_)
  rw [A.v]
  simp only []
  rw [show (64 * H + d) / 64 = H by omega, show (64 * H + d) % 64 = d by omega]

theorem dO_real {R L : ℕ} (hR : R < 8192) (hL : L < 512) : at2 (a := 8192) (b := 512) (dO x3) R L = (D.g R L : EReal) := by
  refine (at2_ix (a := 8192) (b := 512) (dO x3) ⟨R, hR⟩ ⟨L, hL⟩).symm.trans ((dO_at x3 ⟨R, hR⟩ ⟨L, hL⟩).trans ?_)
  exact A.g _ _

theorem doT_real {R L : ℕ} (hR : R < 8192) (hL : L < 512) : at2 (a := 512) (b := 8192) (doT x3) L R = (D.g R L : EReal) := by
  refine (at2_ix (a := 512) (b := 8192) (doT x3) ⟨L, hL⟩ ⟨R, hR⟩).symm.trans ((doT_at x3 ⟨R, hR⟩ ⟨L, hL⟩).trans ?_)
  exact A.g _ _

theorem lse_nat {R H : ℕ} (hR : R < 8192) (hH : H < 8) :
    at3 (a := 4) (b := 8192) (c := 2) (lse x0 x1) (H / 2) R (H % 2) = ((Real.log (D.mass H R) / Real.log 2 : ℝ) : EReal) := by
  refine (at3_ix (a := 4) (b := 8192) (c := 2) (lse x0 x1) ⟨H / 2, by omega⟩ ⟨R, hR⟩ ⟨H % 2, by omega⟩).symm.trans ((lse_real A ⟨H / 2, by omega⟩ ⟨R, hR⟩ ⟨H % 2, by omega⟩).trans ?_)
  simp only []
  rw [show H / 2 * 2 + H % 2 = H by omega]

theorem delta_nat {R H : ℕ} (hR : R < 8192) (hH : H < 8) :
    at3 (a := 4) (b := 8192) (c := 2) (delta x0 x1 x2 x3) (H / 2) R (H % 2) = (D.delta R H : EReal) := by
  refine (at3_ix (a := 4) (b := 8192) (c := 2) (delta x0 x1 x2 x3) ⟨H / 2, by omega⟩ ⟨R, hR⟩ ⟨H % 2, by omega⟩).symm.trans ((delta_real A ⟨H / 2, by omega⟩ ⟨R, hR⟩ ⟨H % 2, by omega⟩).trans ?_)
  simp only []
  rw [show H / 2 * 2 + H % 2 = H by omega]

end Given

end Cert.MlaBwd

end
-- ==== Proof.MlaBwd.KernelReal.lean ====
/- The three result arrays of the call at real arguments. -/
module

public import proofs.«01_k».proof.Proof.MlaBwd.Final
public import proofs.«01_k».proof.Proof.MlaBwd.GivenReal

@[expose] public section

set_option maxRecDepth 16384
set_option maxHeartbeats 1000000

noncomputable section

namespace Cert.MlaBwd

open Idealize.ShloMosaic Idealize.ShloMosaic.TcCoe Idealize.SL.Sem Cert.KernelIdeal Cert.KernelIdeal.Gen

variable {m : (ℓ : Loc nD τ sig) → Buf (Elt Ideal) ℓ} {c : Dev nD} {D : Operands}
  (A : D.Are (m (c, main_arg0)) (m (c, main_arg1)) (m (c, main_arg2)) (m (c, main_arg3)))
include A

theorem prob_real {H R C : ℕ} (hH : H < 8) (hR : R < 8192) (hC : C < 8192) : prob m c H R C = (D.prob H R C : EReal) := by
  have e : (∑ l ∈ Finset.range 128, at2 (a := 8192) (b := 1024) (Given.q (m (c, main_arg0))) R (128 * H + l) * at2 (a := 8192) (b := 1024) (Given.k (m (c, main_arg1))) C (128 * H + l))
      = ((D.logit H R C / Real.log 2 : ℝ) : EReal) := by
    rw [sum_range_coe _ (fun l => (if l < 96 then D.q R H l * D.scale / Real.log 2 else 0) * (if l < 96 then D.k C H l else 0))
      (fun l hl => by rw [Given.q_real A hR hH hl, Given.k_real A hC hH hl, EReal.coe_mul]),
      sum_padded (fun l => D.q R H l * D.scale / Real.log 2) (fun l => D.k C H l)]
    unfold Operands.logit
    rw [add_mul, add_div, Finset.sum_mul, Finset.sum_mul, Finset.sum_div, Finset.sum_div]
    exact congrArg _ (congrArg₂ (· + ·) (Finset.sum_congr rfl fun l _ => by ring) (Finset.sum_congr rfl fun l _ => by ring))
  unfold prob
  rw [V_q, V_k, V_lse, e, Given.lse_nat A hR hH, sub_real, Ideal.exp2_coe, D.rpow_prob]

theorem dlogit_real {H R C : ℕ} (hH : H < 8) (hR : R < 8192) (hC : C < 8192) : dlogit m c H R C = (D.dlogit H R C : EReal) := by
  unfold dlogit
  rw [prob_real A hH hR hC, V_dO, V_v, V_delta, Given.delta_nat A hR hH,
    sum_range_coe _ (fun d => D.g R (64 * H + d) * D.v C H d) (fun d hd => by rw [Given.dO_real A hR (by omega), Given.v_real A hC hH hd, EReal.coe_mul]),
    sub_real, ← EReal.coe_mul]
  rfl

theorem dqSum_real {R L : ℕ} (hR : R < 8192) (hL : L < 1024) :
    dqSum m c R L = ((if L % 128 < 96 then D.dq R (L / 128) (L % 128) else 0 : ℝ) : EReal) := by
  have hk : ∀ C < 8192, at2 (a := 8192) (b := 1024) (Given.k (m (c, main_arg1))) C L = ((if L % 128 < 96 then D.k C (L / 128) (L % 128) else 0 : ℝ) : EReal) := fun C hC => by
    have e := Given.k_real A hC (H := L / 128) (l := L % 128) (by omega) (by omega)
    rwa [show 128 * (L / 128) + L % 128 = L by omega] at e
  unfold dqSum
  rw [V_k, sum_range_coe _ (fun C => D.dlogit (L / 128) R C * (if L % 128 < 96 then D.k C (L / 128) (L % 128) else 0))
    (fun C hC => by rw [dlogit_real A (by omega) hR hC, hk C hC, EReal.coe_mul])]
  split
  · rfl
  · simp

theorem dkSum_real {L C : ℕ} (hL : L < 1024) (hC : C < 8192) :
    dkSum m c L C = ((if L % 128 < 96 then D.dk C (L / 128) (L % 128) else 0 : ℝ) : EReal) := by
  have hq : ∀ R < 8192, at2 (a := 1024) (b := 8192) (Given.qT (m (c, main_arg0))) L R = ((if L % 128 < 96 then D.q R (L / 128) (L % 128) * D.scale / Real.log 2 else 0 : ℝ) : EReal) := fun R hR => by
    have e := Given.qT_real A hR (H := L / 128) (l := L % 128) (by omega) (by omega)
    rwa [show 128 * (L / 128) + L % 128 = L by omega] at e
  unfold dkSum
  rw [V_qT, sum_range_coe _ (fun R => (if L % 128 < 96 then D.q R (L / 128) (L % 128) * D.scale / Real.log 2 else 0) * D.dlogit (L / 128) R C)
    (fun R hR => by rw [dlogit_real A (by omega) hR hC, hq R hR, EReal.coe_mul])]
  split
  · rfl
  · simp

theorem dvSum_real {L C : ℕ} (hL : L < 512) (hC : C < 8192) : dvSum m c L C = (D.dv C (L / 64) (L % 64) : EReal) := by
  unfold dvSum
  rw [V_doT, sum_range_coe _ (fun R => D.g R (64 * (L / 64) + L % 64) * D.prob (L / 64) R C)
    (fun R hR => by rw [prob_real A (by omega) hR hC, Given.doT_real A hR hL, EReal.coe_mul, show 64 * (L / 64) + L % 64 = L by omega])]
  rfl

end Cert.MlaBwd

end
-- ==== Proof.MlaBwd.RefSoftmax.lean ====
/- The reference's values read at indices: up to the summands of the softmax's mean term. -/
module

public import proofs.«01_k».proof.Proof.Gen.ReferenceIdeal.Read
public import proofs.«01_k».proof.Proof.MlaBwd.Nat
public import proofs.«01_k».proof.Proof.MlaBwd.Reals

@[expose] public section

set_option maxRecDepth 16384
set_option maxHeartbeats 1000000

noncomputable section

namespace Cert.MlaBwd

open Idealize.ShloMosaic Idealize.ShloMosaic.TcCoe Idealize.SL.Sem Cert.ReferenceIdeal Cert.ReferenceIdeal.Gen Cert.ReferenceIdeal.Read

namespace Ref

variable (x0 x1 : FVec Ideal S8192x8x96 .f32) (x2 : FVec Ideal S8192x8x64 .f32) (x3 : FVec Ideal S8192x512 .f32)

/-- The scaled logits. -/
theorem v8_at (h : Fin 8) (r : Fin 8192) (c : Fin 8192) : val_main_v8 (F := Ideal) x0 x1 (ix3 h r c)
    = ((∑ x : Fin 64, x0 (ix3 r h ⟨x.val, by omega⟩) * x1 (ix3 c h ⟨x.val, by omega⟩)) + ∑ x : Fin 32, x0 (ix3 r h ⟨64 + x.val, by omega⟩) * x1 (ix3 c h ⟨64 + x.val, by omega⟩)) * Ideal.ofBits .f32 0x3DD105EC#32 := by
  unfold val_main_v8 val_main_v7 val_main_cst val_main_v6 val_main_v5 val_main_v4 val_main_v3 val_main_v2 val_main_v1 val_main_v0
  pointwise []

/-- The largest logit of a query is a real if all are. -/
theorem v9_real (hs : ∀ (h : Fin 8) (r c : Fin 8192), ∃ s : ℝ, val_main_v8 (F := Ideal) x0 x1 (ix3 h r c) = (s : EReal)) (h : Fin 8) (r : Fin 8192) :
    ∃ t : ℝ, val_main_v9 (F := Ideal) x0 x1 (ix2 h r) = (t : EReal) := by
  unfold val_main_v9 val_main_cst_0
  generalize val_main_v8 (F := Ideal) x0 x1 = y at hs
  pointwise []
  rw [negInf_f32]
  exact fold_max_real (by norm_num) _ fun c => hs h r c

/-- … and so is what the softmax shifts by. -/
theorem v16_real (hs : ∀ (h : Fin 8) (r c : Fin 8192), ∃ s : ℝ, val_main_v8 (F := Ideal) x0 x1 (ix3 h r c) = (s : EReal)) (h : Fin 8) (r : Fin 8192) :
    ∃ t : ℝ, val_main_v16 (F := Ideal) x0 x1 (ix2 h r) = (t : EReal) := by
  obtain ⟨t, e⟩ := v9_real x0 x1 hs h r
  refine ⟨t, ?_⟩
  rw [val_main_v16_apply, val_main_v15_apply, val_main_cst_2_apply, e]
  show max (Ideal.ofBits .f32 0xFF800000#32) (t : EReal) = _
  rw [negInf_f32, max_eq_right bot_le]

/-- The exponentials. -/
theorem v29_at (h : Fin 8) (r : Fin 8192) (c : Fin 8192) : val_main_v29 (F := Ideal) x0 x1 (ix3 h r c)
    = Ideal.exp (val_main_v8 (F := Ideal) x0 x1 (ix3 h r c) - val_main_v16 (F := Ideal) x0 x1 (ix2 h r)) := by
  unfold val_main_v29 val_main_v28 val_main_v27 val_main_v26
  generalize val_main_v8 (F := Ideal) x0 x1 = y8
  generalize val_main_v16 (F := Ideal) x0 x1 = y16
  pointwise []

/-- Their sums. -/
theorem v31_at (h : Fin 8) (r : Fin 8192) : val_main_v31 (F := Ideal) x0 x1 (ix3 h r 0)
    = ∑ x : Fin 8192, val_main_v29 (F := Ideal) x0 x1 (ix3 h r x) := by
  unfold val_main_v31 val_main_v30 val_main_cst_8
  generalize val_main_v29 (F := Ideal) x0 x1 = y29
  pointwise []

/-- The probabilities. -/
theorem v33_at (h : Fin 8) (r : Fin 8192) (c : Fin 8192) : val_main_v33 (F := Ideal) x0 x1 (ix3 h r c)
    = Ideal.div (val_main_v29 (F := Ideal) x0 x1 (ix3 h r c)) (val_main_v31 (F := Ideal) x0 x1 (ix3 h r 0)) := by
  unfold val_main_v33 val_main_v32
  generalize val_main_v29 (F := Ideal) x0 x1 = y29
  generalize val_main_v31 (F := Ideal) x0 x1 = y31
  pointwise []

/-- The output's gradient, head by head. -/
theorem v40_at (r : Fin 8192) (h : Fin 8) (d : Fin 64) : val_main_v40 (F := Ideal) x3 (ix3 r h d)
    = x3 (ix2 r ⟨h.val * 64 + d.val, by omega⟩) := by
  unfold val_main_v40
  pointwise []

/-- … transposed. -/
theorem v41_at (h : Fin 8) (d : Fin 64) (r : Fin 8192) : val_main_v41 (F := Ideal) x3 (ix3 h d r)
    = val_main_v40 (F := Ideal) x3 (ix3 r h d) := by
  unfold val_main_v41
  generalize val_main_v40 (F := Ideal) x3 = y40
  pointwise []

/-- The probabilities' gradient. -/
theorem v42_at (h : Fin 8) (r : Fin 8192) (c : Fin 8192) : val_main_v42 (F := Ideal) x2 x3 (ix3 h r c)
    = ∑ x : Fin 64, val_main_v41 (F := Ideal) x3 (ix3 h x r) * x2 (ix3 c h x) := by
  unfold val_main_v42
  generalize val_main_v41 (F := Ideal) x3 = y41
  pointwise []

/-- The values' gradient. -/
theorem v44_at (c : Fin 8192) (h : Fin 8) (d : Fin 64) : val_main_v44 (F := Ideal) x0 x1 x3 (ix3 c h d)
    = ∑ x : Fin 8192, val_main_v41 (F := Ideal) x3 (ix3 h d x) * val_main_v33 (F := Ideal) x0 x1 (ix3 h x c) := by
  unfold val_main_v44 val_main_v43
  generalize val_main_v41 (F := Ideal) x3 = y41
  generalize val_main_v33 (F := Ideal) x0 x1 = y33
  pointwise []

/-- The sums' inverse squares. -/
theorem v36_at (h : Fin 8) (r : Fin 8192) : val_main_v36 (F := Ideal) x0 x1 (ix3 h r 0)
    = Ideal.div (Ideal.ofBits .f32 0x3F800000#32) (val_main_v31 (F := Ideal) x0 x1 (ix3 h r 0) * val_main_v31 (F := Ideal) x0 x1 (ix3 h r 0)) := by
  unfold val_main_v36 val_main_v35 val_main_cst_9 val_main_v34
  generalize val_main_v31 (F := Ideal) x0 x1 = y31
  pointwise []

/-- The summands of the softmax's mean term. -/
theorem v47_at (h : Fin 8) (r : Fin 8192) (c : Fin 8192) : val_main_v47 (F := Ideal) x0 x1 x2 x3 (ix3 h r c)
    = val_main_v42 (F := Ideal) x2 x3 (ix3 h r c) * val_main_v36 (F := Ideal) x0 x1 (ix3 h r 0) * val_main_v29 (F := Ideal) x0 x1 (ix3 h r c) := by
  unfold val_main_v47 val_main_v46 val_main_v45
  generalize val_main_v42 (F := Ideal) x2 x3 = y42
  generalize val_main_v36 (F := Ideal) x0 x1 = y36
  generalize val_main_v29 (F := Ideal) x0 x1 = y29
  pointwise []

end Ref

end Cert.MlaBwd

end
-- ==== Proof.MlaBwd.RefGrad.lean ====
/- The reference's values read at indices: from the softmax's mean term to the three results. -/
module

public import proofs.«01_k».proof.Proof.Gen.ReferenceIdeal.Read
public import proofs.«01_k».proof.Proof.MlaBwd.Nat
public import proofs.«01_k».proof.Proof.MlaBwd.Reals

@[expose] public section

set_option maxRecDepth 16384
set_option maxHeartbeats 1000000

noncomputable section

namespace Cert.MlaBwd

open Idealize.ShloMosaic Idealize.ShloMosaic.TcCoe Idealize.SL.Sem Cert.ReferenceIdeal Cert.ReferenceIdeal.Gen Cert.ReferenceIdeal.Read

namespace Ref

variable (x0 x1 : FVec Ideal S8192x8x96 .f32) (x2 : FVec Ideal S8192x8x64 .f32) (x3 : FVec Ideal S8192x512 .f32)

/-- The mean term, negated. -/
theorem v50_at (h : Fin 8) (r : Fin 8192) : val_main_v50 (F := Ideal) x0 x1 x2 x3 (ix3 h r 0)
    = -∑ x : Fin 8192, val_main_v47 (F := Ideal) x0 x1 x2 x3 (ix3 h r x) := by
  unfold val_main_v50 val_main_v49 val_main_v48 val_main_cst_10
  generalize val_main_v47 (F := Ideal) x0 x1 x2 x3 = y47
  pointwise []

/-- … summed over an axis of one. -/
theorem v53_at (h : Fin 8) (r : Fin 8192) : val_main_v53 (F := Ideal) x0 x1 x2 x3 (ix2 h r)
    = ∑ x : Fin 1, val_main_v50 (F := Ideal) x0 x1 x2 x3 (ix3 h r x) := by
  unfold val_main_v53 val_main_cst_11
  generalize val_main_v50 (F := Ideal) x0 x1 x2 x3 = y50
  pointwise []

/-- The logits' gradient. -/
theorem v58_at (h : Fin 8) (r : Fin 8192) (c : Fin 8192) : val_main_v58 (F := Ideal) x0 x1 x2 x3 (ix3 h r c)
    = (Ideal.div (val_main_v42 (F := Ideal) x2 x3 (ix3 h r c)) (val_main_v31 (F := Ideal) x0 x1 (ix3 h r 0)) + val_main_v53 (F := Ideal) x0 x1 x2 x3 (ix2 h r)) * val_main_v29 (F := Ideal) x0 x1 (ix3 h r c) * Ideal.ofBits .f32 0x3DD105EC#32 := by
  unfold val_main_v58 val_main_v57 val_main_cst_12 val_main_v56 val_main_v55 val_main_v54 val_main_v52 val_main_v51
  generalize val_main_v42 (F := Ideal) x2 x3 = y42
  generalize val_main_v31 (F := Ideal) x0 x1 = y31
  generalize val_main_v53 (F := Ideal) x0 x1 x2 x3 = y53
  generalize val_main_v29 (F := Ideal) x0 x1 = y29
  pointwise []

/-- The keys' gradient, rotary lanes. -/
theorem v60_at (c : Fin 8192) (h : Fin 8) (u : Fin 32) : val_main_v60 (F := Ideal) x0 x1 x2 x3 (ix3 c h u)
    = ∑ x : Fin 8192, val_main_v58 (F := Ideal) x0 x1 x2 x3 (ix3 h x c) * x0 (ix3 x h ⟨64 + u.val, by omega⟩) := by
  unfold val_main_v60 val_main_v59 val_main_v3
  generalize val_main_v58 (F := Ideal) x0 x1 x2 x3 = y58
  pointwise []

/-- The queries' gradient, rotary lanes. -/
theorem v62_at (r : Fin 8192) (h : Fin 8) (u : Fin 32) : val_main_v62 (F := Ideal) x0 x1 x2 x3 (ix3 r h u)
    = ∑ x : Fin 8192, val_main_v58 (F := Ideal) x0 x1 x2 x3 (ix3 h r x) * x1 (ix3 x h ⟨64 + u.val, by omega⟩) := by
  unfold val_main_v62 val_main_v61 val_main_v4
  generalize val_main_v58 (F := Ideal) x0 x1 x2 x3 = y58
  pointwise []

/-- The keys' gradient, other lanes. -/
theorem v66_at (c : Fin 8192) (h : Fin 8) (d : Fin 64) : val_main_v66 (F := Ideal) x0 x1 x2 x3 (ix3 c h d)
    = ∑ x : Fin 8192, val_main_v58 (F := Ideal) x0 x1 x2 x3 (ix3 h x c) * x0 (ix3 x h ⟨d.val, by omega⟩) := by
  unfold val_main_v66 val_main_v65 val_main_v0
  generalize val_main_v58 (F := Ideal) x0 x1 x2 x3 = y58
  pointwise []

/-- The queries' gradient, other lanes. -/
theorem v68_at (r : Fin 8192) (h : Fin 8) (d : Fin 64) : val_main_v68 (F := Ideal) x0 x1 x2 x3 (ix3 r h d)
    = ∑ x : Fin 8192, val_main_v58 (F := Ideal) x0 x1 x2 x3 (ix3 h r x) * x1 (ix3 x h ⟨d.val, by omega⟩) := by
  unfold val_main_v68 val_main_v67 val_main_v1
  generalize val_main_v58 (F := Ideal) x0 x1 x2 x3 = y58
  pointwise []

/-- The keys' gradient. -/
theorem v70_at (c : Fin 8192) (h : Fin 8) (l : Fin 96) : val_main_v70 (F := Ideal) x0 x1 x2 x3 (ix3 c h l)
    = (if q : 64 ≤ l.val ∧ l.val - 64 < 32 then val_main_v60 (F := Ideal) x0 x1 x2 x3 (ix3 c h ⟨l.val - 64, q.2⟩) else 0) + (if q : l.val < 64 then val_main_v66 (F := Ideal) x0 x1 x2 x3 (ix3 c h ⟨l.val, q⟩) else 0) := by
  unfold val_main_v70 val_main_v63 val_main_v69 val_main_cst_13 val_main_cst_15
  generalize val_main_v60 (F := Ideal) x0 x1 x2 x3 = y60
  generalize val_main_v66 (F := Ideal) x0 x1 x2 x3 = y66
  pointwise []

/-- The queries' gradient. -/
theorem v72_at (r : Fin 8192) (h : Fin 8) (l : Fin 96) : val_main_v72 (F := Ideal) x0 x1 x2 x3 (ix3 r h l)
    = (if q : 64 ≤ l.val ∧ l.val - 64 < 32 then val_main_v62 (F := Ideal) x0 x1 x2 x3 (ix3 r h ⟨l.val - 64, q.2⟩) else 0) + (if q : l.val < 64 then val_main_v68 (F := Ideal) x0 x1 x2 x3 (ix3 r h ⟨l.val, q⟩) else 0) := by
  unfold val_main_v72 val_main_v64 val_main_v71 val_main_cst_14 val_main_cst_16
  generalize val_main_v62 (F := Ideal) x0 x1 x2 x3 = y62
  generalize val_main_v68 (F := Ideal) x0 x1 x2 x3 = y68
  pointwise []

/-- The first result. -/
theorem v77_at (r : Fin 8192) (L : Fin 1024) : val_main_v77 (F := Ideal) x0 x1 x2 x3 (ix2 r L)
    = if q : L.val / 128 < 8 ∧ L.val % 128 < 96 then Ideal.div (val_main_v72 (F := Ideal) x0 x1 x2 x3 (ix3 r ⟨L.val / 128, q.1⟩ ⟨L.val % 128, q.2⟩)) (Ideal.ofBits .f32 0x3DD105EC#32) else FloatOps.sitofp (F := Ideal) .f32 (0#32 : BitVec 32) := by
  unfold val_main_v77 val_main_v76 val_main_v75 val_main_v74 val_main_v73 val_main_cst_17 val_main_call0_v0 val_main_c
  generalize val_main_v72 (F := Ideal) x0 x1 x2 x3 = y72
  pointwise []

/-- The second result. -/
theorem v84_at (L : Fin 1024) (c : Fin 8192) : val_main_v84 (F := Ideal) x0 x1 x2 x3 (ix2 L c)
    = if q : L.val / 128 < 8 ∧ L.val % 128 < 96 then Ideal.div (val_main_v70 (F := Ideal) x0 x1 x2 x3 (ix3 c ⟨L.val / 128, q.1⟩ ⟨L.val % 128, q.2⟩)) (Ideal.log (Ideal.ofBits .f32 0x40000000#32)) else FloatOps.sitofp (F := Ideal) .f32 (0#32 : BitVec 32) := by
  unfold val_main_v84 val_main_v83 val_main_v82 val_main_v81 val_main_v80 val_main_v79 val_main_v78 val_main_cst_18 val_main_call1_v0 val_main_c_19
  generalize val_main_v70 (F := Ideal) x0 x1 x2 x3 = y70
  pointwise []

/-- The third result. -/
theorem v87_at (A : Fin 512) (c : Fin 8192) : val_main_v87 (F := Ideal) x0 x1 x3 (ix2 A c)
    = val_main_v44 (F := Ideal) x0 x1 x3 (ix3 c ⟨A.val / 64, by omega⟩ ⟨A.val % 64, by omega⟩) := by
  unfold val_main_v87 val_main_v86 val_main_v85
  generalize val_main_v44 (F := Ideal) x0 x1 x3 = y44
  pointwise []

end Ref

end Cert.MlaBwd

end
-- ==== Proof.MlaBwd.RefReal.lean ====
/- The reference's values at real arguments: the three gradients. -/
module

public import proofs.«01_k».proof.Proof.MlaBwd.RefSoftmax
public import proofs.«01_k».proof.Proof.MlaBwd.RefGrad
public import proofs.«01_k».proof.Proof.MlaBwd.Are

@[expose] public section

set_option maxRecDepth 16384
set_option maxHeartbeats 1000000

noncomputable section

namespace Cert.MlaBwd

open Idealize.ShloMosaic Idealize.ShloMosaic.TcCoe Idealize.SL.Sem Cert.ReferenceIdeal Cert.ReferenceIdeal.Gen Cert.ReferenceIdeal.Read

namespace Ref

variable {x0 x1 : FVec Ideal S8192x8x96 .f32} {x2 : FVec Ideal S8192x8x64 .f32} {x3 : FVec Ideal S8192x512 .f32} {D : Operands} (A : D.Are x0 x1 x2 x3)
include A

theorem logits_real (h : Fin 8) (r c : Fin 8192) : val_main_v8 (F := Ideal) x0 x1 (ix3 h r c) = (D.logit h.val r.val c.val : EReal) := by
  have e1 : (∑ x : Fin 64, x0 (ix3 r h ⟨x.val, by omega⟩) * x1 (ix3 c h ⟨x.val, by omega⟩))
      = ((∑ l ∈ Finset.range 64, D.q r.val h.val l * D.k c.val h.val l : ℝ) : EReal) :=
    sum_mul_real _ _ (fun l => A.q r h ⟨l.val, by omega⟩) (fun l => A.k c h ⟨l.val, by omega⟩)
  have e2 : (∑ x : Fin 32, x0 (ix3 r h ⟨64 + x.val, by omega⟩) * x1 (ix3 c h ⟨64 + x.val, by omega⟩))
      = ((∑ l ∈ Finset.range 32, D.q r.val h.val (64 + l) * D.k c.val h.val (64 + l) : ℝ) : EReal) :=
    sum_mul_real (fun l => D.q r.val h.val (64 + l)) (fun l => D.k c.val h.val (64 + l)) (fun l => A.q r h ⟨64 + l.val, by omega⟩) (fun l => A.k c h ⟨64 + l.val, by omega⟩)
  rw [v8_at, A.scale, e1, e2, ← EReal.coe_add, ← EReal.coe_mul]
  rfl

theorem softmax_real (h : Fin 8) (r : Fin 8192) : ∃ t : ℝ,
    (∀ c : Fin 8192, val_main_v29 (F := Ideal) x0 x1 (ix3 h r c) = (Real.exp (D.logit h.val r.val c.val - t) : EReal))
    ∧ val_main_v31 (F := Ideal) x0 x1 (ix3 h r 0) = ((Real.exp (-t) * D.mass h.val r.val : ℝ) : EReal) := by
  obtain ⟨t, ht⟩ := v16_real x0 x1 (fun h r c => ⟨_, logits_real A h r c⟩) h r
  have e : ∀ c : Fin 8192, val_main_v29 (F := Ideal) x0 x1 (ix3 h r c) = (Real.exp (D.logit h.val r.val c.val - t) : EReal) := fun c => by
    rw [v29_at, logits_real A, ht, sub_real, Ideal.exp_coe]
  refine ⟨t, e, ?_⟩
  rw [v31_at, sum_fin _ (fun c => Real.exp (D.logit h.val r.val c - t)) e, D.shifted_mass]

theorem v33_real (h : Fin 8) (r c : Fin 8192) : val_main_v33 (F := Ideal) x0 x1 (ix3 h r c) = (D.prob h.val r.val c.val : EReal) := by
  obtain ⟨t, he, hm⟩ := softmax_real A h r
  rw [v33_at, he, hm, div_real (mul_pos (Real.exp_pos _) (D.mass_pos _ _)).ne', D.shifted_prob]

theorem v41_real (h : Fin 8) (d : Fin 64) (r : Fin 8192) : val_main_v41 (F := Ideal) x3 (ix3 h d r) = (D.g r.val (64 * h.val + d.val) : EReal) := by
  rw [v41_at, v40_at, A.g, Nat.mul_comm 64]

theorem v42_real (h : Fin 8) (r c : Fin 8192) : val_main_v42 (F := Ideal) x2 x3 (ix3 h r c) = (D.dprob h.val r.val c.val : EReal) := by
  rw [v42_at, sum_mul_real (fun d => D.g r.val (64 * h.val + d)) (fun d => D.v c.val h.val d) (fun d => v41_real A _ _ _) (fun d => A.v _ _ _)]
  rfl

theorem v58_real (h : Fin 8) (r c : Fin 8192) : val_main_v58 (F := Ideal) x0 x1 x2 x3 (ix3 h r c) = ((D.dlogit h.val r.val c.val * D.scale : ℝ) : EReal) := by
  obtain ⟨t, he, hm⟩ := softmax_real A h r
  have hz : Real.exp (-t) * D.mass h.val r.val ≠ 0 := (mul_pos (Real.exp_pos _) (D.mass_pos _ _)).ne'
  have h47 : ∀ x : Fin 8192, val_main_v47 (F := Ideal) x0 x1 x2 x3 (ix3 h r x)
      = ((D.dprob h.val r.val x.val * (1 / ((Real.exp (-t) * D.mass h.val r.val) * (Real.exp (-t) * D.mass h.val r.val))) * Real.exp (D.logit h.val r.val x.val - t) : ℝ) : EReal) := fun x => by
    rw [v47_at, v42_real A, v36_at, he, hm, one_f32, ← EReal.coe_mul, div_real (mul_ne_zero hz hz), ← EReal.coe_mul, ← EReal.coe_mul]
  rw [v58_at, v42_real A, he, hm, A.scale, v53_at, Fin.sum_univ_one, show ((0 : Fin 1)) = 0 from rfl, v50_at,
    sum_fin _ (fun x => D.dprob h.val r.val x * (1 / ((Real.exp (-t) * D.mass h.val r.val) * (Real.exp (-t) * D.mass h.val r.val))) * Real.exp (D.logit h.val r.val x - t)) h47,
    ← EReal.coe_neg, div_real hz, ← EReal.coe_add, ← EReal.coe_mul, ← EReal.coe_mul, ← D.dlogit_eq h.val r.val c.val t, div_eq_mul_one_div]

/-- The queries' gradient, scaled. -/
theorem v72_real (r : Fin 8192) (h : Fin 8) (l : Fin 96) : val_main_v72 (F := Ideal) x0 x1 x2 x3 (ix3 r h l) = ((D.dq r.val h.val l.val * D.scale : ℝ) : EReal) := by
  have key : ∀ l' : Fin 96, (∑ x : Fin 8192, val_main_v58 (F := Ideal) x0 x1 x2 x3 (ix3 h r x) * x1 (ix3 x h l')) = ((D.dq r.val h.val l'.val * D.scale : ℝ) : EReal) := fun l' => by
    rw [sum_mul_real (fun x => D.dlogit h.val r.val x * D.scale) (fun x => D.k x h.val l'.val) (fun x => v58_real A _ _ _) (fun x => A.k _ _ _)]
    unfold Operands.dq
    rw [Finset.sum_mul]
    exact congrArg _ (Finset.sum_congr rfl fun x _ => by ring)
  rw [v72_at]
  by_cases h6 : l.val < 64
  · rw [dif_neg (by omega), dif_pos h6, zero_add, v68_at, key]
  · have := l.isLt
    rw [dif_pos ⟨by omega, by omega⟩, dif_neg h6, add_zero, v62_at, key]
    simp only []
    rw [show 64 + (l.val - 64) = l.val by omega]

/-- The keys' gradient. -/
theorem v70_real (c : Fin 8192) (h : Fin 8) (l : Fin 96) : val_main_v70 (F := Ideal) x0 x1 x2 x3 (ix3 c h l) = ((D.dk c.val h.val l.val * Real.log 2 : ℝ) : EReal) := by
  have hl : Real.log 2 ≠ 0 := (Real.log_pos (by norm_num)).ne'
  have key : ∀ l' : Fin 96, (∑ x : Fin 8192, val_main_v58 (F := Ideal) x0 x1 x2 x3 (ix3 h x c) * x0 (ix3 x h l')) = ((D.dk c.val h.val l'.val * Real.log 2 : ℝ) : EReal) := fun l' => by
    rw [sum_mul_real (fun x => D.dlogit h.val x c.val * D.scale) (fun x => D.q x h.val l'.val) (fun x => v58_real A _ _ _) (fun x => A.q _ _ _)]
    unfold Operands.dk
    rw [Finset.sum_mul]
    exact congrArg _ (Finset.sum_congr rfl fun x _ => by field_simp)
  rw [v70_at]
  by_cases h6 : l.val < 64
  · rw [dif_neg (by omega), dif_pos h6, zero_add, v66_at, key]
  · have := l.isLt
    rw [dif_pos ⟨by omega, by omega⟩, dif_neg h6, add_zero, v60_at, key]
    simp only []
    rw [show 64 + (l.val - 64) = l.val by omega]

/-! ## The three results -/

theorem dq_real (r : Fin 8192) (L : Fin 1024) : val_main_v77 (F := Ideal) x0 x1 x2 x3 (ix2 r L)
    = ((if L.val % 128 < 96 then D.dq r.val (L.val / 128) (L.val % 128) else 0 : ℝ) : EReal) := by
  rw [v77_at]
  by_cases h9 : L.val % 128 < 96
  · rw [dif_pos ⟨by omega, h9⟩, if_pos h9, v72_real A, A.scale, div_real A.scale_ne, mul_div_cancel_right₀ _ A.scale_ne]
  · rw [dif_neg (fun q => h9 q.2), if_neg h9, pad_zero]

theorem dk_real (L : Fin 1024) (c : Fin 8192) : val_main_v84 (F := Ideal) x0 x1 x2 x3 (ix2 L c)
    = ((if L.val % 128 < 96 then D.dk c.val (L.val / 128) (L.val % 128) else 0 : ℝ) : EReal) := by
  have hl : Real.log 2 ≠ 0 := (Real.log_pos (by norm_num)).ne'
  rw [v84_at]
  by_cases h9 : L.val % 128 < 96
  · rw [dif_pos ⟨by omega, h9⟩, if_pos h9, v70_real A, log_two_f32, div_real hl, mul_div_cancel_right₀ _ hl]
  · rw [dif_neg (fun q => h9 q.2), if_neg h9, pad_zero]

theorem dv_real (L : Fin 512) (c : Fin 8192) : val_main_v87 (F := Ideal) x0 x1 x3 (ix2 L c)
    = (D.dv c.val (L.val / 64) (L.val % 64) : EReal) := by
  rw [v87_at, v44_at, sum_mul_real (fun r => D.g r (64 * (L.val / 64) + L.val % 64)) (fun r => D.prob (L.val / 64) r c.val) (fun r => v41_real A ⟨L.val / 64, by omega⟩ ⟨L.val % 64, by omega⟩ r) (fun r => v33_real A ⟨L.val / 64, by omega⟩ r c)]
  rfl

end Ref

end Cert.MlaBwd

end
-- ==== Proof.MlaBwd.Frames.lean ====
/- The two frames of the attention's backward call, from the one run: at exact values, and at the words of the machine.
   The two programs have the same text, so the run of the one is a run of the other. -/
module

public import proofs.«01_k».proof.Proof.MlaBwd.Run
public import proofs.«01_k».proof.Proof.Gen.Kernel
public import proofs.«01_k».proof.Defs

@[expose] public section

set_option maxRecDepth 16384

noncomputable section

namespace Cert.MlaBwd

open Idealize.ShloMosaic Idealize.SL.Sem

theorem frame_kernelIdeal : Cert.quiescent_KernelIdeal := fun m ρ _ => frame_main (F := Ideal) m ρ

/-- The frame's statement for the program read at `F`. -/
def FrameAt (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg), True →
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- At the machine's words that is the frame of the kernel as it is printed. -/
theorem frameAt_bits : FrameAt Bits = Cert.quiescent_Kernel := by sl_kernel_rfl

theorem frame_kernel : Cert.quiescent_Kernel :=
  frameAt_bits ▸ (fun m ρ _ => frame_main (F := Bits) m ρ : FrameAt Bits)

end Cert.MlaBwd

end
-- ==== Proof.MlaBwd.RefFrame.lean ====
/- The reference's frame: it is host operations alone, none of which writes an argument, and it declares no counter. -/
module

public import proofs.«01_k».proof.Proof.Gen.ReferenceIdeal.Run
public import proofs.«01_k».proof.Defs
public import Idealize.ShloMosaic.Lib.Quiescent

@[expose] public section

noncomputable section

namespace Cert.MlaBwd

open Idealize.ShloMosaic Idealize.SL.Sem

theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.MlaBwd

end
-- ==== Proof.MlaBwd.Value.lean ====
/- The call's three results are the reference's: both are the three gradients of the operands the arguments are. -/
module

public import proofs.«01_k».proof.Proof.MlaBwd.Finite
public import proofs.«01_k».proof.Proof.MlaBwd.KernelReal
public import proofs.«01_k».proof.Proof.MlaBwd.RefReal
public import proofs.«01_k».proof.Proof.MlaBwd.Frames
public import proofs.«01_k».proof.Proof.MlaBwd.RefFrame

@[expose] public section

set_option maxRecDepth 16384

noncomputable section

namespace Cert.MlaBwd

open Idealize.ShloMosaic Idealize.SL.Sem

/-- The three results as the gradients of the operands. -/
def dqArr (D : Operands) : (⟨2, ![8192, 1024]⟩ : Shape).Idx → EReal :=
  fun x => ((if (x 1).val % 128 < 96 then D.dq (x 0).val ((x 1).val / 128) ((x 1).val % 128) else 0 : ℝ) : EReal)

def dkArr (D : Operands) : (⟨2, ![1024, 8192]⟩ : Shape).Idx → EReal :=
  fun x => ((if (x 0).val % 128 < 96 then D.dk (x 1).val ((x 0).val / 128) ((x 0).val % 128) else 0 : ℝ) : EReal)

def dvArr (D : Operands) : (⟨2, ![512, 8192]⟩ : Shape).Idx → EReal :=
  fun x => (D.dv (x 1).val ((x 0).val / 64) ((x 0).val % 64) : EReal)

theorem eq_ix2 {a b : ℕ} (x : (⟨2, ![a, b]⟩ : Shape).Idx) : x = ix2 (x 0) (x 1) := by
  funext d
  match d with
  | ⟨0, _⟩ => rfl
  | ⟨1, _⟩ => rfl

section Kernel

open Cert.KernelIdeal Cert.KernelIdeal.Gen Idealize.ShloMosaic.TcCoe

variable {m : (ℓ : Loc nD τ sig) → Buf (Elt Ideal) ℓ} {c : Dev nD} {D : Operands}
  (A : D.Are (m (c, main_arg0)) (m (c, main_arg1)) (m (c, main_arg2)) (m (c, main_arg3)))
include A

theorem arr_dq : (dats m 0 c).arrAt 8 cfg0.N = dqArr D := by
  rw [out_dq]
  exact funext fun x => dqSum_real A (x 0).isLt (x 1).isLt

theorem arr_dk : (dats m 0 c).arrAt 9 cfg0.N = dkArr D := by
  rw [out_dkt]
  exact funext fun x => dkSum_real A (x 0).isLt (x 1).isLt

theorem arr_dv : (dats m 0 c).arrAt 10 cfg0.N = dvArr D := by
  rw [out_dvt]
  exact funext fun x => dvSum_real A (x 0).isLt (x 1).isLt

end Kernel

section Reference

open Cert.ReferenceIdeal Cert.ReferenceIdeal.Gen Cert.ReferenceIdeal.Read

variable {x0 x1 : FVec Ideal S8192x8x96 .f32} {x2 : FVec Ideal S8192x8x64 .f32} {x3 : FVec Ideal S8192x512 .f32} {D : Operands} (A : D.Are x0 x1 x2 x3)
include A

theorem ref_dq : val_main_v77 (F := Ideal) x0 x1 x2 x3 = dqArr D := by
  funext x
  rw [eq_ix2 x]
  exact Ref.dq_real A _ _

theorem ref_dk : val_main_v84 (F := Ideal) x0 x1 x2 x3 = dkArr D := by
  funext x
  rw [eq_ix2 x]
  exact Ref.dk_real A _ _

theorem ref_dv : val_main_v87 (F := Ideal) x0 x1 x3 = dvArr D := by
  funext x
  rw [eq_ix2 x]
  exact Ref.dv_real A _ _

end Reference

/-- The kernel's run at the operands' gradients. -/
theorem run_kernel (m : (ℓ : Loc Cert.KernelIdeal.nD Cert.KernelIdeal.τ Cert.KernelIdeal.sig) → Buf (Elt Ideal) ℓ) (g : Dev Cert.KernelIdeal.nD → PrngReg) (D : Dev Cert.KernelIdeal.nD → Operands)
    (A : ∀ c : Dev Cert.KernelIdeal.nD, (D c).Are (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v48_0) = dqArr (D c)
      ∧ r.2.mem ((c.tc : Thread Cert.KernelIdeal.nD Cert.KernelIdeal.τ).loc Cert.KernelIdeal.main_v48_1) = dkArr (D c)
      ∧ r.2.mem ((c.tc : Thread Cert.KernelIdeal.nD Cert.KernelIdeal.τ).loc Cert.KernelIdeal.main_v48_2) = dvArr (D c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun r h c => ⟨((h.1.1 c).1 8).trans (arr_dq (A c)), ((h.1.1 c).1 9).trans (arr_dk (A c)), ((h.1.1 c).1 10).trans (arr_dv (A c)), h.2.1 c⟩)
    (θ_run_and (run_main m g) (frame_main m g))

theorem algebraic : Cert.algebraic_KernelIdeal_ReferenceIdeal_pre_finite := by
  intro m g m' g' hm ha
  have hD := fun c => (fun h => exists_are h.1 h.2.1 h.2.2.1 h.2.2.2) (real_args _ _ _ _ (hm c))
  choose D A using hD
  refine ⟨fun c => dqArr (D c), fun c => dkArr (D c), fun c => dvArr (D c), run_kernel m g D A, ?_⟩
  refine (θ_run Cert.ReferenceIdeal.defs _ _).mono (fun r h c => ?_) (Cert.ReferenceIdeal.Value.run (F := Ideal) m' g')
  obtain ⟨a0, a1, a2, a3⟩ := ha c
  have A' : (D c).Are (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) := by
    rw [a0, a1, a2, a3]
    exact A c
  exact ⟨(h c).1.trans ((Cert.ReferenceIdeal.Read.val_main_v77_eq m' c).trans (ref_dq A')), (h c).2.1.trans ((Cert.ReferenceIdeal.Read.val_main_v84_eq m' c).trans (ref_dk A')),
    (h c).2.2.1.trans ((Cert.ReferenceIdeal.Read.val_main_v87_eq m' c).trans (ref_dv A')), (h c).2.2.2⟩

theorem frame_kernelIdeal_finite : Cert.quiescent_KernelIdeal_pre_finite := fun m ρ _ => frame_kernelIdeal m ρ trivial

theorem frame_referenceIdeal_finite : Cert.quiescent_ReferenceIdeal_pre_finite := fun m ρ _ => frame_referenceIdeal m ρ trivial

end Cert.MlaBwd

end
-- ==== Proof.Product.Sum.lean ====
/- A matrix product: row by column. -/
module

public import proofs.«01_k».proof.Proof.MlaBwd.Nat

@[expose] public section

noncomputable section

namespace Cert.Product

open Idealize.ShloMosaic
open Cert.MlaBwd (at2 at2_ix)

/-- `x · y`. -/
def prod {a n b : ℕ} (x : (⟨2, ![a, n]⟩ : Shape).Idx → EReal) (y : (⟨2, ![n, b]⟩ : Shape).Idx → EReal) : (⟨2, ![a, b]⟩ : Shape).Idx → EReal :=
  fun i => ∑ k ∈ Finset.range n, at2 x (i 0).val k * at2 y k (i 1).val

/-- What a sum over the inner axis of the two arrays' elements is. -/
theorem prod_of {a n b : ℕ} (x : (⟨2, ![a, n]⟩ : Shape).Idx → EReal) (y : (⟨2, ![n, b]⟩ : Shape).Idx → EReal) (i : Fin a) (j : Fin b) :
    ∑ k : Fin n, x (ix2 i k) * y (ix2 k j) = prod x y (ix2 i j) := by
  unfold prod
  rw [Finset.sum_range]
  exact Finset.sum_congr rfl fun k _ => congrArg₂ (· * ·) (at2_ix x i k) (at2_ix y k j)

/-- A block of a product: the left factor's rows from `o` on, the right one's columns from `p` on. -/
theorem prod_block {a n b r s o p : ℕ} (x : (⟨2, ![a, n]⟩ : Shape).Idx → EReal) (y : (⟨2, ![n, b]⟩ : Shape).Idx → EReal)
    (u : (⟨2, ![r, n]⟩ : Shape).Idx → EReal) (v : (⟨2, ![n, s]⟩ : Shape).Idx → EReal)
    (hu : ∀ (i : Fin r) (k : Fin n), u (ix2 i k) = at2 x (o + i.val) k.val) (hv : ∀ (k : Fin n) (j : Fin s), v (ix2 k j) = at2 y k.val (p + j.val))
    (i : Fin r) (j : Fin s) (I : Fin a) (J : Fin b) (hI : I.val = o + i.val) (hJ : J.val = p + j.val) :
    ∑ k : Fin n, u (ix2 i k) * v (ix2 k j) = prod x y (ix2 I J) := by
  rw [← prod_of]
  refine Finset.sum_congr rfl fun k _ => congrArg₂ (· * ·) ?_ ?_
  · rw [hu, at2_ix x I k, hI]
  · rw [hv, at2_ix y k J, hJ]

end Cert.Product

end
-- ==== Proof.Product.Forward.lean ====
/- The input projection's forward call: each point's block of the result is the product of a block of rows by a block of
   columns, which is that block of the whole product. Point `t` is of row block `t / 2` and of column block `t % 2`. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Product.Sum
public import proofs.«01_k».proof.Defs

@[expose] public section

set_option maxRecDepth 16384

noncomputable section

namespace Cert.Product.Forward

open Idealize.ShloMosaic Idealize.SL.Sem
open Cert.MlaBwd (at2 at2_ix)

section Kernel

open Cert.Kernel4Ideal Cert.Kernel4Ideal.Gen Idealize.ShloMosaic.TcCoe

/-- The windows' index maps, of all points at once. -/
theorem index_in : ∀ t : Fin cfg0.N, win0_0.index t = ![t.val / 2, 0] ∧ win0_1.index t = ![0, t.val % 2] :=
  (by decide +kernel : ∀ t : Fin grid0.N, _)

theorem index_out : ∀ t : Fin cfg0.N, win0_2.index t = ![t.val / 2, t.val % 2] := (by decide +kernel : ∀ t : Fin grid0.N, _)

theorem lt_N (t : Fin cfg0.N) : t.val < 16 := lt_of_lt_of_eq t.isLt N_0

/-- One block's product. -/
theorem part (v0 : Vec Ideal S1024x1024 .bf16) (v1 : Vec Ideal S1024x3328 .bf16) (a : Fin 1024) (b : Fin 3328) :
    k0_pay1 (F := Ideal) v0 v1 (ix2 a b) = ∑ k : Fin 1024, v0 (ix2 a k) * v1 (ix2 k b) := by
  pointwise [k0_pay1]

/-- The body's one store is of the whole block. -/
theorem out_eq (v0 : Vec Ideal S1024x1024 .bf16) (v1 : Vec Ideal S1024x3328 .bf16) (y : S1024x3328.Idx) :
    out0_2 (F := Ideal) v0 v1 y = k0_pay1 (F := Ideal) v0 v1 y := by
  have h := View.canon_cons_emb (Val := Elt Ideal) (s := S1024x3328) (e := .bf16) r0_1 (k0_pay1 (F := Ideal) (View.ld v0 r0_0) (View.ld v1 r0_1)) [] y
  rw [Rect.emb_unit_full] at h
  refine h.trans (congrFun (congrArg₂ (k0_pay1 (F := Ideal)) ?_ ?_) y)
  · exact funext fun z => congrArg v0 (Rect.emb_unit_full _ z)
  · exact funext fun z => congrArg v1 (Rect.emb_unit_full _ z)

variable (m : (ℓ : Loc nD τ sig) → Buf (Elt Ideal) ℓ) (c : Dev nD)

theorem block_h (t : Fin cfg0.N) (a : Fin 1024) (k : Fin 1024) :
    iblk m c 0 t (ix2 a k) = at2 (V m c main_arg0) (1024 * (t.val / 2) + a.val) k.val := by
  have ht := lt_N t
  rw [at2, dif_pos ⟨by omega, by omega⟩]
  generalize hV : V m c = W
  unfold iblk
  rw [hV]
  blk_point [index_in t]

theorem block_w (t : Fin cfg0.N) (k : Fin 1024) (b : Fin 3328) :
    iblk m c 1 t (ix2 k b) = at2 (V m c main_arg1) k.val (3328 * (t.val % 2) + b.val) := by
  have ht := lt_N t
  rw [at2, dif_pos ⟨by omega, by omega⟩]
  generalize hV : V m c = W
  unfold iblk
  rw [hV]
  blk_point [index_in t]

/-- A point's block, at the place that `i` has in it. -/
theorem point (t : Fin cfg0.N) (y : S1024x3328.Idx) (i : S8192x6656.Idx) (e0 : (i 0).val = 1024 * (t.val / 2) + (y 0).val) (e1 : (i 1).val = 3328 * (t.val % 2) + (y 1).val) :
    out0_2 (F := Ideal) (iblk m c 0 t) (iblk m c 1 t) y = prod (V m c main_arg0) (V m c main_arg1) i := by
  rw [out_eq, eq_ix2 y, eq_ix2 i]
  exact (part _ _ _ _).trans (prod_block (V m c main_arg0) (V m c main_arg1) _ _ (block_h m c t) (block_w m c t) (y 0) (y 1) (i 0) (i 1) e0 e1)

/-- The indices of a point's block. -/
theorem mem_block (t : Fin cfg0.N) (i : S8192x6656.Idx) :
    i ∈ ((cfg0.win 2).blk t).view.set ↔ ∀ a : Fin 2, win0_2.index t a * S1024x3328.size a ≤ (i a).val ∧ (i a).val < win0_2.index t a * S1024x3328.size a + S1024x3328.size a := by
  show i ∈ ((View.whole main_v0).slice (win0_2.rect t)).set ↔ _
  rw [View.set_slice_whole, Rect.mem_set_unit]
  exact Iff.rfl

/-- The array after the run. -/
theorem kernel_prod : (dats m 0 c).arrAt 2 cfg0.N = prod (m ((c : Thread nD τ).loc main_arg0)) (m ((c : Thread nD τ).loc main_arg1)) := by
  rw [← V_main_arg0 m c, ← V_main_arg1 m c]
  refine (dats m 0 c).arrAt_eq_of_cover 2 _ (fun t _ => ?_) (fun i => ?_)
  · rw [Cert.Kernel4Ideal.Value.flushed2]
    have hi := index_out t
    have ht := lt_N t
    funext y
    have e0 : (((cfg0.win 2).blk t).view.emb y 0).val = 1024 * (t.val / 2) + (y 0).val := by
      show win0_2.index t (0 : Fin 2) * 1024 + 1 * (y 0).val = _
      rw [hi]; show t.val / 2 * 1024 + 1 * (y 0).val = _; omega
    have e1 : (((cfg0.win 2).blk t).view.emb y 1).val = 3328 * (t.val % 2) + (y 1).val := by
      show win0_2.index t (1 : Fin 2) * 3328 + 1 * (y 1).val = _
      rw [hi]; show t.val % 2 * 3328 + 1 * (y 1).val = _; omega
    show out0_2 (F := Ideal) (iblk m c 0 t) (iblk m c 1 t) y = prod (V m c main_arg0) (V m c main_arg1) (((cfg0.win 2).blk t).view.emb y)
    exact point m c t y _ e0 e1
  · have h0 : (i 0).val < 8192 := (i 0).isLt
    have h1 : (i 1).val < 6656 := (i 1).isLt
    refine ⟨⟨2 * ((i 0).val / 1024) + (i 1).val / 3328, lt_of_lt_of_eq (by omega) N_0.symm⟩, flush0_2 _, ?_⟩
    rw [mem_block]
    intro a
    have hi := index_out ⟨2 * ((i 0).val / 1024) + (i 1).val / 3328, lt_of_lt_of_eq (by omega) N_0.symm⟩
    match a with
    | ⟨0, _⟩ =>
      show win0_2.index _ (0 : Fin 2) * 1024 ≤ (i 0).val ∧ (i 0).val < win0_2.index _ (0 : Fin 2) * 1024 + 1024
      rw [hi]
      show (2 * ((i 0).val / 1024) + (i 1).val / 3328) / 2 * 1024 ≤ (i 0).val ∧ (i 0).val < (2 * ((i 0).val / 1024) + (i 1).val / 3328) / 2 * 1024 + 1024
      omega
    | ⟨1, _⟩ =>
      show win0_2.index _ (1 : Fin 2) * 3328 ≤ (i 1).val ∧ (i 1).val < win0_2.index _ (1 : Fin 2) * 3328 + 3328
      rw [hi]
      show (2 * ((i 0).val / 1024) + (i 1).val / 3328) % 2 * 3328 ≤ (i 1).val ∧ (i 1).val < (2 * ((i 0).val / 1024) + (i 1).val / 3328) % 2 * 3328 + 3328
      omega

end Kernel

section Reference

open Cert.Reference4Ideal Cert.Reference4Ideal.Gen Cert.Reference4Ideal.Read

variable (x0 : (⟨S8192x1024, .bf16⟩ : BufTy).Contents (Elt Ideal)) (x1 : (⟨S1024x6656, .bf16⟩ : BufTy).Contents (Elt Ideal))

theorem reference_at (a : Fin 8192) (b : Fin 6656) :
    val_main_v3 (F := Ideal) x0 x1 (ix2 a b) = ∑ k : Fin 1024, x0 (ix2 a k) * x1 (ix2 k b) := by
  pointwise [val_main_v3, val_main_v2, val_main_v1, val_main_v0]

theorem reference_prod : val_main_v3 (F := Ideal) x0 x1 = prod (a := 8192) (n := 1024) (b := 6656) x0 x1 := by
  funext x
  rw [eq_ix2 x]
  exact (reference_at x0 x1 (x 0) (x 1)).trans (prod_of (a := 8192) (n := 1024) (b := 6656) x0 x1 (x 0) (x 1))

end Reference

theorem algebraic : Cert.algebraic_Kernel4Ideal_Reference4Ideal := by
  intro m g m' g' _ ha
  refine ⟨fun c => prod (a := 8192) (n := 1024) (b := 6656) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun r h c => ⟨(h c).1.trans (kernel_prod m c), (h c).2⟩) (Cert.Kernel4Ideal.Value.run_blocks (F := Ideal) m g), ?_⟩
  refine (θ_run Cert.Reference4Ideal.defs _ _).mono (fun r h c => ?_) (Cert.Reference4Ideal.Value.run (F := Ideal) m' g')
  refine ⟨(h c).1.trans ((Cert.Reference4Ideal.Read.val_main_v3_eq _ _).trans ((reference_prod _ _).trans ?_)), (h c).2⟩
  rw [(ha c).1, (ha c).2]

end Cert.Product.Forward

end
-- ==== Proof.Product.Data.lean ====
/- The input projection's first data gradient: each point's block of the result is the product of a block of rows by the
   whole turned weight, which is that block of the whole product. Point `t` is of row block `t`. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Product.Sum
public import proofs.«01_k».proof.Defs

@[expose] public section

set_option maxRecDepth 16384

noncomputable section

namespace Cert.Product.Data

open Idealize.ShloMosaic Idealize.SL.Sem
open Cert.MlaBwd (at2 at2_ix)

section Kernel

open Cert.Kernel5Ideal Cert.Kernel5Ideal.Gen Idealize.ShloMosaic.TcCoe

/-- The windows' index maps, of all points at once. -/
theorem index_in : ∀ t : Fin cfg0.N, win0_0.index t = ![t.val, 0] ∧ win0_1.index t = ![0, 0] :=
  (by decide +kernel : ∀ t : Fin grid0.N, _)

theorem index_out : ∀ t : Fin cfg0.N, win0_2.index t = ![t.val, 0] := (by decide +kernel : ∀ t : Fin grid0.N, _)

theorem lt_N (t : Fin cfg0.N) : t.val < 8 := lt_of_lt_of_eq t.isLt N_0

/-- One block's product. -/
theorem part (v0 : Vec Ideal S1024x2048 .bf16) (v1 : Vec Ideal S2048x1024 .bf16) (a : Fin 1024) (b : Fin 1024) :
    k0_pay1 (F := Ideal) v0 v1 (ix2 a b) = ∑ k : Fin 2048, v0 (ix2 a k) * v1 (ix2 k b) := by
  pointwise [k0_pay1]

/-- The body's one store is of the whole block. -/
theorem out_eq (v0 : Vec Ideal S1024x2048 .bf16) (v1 : Vec Ideal S2048x1024 .bf16) (y : S1024x1024.Idx) :
    out0_2 (F := Ideal) v0 v1 y = k0_pay1 (F := Ideal) v0 v1 y := by
  have h := View.canon_cons_emb (Val := Elt Ideal) (s := S1024x1024) (e := .f32) r0_2 (k0_pay1 (F := Ideal) (View.ld v0 r0_0) (View.ld v1 r0_1)) [] y
  rw [Rect.emb_unit_full] at h
  refine h.trans (congrFun (congrArg₂ (k0_pay1 (F := Ideal)) ?_ ?_) y)
  · exact funext fun z => congrArg v0 (Rect.emb_unit_full _ z)
  · exact funext fun z => congrArg v1 (Rect.emb_unit_full _ z)

variable (m : (ℓ : Loc nD τ sig) → Buf (Elt Ideal) ℓ) (c : Dev nD)

theorem block_ct (t : Fin cfg0.N) (a : Fin 1024) (k : Fin 2048) :
    iblk m c 0 t (ix2 a k) = at2 (V m c main_arg0) (1024 * t.val + a.val) k.val := by
  have ht := lt_N t
  rw [at2, dif_pos ⟨by omega, by omega⟩]
  generalize hV : V m c = W
  unfold iblk
  rw [hV]
  blk_point [index_in t]

theorem block_w (t : Fin cfg0.N) (k : Fin 2048) (b : Fin 1024) :
    iblk m c 1 t (ix2 k b) = at2 (V m c main_arg1) k.val (0 + b.val) := by
  have ht := lt_N t
  rw [at2, dif_pos ⟨by omega, by omega⟩]
  generalize hV : V m c = W
  unfold iblk
  rw [hV]
  blk_point [index_in t]

/-- A point's block, at the place that `i` has in it. -/
theorem point (t : Fin cfg0.N) (y : S1024x1024.Idx) (i : S8192x1024.Idx) (e0 : (i 0).val = 1024 * t.val + (y 0).val) (e1 : (i 1).val = 0 + (y 1).val) :
    out0_2 (F := Ideal) (iblk m c 0 t) (iblk m c 1 t) y = prod (V m c main_arg0) (V m c main_arg1) i := by
  rw [out_eq, eq_ix2 y, eq_ix2 i]
  exact (part _ _ _ _).trans (prod_block (V m c main_arg0) (V m c main_arg1) _ _ (block_ct m c t) (block_w m c t) (y 0) (y 1) (i 0) (i 1) e0 e1)

/-- The indices of a point's block. -/
theorem mem_block (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The array after the run. -/
theorem kernel_prod : (dats m 0 c).arrAt 2 cfg0.N = prod (m ((c : Thread nD τ).loc main_arg0)) (m ((c : Thread nD τ).loc main_arg1)) := by
  rw [← V_main_arg0 m c, ← V_main_arg1 m c]
  refine (dats m 0 c).arrAt_eq_of_cover 2 _ (fun t _ => ?_) (fun i => ?_)
  · rw [Cert.Kernel5Ideal.Value.flushed2]
    have hi := index_out t
    have ht := lt_N t
    funext y
    have e0 : (((cfg0.win 2).blk t).view.emb y 0).val = 1024 * t.val + (y 0).val := by
      show win0_2.index t (0 : Fin 2) * 1024 + 1 * (y 0).val = _
      rw [hi]; show t.val * 1024 + 1 * (y 0).val = _; omega
    have e1 : (((cfg0.win 2).blk t).view.emb y 1).val = 0 + (y 1).val := by
      show win0_2.index t (1 : Fin 2) * 1024 + 1 * (y 1).val = _
      rw [hi]; show 0 * 1024 + 1 * (y 1).val = _; omega
    show out0_2 (F := Ideal) (iblk m c 0 t) (iblk m c 1 t) y = prod (V m c main_arg0) (V m c main_arg1) (((cfg0.win 2).blk t).view.emb y)
    exact point m c t y _ e0 e1
  · have h0 : (i 0).val < 8192 := (i 0).isLt
    have h1 : (i 1).val < 1024 := (i 1).isLt
    refine ⟨⟨(i 0).val / 1024, lt_of_lt_of_eq (by omega) N_0.symm⟩, flush0_2 _, ?_⟩
    rw [mem_block]
    intro a
    have hi := index_out ⟨(i 0).val / 1024, lt_of_lt_of_eq (by omega) N_0.symm⟩
    match a with
    | ⟨0, _⟩ =>
      show win0_2.index _ (0 : Fin 2) * 1024 ≤ (i 0).val ∧ (i 0).val < win0_2.index _ (0 : Fin 2) * 1024 + 1024
      rw [hi]
      show (i 0).val / 1024 * 1024 ≤ (i 0).val ∧ (i 0).val < (i 0).val / 1024 * 1024 + 1024
      omega
    | ⟨1, _⟩ =>
      show win0_2.index _ (1 : Fin 2) * 1024 ≤ (i 1).val ∧ (i 1).val < win0_2.index _ (1 : Fin 2) * 1024 + 1024
      rw [hi]
      show 0 * 1024 ≤ (i 1).val ∧ (i 1).val < 0 * 1024 + 1024
      omega

end Kernel

section Reference

open Cert.Reference5Ideal Cert.Reference5Ideal.Gen Cert.Reference5Ideal.Read

variable (x0 : (⟨S8192x2048, .bf16⟩ : BufTy).Contents (Elt Ideal)) (x1 : (⟨S2048x1024, .bf16⟩ : BufTy).Contents (Elt Ideal))

theorem turned (b : Fin 1024) (k : Fin 2048) : val_main_v2 (F := Ideal) x1 (ix2 b k) = x1 (ix2 k b) := by
  unfold val_main_v2 val_main_v1
  pointwise []

theorem reference_at (a : Fin 8192) (b : Fin 1024) :
    val_main_v5 (F := Ideal) x0 x1 (ix2 a b) = ∑ k : Fin 2048, x0 (ix2 a k) * x1 (ix2 k b) := by
  have h : ∀ k : Fin 2048, val_main_v2 (F := Ideal) x1 (ix2 b k) = x1 (ix2 k b) := turned x1 b
  simp only [← h]
  unfold val_main_v5 val_main_v4
  generalize val_main_v2 (F := Ideal) x1 = y
  pointwise []

theorem reference_prod : val_main_v5 (F := Ideal) x0 x1 = prod (a := 8192) (n := 2048) (b := 1024) x0 x1 := by
  funext x
  rw [eq_ix2 x]
  exact (reference_at x0 x1 (x 0) (x 1)).trans (prod_of (a := 8192) (n := 2048) (b := 1024) x0 x1 (x 0) (x 1))

end Reference

theorem algebraic : Cert.algebraic_Kernel5Ideal_Reference5Ideal := by
  intro m g m' g' _ ha
  refine ⟨fun c => prod (a := 8192) (n := 2048) (b := 1024) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run Cert.Kernel5Ideal.defs _ _).mono (fun r h c => ⟨(h c).1.trans (kernel_prod m c), (h c).2⟩) (Cert.Kernel5Ideal.Value.run_blocks (F := Ideal) m g), ?_⟩
  refine (θ_run Cert.Reference5Ideal.defs _ _).mono (fun r h c => ?_) (Cert.Reference5Ideal.Value.run (F := Ideal) m' g')
  refine ⟨(h c).1.trans ((Cert.Reference5Ideal.Read.val_main_v5_eq _ _).trans ((reference_prod _ _).trans ?_)), (h c).2⟩
  rw [(ha c).1, (ha c).2]

end Cert.Product.Data

end
-- ==== Proof.WgradA.Sum.lean ====
/- The first weight gradient's call: each block of the result is a sum over eight blocks of rows, which is the sum over
   all the rows. Point `t` is of row block `t / 8` of the result and of rows' block `t % 8`. -/
module

public import proofs.«01_k».proof.Proof.Gen.Kernel6Ideal.Value
public import proofs.«01_k».proof.Proof.MlaBwd.Nat

@[expose] public section

set_option maxRecDepth 16384

noncomputable section

namespace Cert.WgradA

open Idealize.ShloMosaic Idealize.ShloMosaic.TcCoe Idealize.SL.Sem Cert.Kernel6Ideal Cert.Kernel6Ideal.Gen
open Idealize.ShloMosaic.Pipeline (Dat)
open Cert.Kernel6Ideal.Value (G2 pt2Of)
open Cert.MlaBwd (at2 at2_ix)

/-- The windows' index maps, of all points at once. -/
theorem index_in : ∀ t : Fin cfg0.N, win0_0.index t = ![t.val % 8, t.val / 8] ∧ win0_1.index t = ![t.val % 8, 0] :=
  (by decide +kernel : ∀ t : Fin grid0.N, _)

/-- One block's product. -/
theorem part (v0 : Vec Ideal S1024x512 .bf16) (v1 : Vec Ideal S1024x2048 .bf16) (a : Fin 512) (b : Fin 2048) :
    k0_pay1 (F := Ideal) v0 v1 (ix2 a b) = ∑ k : Fin 1024, v0 (ix2 k a) * v1 (ix2 k b) := by
  pointwise [k0_pay1]

theorem first (v0 : Vec Ideal S1024x512 .bf16) (v1 : Vec Ideal S1024x2048 .bf16) (a : Fin 512) (b : Fin 2048) :
    k0_pay2 (F := Ideal) v0 v1 (ix2 a b) = k0_pay1 (F := Ideal) v0 v1 (ix2 a b) := by
  unfold k0_pay2
  generalize k0_pay1 (F := Ideal) v0 v1 = y
  pointwise []

theorem next (v0 : Vec Ideal S1024x512 .bf16) (v1 : Vec Ideal S1024x2048 .bf16) (x : Vec Ideal S512x2048 .f32) (a : Fin 512) (b : Fin 2048) :
    k0_pay3 (F := Ideal) v0 v1 x (ix2 a b) = x (ix2 a b) + k0_pay1 (F := Ideal) v0 v1 (ix2 a b) := by
  unfold k0_pay3
  generalize k0_pay1 (F := Ideal) v0 v1 = y
  pointwise []

variable (m : (ℓ : Loc nD τ sig) → Buf (Elt Ideal) ℓ) (c : Dev nD)

/-- What point `n` adds to its block at `x`: the products of its rows. -/
def term (n : ℕ) (x : S512x2048.Idx) : EReal :=
  ∑ k ∈ Finset.range 1024, at2 (V m c main_arg0) (1024 * (n % 8) + k) (512 * (n / 8) + (x 0).val) * at2 (V m c main_arg1) (1024 * (n % 8) + k) (2048 * (0) + (x 1).val)

theorem lt_N (t : Fin cfg0.N) : t.val < 16 := lt_of_lt_of_eq t.isLt N_0

theorem block_h (t : Fin cfg0.N) (k : Fin 1024) (a : Fin 512) :
    iblk m c 0 t (ix2 k a) = at2 (V m c main_arg0) (1024 * (t.val % 8) + k.val) (512 * (t.val / 8) + a.val) := by
  have ht := lt_N t
  rw [at2, dif_pos ⟨by omega, by omega⟩]
  generalize hV : V m c = W
  unfold iblk
  rw [hV]
  blk_point [index_in t]

theorem block_ct (t : Fin cfg0.N) (k : Fin 1024) (b : Fin 2048) :
    iblk m c 1 t (ix2 k b) = at2 (V m c main_arg1) (1024 * (t.val % 8) + k.val) (2048 * (0) + b.val) := by
  have ht := lt_N t
  rw [at2, dif_pos ⟨by omega, by omega⟩]
  generalize hV : V m c = W
  unfold iblk
  rw [hV]
  blk_point [index_in t]

theorem part_eq (t : Fin cfg0.N) (a : Fin 512) (b : Fin 2048) :
    k0_pay1 (F := Ideal) (iblk m c 0 t) (iblk m c 1 t) (ix2 a b) = term m c t.val (ix2 a b) := by
  rw [part, term, Finset.sum_range]
  exact Finset.sum_congr rfl fun k _ => congrArg₂ (· * ·) (block_h m c t k a) (block_ct m c t k b)

/-- The accumulator at the first point of a block. -/
theorem acc_first (t : Fin cfg0.N) (h : t.val % 8 = 0) (x : S512x2048.Idx) :
    (outsAt0 m c t.val t.isLt).2 x = 0 + term m c t.val x := by
  rw [eq_ix2 x, zero_add, outsAt0_A m c t h (by omega) (by omega)]
  frame_out
  exact (first _ _ _ _).trans (part_eq m c t _ _)

/-- At a later one. -/
theorem acc_pay (t : Fin cfg0.N) (h : ¬t.val % 8 = 0) :
    (outsAt0 m c t.val t.isLt).2 = k0_pay3 (F := Ideal) (iblk m c 0 t) (iblk m c 1 t) (outsAt0 m c (t.val - 1) (Nat.lt_of_le_of_lt (Nat.sub_le _ _) t.isLt)).2 := by
  by_cases h2 : t.val % 8 = 7
  · rw [outsAt0_C m c t h (by omega) h2]
    frame_out
    exact congrArg (k0_pay3 (F := Ideal) _ _) ((Memref.isWhole_whole cc0_scratch0).read_unread _)
  · rw [outsAt0_B m c t h (by omega) h2]
    frame_out
    exact congrArg (k0_pay3 (F := Ideal) _ _) ((Memref.isWhole_whole cc0_scratch0).read_unread _)

theorem acc_next (t : Fin cfg0.N) (h : ¬t.val % 8 = 0) (x : S512x2048.Idx) :
    (outsAt0 m c t.val t.isLt).2 x = (outsAt0 m c (t.val - 1) (Nat.lt_of_le_of_lt (Nat.sub_le _ _) t.isLt)).2 x + term m c t.val x := by
  rw [acc_pay m c t h, eq_ix2 x]
  exact (next _ _ _ _ _).trans (congrArg (_ + ·) (part_eq m c t _ _))

/-- The last point of a block writes the accumulator out. -/
theorem out_last (t : Fin cfg0.N) (h : t.val % 8 = 7) : (outsAt0 m c t.val t.isLt).1 = (outsAt0 m c t.val t.isLt).2 := by
  rw [outsAt0_C m c t (by omega) (by omega) h]
  frame_out

/-- The block after its last point. -/
theorem out_sum (t : Fin cfg0.N) (h : t.val % 8 = 7) (x : S512x2048.Idx) :
    (outsAt0 m c t.val t.isLt).1 x = ∑ R ∈ Finset.range 8192, at2 (V m c main_arg0) R (512 * (t.val / 8) + (x 0).val) * at2 (V m c main_arg1) R (2048 * (0) + (x 1).val) := by
  rw [out_last m c t h, Pipeline.eq_sum_of_reset_step_apply_of_mod (fun n h => (outsAt0 m c n h).2) 8 (fun _ => 0) (term m c)
    (acc_first m c) (acc_next m c) t h x, zero_add]
  refine Eq.trans (Finset.sum_congr rfl fun k hk => ?_) (Finset.sum_range_range_mul_add 8 1024 _)
  have hk := Finset.mem_range.mp hk
  unfold term
  rw [show (8 * (t.val / 8) + k) % 8 = k by omega, show (8 * (t.val / 8) + k) / 8 = t.val / 8 by omega, Nat.mul_comm 1024 k]

/-- The whole result. -/
theorem out_eq (A : Fin 1024) (B : Fin 2048) :
    G2 m c (ix2 A B) = ∑ R ∈ Finset.range 8192, at2 (V m c main_arg0) R A.val * at2 (V m c main_arg1) R B.val := by
  have hp : pt2Of (ix2 A B) = 8 * (A.val / 512) + 7 := by
    show 8 * (1 * (A.val / 512 - 0) + 1 * (B.val / 2048 - 0)) + 7 = _
    omega
  have hlt : pt2Of (ix2 A B) < cfg0.N := by rw [hp]; exact lt_of_lt_of_eq (by omega) N_0.symm
  rw [G2, dif_pos hlt, ← Cert.Kernel6Ideal.Value.outsAt0_sweep m c _ hlt, out_sum m c ⟨_, hlt⟩ (by show pt2Of _ % 8 = 7; omega)]
  show ∑ R ∈ Finset.range 8192, at2 (V m c main_arg0) R (512 * (pt2Of (ix2 A B) / 8) + A.val % 512) * at2 (V m c main_arg1) R (2048 * 0 + B.val % 2048) = _
  rw [hp, show 512 * ((8 * (A.val / 512) + 7) / 8) + A.val % 512 = A.val by omega,
    show 2048 * 0 + B.val % 2048 = B.val by omega]

end Cert.WgradA

end
-- ==== Proof.WgradA.Value.lean ====
/- The first weight gradient's call: its result is the reference's, the gradient of the product in the weight. -/
module

public import proofs.«01_k».proof.Proof.WgradA.Sum
public import proofs.«01_k».proof.Proof.Gen.Reference6Ideal.Run
public import proofs.«01_k».proof.Proof.Gen.Reference6Ideal.Read
public import proofs.«01_k».proof.Defs

@[expose] public section

set_option maxRecDepth 16384

noncomputable section

namespace Cert.WgradA

open Idealize.ShloMosaic Idealize.SL.Sem
open Cert.MlaBwd (at2 at2_ix)

/-- The gradient of `h · w` in `w`, for the gradient `y` of the product. -/
def grad (h : (⟨2, ![8192, 1024]⟩ : Shape).Idx → EReal) (y : (⟨2, ![8192, 2048]⟩ : Shape).Idx → EReal) : (⟨2, ![1024, 2048]⟩ : Shape).Idx → EReal :=
  fun x => ∑ R ∈ Finset.range 8192, at2 h R (x 0).val * at2 y R (x 1).val

section Kernel

open Cert.Kernel6Ideal Cert.Kernel6Ideal.Gen Idealize.ShloMosaic.TcCoe

theorem kernel_grad (m : (ℓ : Loc nD τ sig) → Buf (Elt Ideal) ℓ) (c : Dev nD) :
    Cert.Kernel6Ideal.Value.G2 m c = grad (m ((c : Thread nD τ).loc main_arg0)) (m ((c : Thread nD τ).loc main_arg1)) := by
  rw [← V_main_arg0 m c, ← V_main_arg1 m c]
  funext x
  rw [eq_ix2 x]
  exact out_eq m c (x 0) (x 1)

end Kernel

section Reference

open Cert.Reference6Ideal Cert.Reference6Ideal.Gen Cert.Reference6Ideal.Read

variable (x0 : (⟨S8192x1024, .bf16⟩ : BufTy).Contents (Elt Ideal)) (x1 : (⟨S8192x2048, .bf16⟩ : BufTy).Contents (Elt Ideal))

theorem product (b : Fin 2048) (a : Fin 1024) :
    val_main_v4 (F := Ideal) x0 x1 (ix2 b a) = ∑ R : Fin 8192, x1 (ix2 R b) * x0 (ix2 R a) := by
  pointwise [val_main_v4, val_main_v3, val_main_v1]

theorem turned (a : Fin 1024) (b : Fin 2048) : val_main_v5 (F := Ideal) x0 x1 (ix2 a b) = val_main_v4 (F := Ideal) x0 x1 (ix2 b a) := by
  unfold val_main_v5
  generalize val_main_v4 (F := Ideal) x0 x1 = y
  pointwise []

theorem reference_grad : val_main_v5 (F := Ideal) x0 x1 = grad x0 x1 := by
  funext x
  rw [eq_ix2 x]
  refine (turned x0 x1 (x 0) (x 1)).trans ((product x0 x1 (x 1) (x 0)).trans ?_)
  unfold grad
  rw [Finset.sum_range]
  exact Finset.sum_congr rfl fun R _ => (mul_comm _ _).trans (congrArg₂ (· * ·) (at2_ix (a := 8192) (b := 1024) x0 R (x 0)) (at2_ix (a := 8192) (b := 2048) x1 R (x 1)))

end Reference

theorem algebraic : Cert.algebraic_Kernel6Ideal_Reference6Ideal := by
  intro m g m' g' _ ha
  refine ⟨fun c => grad (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun r h c => ⟨(h c).1.trans (kernel_grad m c), (h c).2⟩) (Cert.Kernel6Ideal.Value.run (F := Ideal) m g), ?_⟩
  refine (θ_run Cert.Reference6Ideal.defs _ _).mono (fun r h c => ?_) (Cert.Reference6Ideal.Value.run (F := Ideal) m' g')
  refine ⟨(h c).1.trans ((Cert.Reference6Ideal.Read.val_main_v5_eq _ _).trans ((reference_grad _ _).trans ?_)), (h c).2⟩
  rw [(ha c).1, (ha c).2]

end Cert.WgradA

end
-- ==== Proof.MlaFwd.Pay.lean ====
/- The attention's forward call: what one grid point computes for each of its two heads, of the blocks it reads. The keys
   are the rows of a tile of logits and the queries its columns. -/
module

public import proofs.«01_k».proof.Proof.Gen.Kernel7Ideal.Value
public import proofs.«01_k».proof.Proof.MlaBwd.Reals
public import proofs.«01_k».proof.Proof.MlaBwd.Nat

@[expose] public section

set_option maxRecDepth 16384

noncomputable section

namespace Cert.MlaFwd

open Idealize.ShloMosaic Idealize.ShloMosaic.TcCoe Idealize.SL.Sem Cert.Kernel7Ideal Cert.Kernel7Ideal.Gen
open Cert.MlaBwd (negInf_f32)

/-- A tile of logits. -/
theorem logits (k : Vec Ideal S4096x128 .bf16) (q : Vec Ideal S512x128 .bf16) (c : Fin 4096) (r : Fin 512) :
    k0_pay10 (F := Ideal) k q (ix2 c r) = ∑ l : Fin 128, k (ix2 c l) * q (ix2 r l) := by
  pointwise [k0_pay10]

/-- The second head's operations on a tile are the first one's. -/
theorem logits_second (k : Vec Ideal S4096x128 .bf16) (q : Vec Ideal S512x128 .bf16) : k0_pay11 (F := Ideal) k q = k0_pay10 (F := Ideal) k q := rfl
theorem sum_first (k : Vec Ideal S4096x128 .bf16) (q : Vec Ideal S512x128 .bf16) (x l : Vec Ideal S1x512 .f32) :
    k0_pay15 (F := Ideal) k q x l = k0_pay21 (F := Ideal) (k0_pay10 (F := Ideal) k q) x l := rfl
theorem shift_first (k : Vec Ideal S4096x128 .bf16) (q : Vec Ideal S512x128 .bf16) (x : Vec Ideal S1x512 .f32) :
    k0_pay16 (F := Ideal) k q x = k0_pay22 (F := Ideal) (k0_pay10 (F := Ideal) k q) x := rfl
theorem values_first (k : Vec Ideal S4096x128 .bf16) (q : Vec Ideal S512x128 .bf16) (x : Vec Ideal S1x512 .f32) (w : Vec Ideal S64x4096 .bf16) (a : Vec Ideal S64x512 .f32) :
    k0_pay17 (F := Ideal) (k0_pay13 (F := Ideal) k q x) (k0_pay14 (F := Ideal) k q x) w a
      = k0_pay1 (F := Ideal) (k0_pay23 (F := Ideal) (k0_pay10 (F := Ideal) k q) x w a) := rfl

/-- The largest logit of each query, and a tile's sums. -/
theorem column_max (s : FVec Ideal S4096x512 .f32) (r : Fin 512) :
    multiReduction (F := Ideal) .maximumf [0] S512 s 0xFF800000#32 reduces_S4096x512_S512 (.inl rfl) rfl (ix1 r)
      = Finset.fold max (⊥ : EReal) (fun c : Fin 4096 => s (ix2 c r)) Finset.univ := by
  rw [← negInf_f32]
  pointwise []

theorem column_sum (s : FVec Ideal S4096x512 .f32) (r : Fin 512) :
    multiReduction (F := Ideal) .add [0] S512 s 0x00000000#32 reduces_S4096x512_S512 (.inl rfl) rfl (ix1 r) = ∑ c : Fin 4096, s (ix2 c r) := by
  pointwise []

/-- The shift after the tile. -/
theorem shift (s : FVec Ideal S4096x512 .f32) (x : Vec Ideal S1x512 .f32) (r : Fin 512) :
    k0_pay18 (F := Ideal) s x (ix2 0 r) = max (x (ix2 0 r)) (Finset.fold max (⊥ : EReal) (fun c : Fin 4096 => s (ix2 c r)) Finset.univ) := by
  have e := column_max s r
  unfold k0_pay18
  generalize multiReduction (F := Ideal) .maximumf [0] S512 s 0xFF800000#32 reduces_S4096x512_S512 (.inl rfl) rfl = y at e ⊢
  rw [← e]
  pointwise []

theorem shift_kept (s : FVec Ideal S4096x512 .f32) (x : Vec Ideal S1x512 .f32) (r : Fin 512) :
    k0_pay22 (F := Ideal) s x (ix2 0 r) = k0_pay18 (F := Ideal) s x (ix2 0 r) := by
  unfold k0_pay22
  generalize k0_pay18 (F := Ideal) s x = y
  pointwise []

theorem factor (s : FVec Ideal S4096x512 .f32) (x : Vec Ideal S1x512 .f32) (r : Fin 512) :
    k0_pay19 (F := Ideal) s x (ix2 0 r) = Ideal.exp2 (x (ix2 0 r) - k0_pay18 (F := Ideal) s x (ix2 0 r)) := by
  unfold k0_pay19
  generalize k0_pay18 (F := Ideal) s x = y
  pointwise []
  rfl

theorem powers (s : FVec Ideal S4096x512 .f32) (x : Vec Ideal S1x512 .f32) (c : Fin 4096) (r : Fin 512) :
    k0_pay20 (F := Ideal) s x (ix2 c r) = Ideal.exp2 (s (ix2 c r) - k0_pay18 (F := Ideal) s x (ix2 0 r)) := by
  unfold k0_pay20
  generalize k0_pay18 (F := Ideal) s x = y
  pointwise []
  rfl

/-- The powers' sum after the tile. -/
theorem total (s : FVec Ideal S4096x512 .f32) (x l : Vec Ideal S1x512 .f32) (r : Fin 512) :
    k0_pay21 (F := Ideal) s x l (ix2 0 r) = k0_pay19 (F := Ideal) s x (ix2 0 r) * l (ix2 0 r) + ∑ c : Fin 4096, k0_pay20 (F := Ideal) s x (ix2 c r) := by
  unfold k0_pay21
  generalize k0_pay19 (F := Ideal) s x = a
  generalize k0_pay20 (F := Ideal) s x = p
  have e := column_sum p r
  generalize multiReduction (F := Ideal) .add [0] S512 p 0x00000000#32 reduces_S4096x512_S512 (.inl rfl) rfl = y at e ⊢
  rw [← e]
  pointwise []

/-- The weighted values after the tile. -/
theorem values (s : FVec Ideal S4096x512 .f32) (x : Vec Ideal S1x512 .f32) (w : Vec Ideal S64x4096 .bf16) (a : Vec Ideal S64x512 .f32) (d : Fin 64) (r : Fin 512) :
    k0_pay23 (F := Ideal) s x w a (ix2 d r)
      = k0_pay19 (F := Ideal) s x (ix2 0 r) * a (ix2 d r) + ∑ c : Fin 4096, w (ix2 d c) * k0_pay20 (F := Ideal) s x (ix2 c r) := by
  unfold k0_pay23
  generalize k0_pay19 (F := Ideal) s x = b
  generalize k0_pay20 (F := Ideal) s x = p
  pointwise []

theorem kept (a : Vec Ideal S64x512 .f32) : k0_pay1 (F := Ideal) a = a := by
  funext x
  rw [eq_ix2 x]
  pointwise [k0_pay1]

/-- What a query tile starts with. -/
theorem start_shift (r : Fin 512) : k0_pay4 (F := Ideal) (ix2 0 r) = FloatOps.ofBits (F := Ideal) .f32 0xF149F2CA#32 := by
  pointwise [k0_pay4]
theorem start_total (r : Fin 512) : k0_pay5 (F := Ideal) (ix2 0 r) = 0 := by
  pointwise [k0_pay5]
theorem start_values (d : Fin 64) (r : Fin 512) : k0_pay6 (F := Ideal) (ix2 d r) = 0 := by
  pointwise [k0_pay6]
theorem start_second : k0_pay7 (F := Ideal) = k0_pay4 (F := Ideal) ∧ k0_pay8 (F := Ideal) = k0_pay5 (F := Ideal) ∧ k0_pay9 (F := Ideal) = k0_pay6 (F := Ideal) :=
  ⟨rfl, rfl, rfl⟩

/-- What it ends with: a head's values by its powers' sum, … -/
theorem output (a0 : Vec Ideal S64x512 .f32) (l0 : Vec Ideal S1x512 .f32) (a1 : Vec Ideal S64x512 .f32) (l1 : Vec Ideal S1x512 .f32) (r : Fin 512) (d : Fin 128) :
    k0_pay2 (F := Ideal) a0 l0 a1 l1 (ix2 r d)
      = if h : d.val < 64 then Ideal.div (a0 (ix2 ⟨d.val, h⟩ r)) (l0 (ix2 0 r)) else Ideal.div (a1 (ix2 ⟨d.val - 64, by omega⟩ r)) (l1 (ix2 0 r)) := by
  have e : ∀ (a : Vec Ideal S64x512 .f32) (l : Vec Ideal S1x512 .f32) (d : Fin 64),
      divf (F := Ideal) (φ := .f32) a (broadcastTo S64x512 l broadcasts_S1x512_S64x512) (ix2 d r) = Ideal.div (a (ix2 d r)) (l (ix2 0 r)) := by
    intro a l d; pointwise []
  have e0 := e a0 l0
  have e1 := e a1 l1
  unfold k0_pay2
  generalize divf (F := Ideal) (φ := .f32) a0 (broadcastTo S64x512 l0 broadcasts_S1x512_S64x512) = y0 at e0 ⊢
  generalize divf (F := Ideal) (φ := .f32) a1 (broadcastTo S64x512 l1 broadcasts_S1x512_S64x512) = y1 at e1 ⊢
  simp only [← e0, ← e1]
  pointwise []

/-- … and the shift with the logarithm of that sum. -/
theorem log_sums (x0 l0 x1 l1 : Vec Ideal S1x512 .f32) (h : Fin 2) (r : Fin 512) :
    k0_pay3 (F := Ideal) x0 l0 x1 l1 (ix3 0 h r)
      = if h.val < 1 then x0 (ix2 0 r) + Ideal.div (Ideal.log (l0 (ix2 0 r))) (Ideal.log (Ideal.ofBits .f32 0x40000000#32))
        else x1 (ix2 0 r) + Ideal.div (Ideal.log (l1 (ix2 0 r))) (Ideal.log (Ideal.ofBits .f32 0x40000000#32)) := by
  have e : ∀ x l : Vec Ideal S1x512 .f32,
      addf (F := Ideal) (φ := .f32) x (divf (log l) (log (broadcast S1x512 (Scalar.ofBits .f32 0x40000000#32)))) (ix2 0 r) = x (ix2 0 r) + Ideal.div (Ideal.log (l (ix2 0 r))) (Ideal.log (Ideal.ofBits .f32 0x40000000#32)) := by
    intro x l; pointwise []
  have e0 := e x0 l0
  have e1 := e x1 l1
  unfold k0_pay3
  generalize addf (F := Ideal) (φ := .f32) x0 (divf (log l0) (log (broadcast S1x512 (Scalar.ofBits .f32 0x40000000#32)))) = y0 at e0 ⊢
  generalize addf (F := Ideal) (φ := .f32) x1 (divf (log l1) (log (broadcast S1x512 (Scalar.ofBits .f32 0x40000000#32)))) = y1 at e1 ⊢
  simp only [← e0, ← e1]
  pointwise []
  have one : ∀ i : Fin 1, i = 0 := by decide
  by_cases hh : h.val < 1
  · rw [dif_pos hh, if_pos hh, one ⟨h.val, hh⟩]
  · rw [dif_neg hh, if_neg hh, one ⟨h.val - 1, _⟩]

end Cert.MlaFwd

end
-- ==== Proof.MlaFwd.Reals.lean ====
/- The softmax in base two, gathered tile by tile: of the logits seen so far it keeps a shift, the sum of the shifted powers
   and the values weighted by them. Another shift only scales both sums, so at the end their quotient is the softmax's
   weighted sum of the values, and the shift with the sum's logarithm is the logarithm of the unshifted sum. The values
   may be infinite. -/
module

public import proofs.«01_k».proof.Proof.MlaBwd.Reals

@[expose] public section

noncomputable section

namespace Cert.MlaFwd

open Idealize.ShloMosaic
open Cert.MlaBwd (coe_sum sum_range_coe div_real sub_real log_real fold_max_real)

variable (σ : ℕ → ℝ) (v : ℕ → EReal)

/-- The powers' sum over the first `n` logits, under the shift `μ`. -/
def mass (μ : ℝ) (n : ℕ) : ℝ := ∑ c ∈ Finset.range n, Real.rpow 2 (σ c - μ)

/-- The values' sum, each with its power. -/
def weighted (μ : ℝ) (n : ℕ) : EReal := ∑ c ∈ Finset.range n, v c * (Real.rpow 2 (σ c - μ) : EReal)

theorem pow_pos (x : ℝ) : 0 < Real.rpow 2 x := Real.rpow_pos_of_pos (by norm_num) x

theorem pow_add (x y : ℝ) : Real.rpow 2 x * Real.rpow 2 y = Real.rpow 2 (x + y) := (Real.rpow_add (by norm_num) x y).symm

/-- A positive real passes through a sum. -/
theorem mul_sum {a : ℝ} (ha : 0 < a) (s : Finset ℕ) (f : ℕ → EReal) : (a : EReal) * ∑ c ∈ s, f c = ∑ c ∈ s, (a : EReal) * f c := by
  classical
  induction s using Finset.induction_on with
  | empty => simp
  | insert i s hi ih =>
    rw [Finset.sum_insert hi, Finset.sum_insert hi, ← ih]
    exact EReal.left_distrib_of_nonneg_of_ne_top (by exact_mod_cast ha.le) (EReal.coe_ne_top a) _ _

theorem mass_pos (μ : ℝ) {n : ℕ} (hn : 0 < n) : 0 < mass σ μ n :=
  Finset.sum_pos (fun _ _ => pow_pos _) ⟨0, Finset.mem_range.mpr hn⟩

/-- Another shift. -/
theorem mass_shift (μ ν : ℝ) (n : ℕ) : Real.rpow 2 (μ - ν) * mass σ μ n = mass σ ν n := by
  unfold mass
  rw [Finset.mul_sum]
  exact Finset.sum_congr rfl fun c _ => by rw [pow_add]; congr 1; ring

theorem weighted_shift (μ ν : ℝ) (n : ℕ) : (Real.rpow 2 (μ - ν) : EReal) * weighted σ v μ n = weighted σ v ν n := by
  unfold weighted
  rw [mul_sum (pow_pos _)]
  refine Finset.sum_congr rfl fun c _ => ?_
  rw [mul_left_comm, ← EReal.coe_mul, pow_add]
  congr 3; ring

/-- One more tile of logits. -/
theorem mass_next (μ ν : ℝ) (n k : ℕ) :
    Ideal.exp2 ((μ : EReal) - (ν : EReal)) * (mass σ μ n : EReal) + ∑ c ∈ Finset.range k, Ideal.exp2 ((σ (n + c) : EReal) - (ν : EReal)) = (mass σ ν (n + k) : EReal) := by
  rw [sub_real, Ideal.exp2_coe, ← EReal.coe_mul, mass_shift,
    sum_range_coe _ (fun c => Real.rpow 2 (σ (n + c) - ν)) (fun c _ => by rw [sub_real, Ideal.exp2_coe]), ← EReal.coe_add]
  unfold mass
  rw [Finset.sum_range_add]

theorem weighted_next (μ ν : ℝ) (n k : ℕ) :
    Ideal.exp2 ((μ : EReal) - (ν : EReal)) * weighted σ v μ n + ∑ c ∈ Finset.range k, v (n + c) * Ideal.exp2 ((σ (n + c) : EReal) - (ν : EReal)) = weighted σ v ν (n + k) := by
  rw [sub_real, Ideal.exp2_coe, weighted_shift]
  unfold weighted
  rw [Finset.sum_range_add]
  refine congrArg (_ + ·) (Finset.sum_congr rfl fun c _ => ?_)
  rw [sub_real, Ideal.exp2_coe]

/-- The softmax of the logits in base two, and the logarithm of its denominator. -/
def denominator (n : ℕ) : ℝ := ∑ c ∈ Finset.range n, Real.exp (σ c * Real.log 2)

def probability (n c : ℕ) : ℝ := Real.exp (σ c * Real.log 2) / denominator σ n

theorem denominator_pos {n : ℕ} (hn : 0 < n) : 0 < denominator σ n :=
  Finset.sum_pos (fun _ _ => Real.exp_pos _) ⟨0, Finset.mem_range.mpr hn⟩

theorem pow_eq (x : ℝ) : Real.rpow 2 x = Real.exp (x * Real.log 2) := by
  show (2 : ℝ) ^ (x : ℝ) = _
  rw [Real.rpow_def_of_pos (by norm_num), mul_comm]

theorem mass_eq (μ : ℝ) (n : ℕ) : mass σ μ n = Real.rpow 2 (-μ) * denominator σ n := by
  unfold mass denominator
  rw [Finset.mul_sum]
  refine Finset.sum_congr rfl fun c _ => ?_
  rw [← pow_eq, pow_add]
  congr 1; ring

theorem quotient (μ : ℝ) {n : ℕ} (hn : 0 < n) :
    Ideal.div (weighted σ v μ n) (mass σ μ n : EReal) = ∑ c ∈ Finset.range n, v c * (probability σ n c : EReal) := by
  have hm := mass_pos σ μ hn
  rw [Ideal.div_coe hm.ne', mul_comm]
  unfold weighted
  rw [mul_sum (one_div_pos.mpr hm)]
  refine Finset.sum_congr rfl fun c _ => ?_
  rw [mul_left_comm, ← EReal.coe_mul]
  congr 2
  have h0 := (denominator_pos σ hn).ne'
  have h1 := (pow_pos (-μ)).ne'
  rw [mass_eq, probability, ← pow_eq, sub_eq_add_neg, ← pow_add]
  field_simp

theorem logarithm (μ : ℝ) {n : ℕ} (hn : 0 < n) :
    (μ : EReal) + Ideal.div (Ideal.log (mass σ μ n : EReal)) (Real.log 2 : EReal) = ((Real.log (denominator σ n) / Real.log 2 : ℝ) : EReal) := by
  have hl : Real.log 2 ≠ 0 := (Real.log_pos (by norm_num)).ne'
  rw [log_real (mass_pos σ μ hn), div_real hl, ← EReal.coe_add]
  congr 1
  rw [mass_eq, Real.log_mul (pow_pos _).ne' (denominator_pos σ hn).ne', pow_eq, Real.log_exp]
  field_simp
  ring

/-- The host's softmax, which shifts the natural exponentials by some real `t`. -/
theorem shifted (t : ℝ) (n c : ℕ) (hn : 0 < n) :
    Real.exp (σ c * Real.log 2 - t) / ∑ x ∈ Finset.range n, Real.exp (σ x * Real.log 2 - t) = probability σ n c := by
  have e : ∀ x, Real.exp (σ x * Real.log 2 - t) = Real.exp (-t) * Real.exp (σ x * Real.log 2) := fun x => by
    rw [← Real.exp_add]; congr 1; ring
  have h0 := (denominator_pos σ hn).ne'
  simp only [e]
  rw [← Finset.mul_sum, mul_div_mul_left _ _ (Real.exp_pos _).ne']
  rfl

end Cert.MlaFwd

end
-- ==== Proof.MlaFwd.Step.lean ====
/- The attention's forward call: one tile of logits, for one head. What a head keeps after the first `n` keys is a shift, the
   powers' sum and the weighted values under that shift; a tile takes this from `n` keys to `n + 4096`. -/
module

public import proofs.«01_k».proof.Proof.MlaFwd.Pay
public import proofs.«01_k».proof.Proof.MlaFwd.Reals

@[expose] public section

set_option maxRecDepth 16384

noncomputable section

namespace Cert.MlaFwd

open Idealize.ShloMosaic Idealize.ShloMosaic.TcCoe Idealize.SL.Sem Cert.Kernel7Ideal Cert.Kernel7Ideal.Gen
open Cert.MlaBwd (fold_max_real)

/-- What a head has kept of query `r` after `n` keys. -/
def Kept (σ : ℕ → ℝ) (v : ℕ → ℕ → EReal) (n : ℕ) (x l : Vec Ideal S1x512 .f32) (a : Vec Ideal S64x512 .f32) (r : Fin 512) : Prop :=
  ∃ μ : ℝ, x (ix2 0 r) = (μ : EReal) ∧ l (ix2 0 r) = (mass σ μ n : EReal) ∧ ∀ d : Fin 64, a (ix2 d r) = weighted σ (v d) μ n

theorem real_max (x y : ℝ) : max (x : EReal) (y : EReal) = ((max x y : ℝ) : EReal) := (EReal.coe_strictMono.monotone.map_max).symm

/-- The shift a query tile starts with is a number. -/
theorem start_real : ∃ s : ℝ, FloatOps.ofBits (F := Ideal) .f32 0xF149F2CA#32 = (s : EReal) := by
  show ∃ s : ℝ, Ideal.ofBits .f32 0xF149F2CA#32 = (s : EReal)
  refine ⟨-(13234890 * 2 ^ 76), ?_⟩
  simp [Ideal.ofBits, Ideal.ieee]
  try norm_cast

theorem kept_start (σ : ℕ → ℝ) (v : ℕ → ℕ → EReal) (r : Fin 512) :
    Kept σ v 0 (k0_pay4 (F := Ideal)) (k0_pay5 (F := Ideal)) (k0_pay6 (F := Ideal)) r := by
  obtain ⟨s, hs⟩ := start_real
  refine ⟨s, (start_shift r).trans hs, (start_total r).trans ?_, fun d => (start_values d r).trans ?_⟩
  · simp [mass]
  · simp [weighted]

/-- A tile. -/
theorem kept_next {σ : ℕ → ℝ} {v : ℕ → ℕ → EReal} {n : ℕ} {x l : Vec Ideal S1x512 .f32} {a : Vec Ideal S64x512 .f32} {r : Fin 512}
    (h : Kept σ v n x l a r) (s : FVec Ideal S4096x512 .f32) (w : Vec Ideal S64x4096 .bf16)
    (hs : ∀ c : Fin 4096, s (ix2 c r) = (σ (n + c) : EReal)) (hw : ∀ (d : Fin 64) (c : Fin 4096), w (ix2 d c) = v d (n + c)) :
    Kept σ v (n + 4096) (k0_pay22 (F := Ideal) s x) (k0_pay21 (F := Ideal) s x l) (k0_pay1 (F := Ideal) (k0_pay23 (F := Ideal) s x w a)) r := by
  obtain ⟨μ, hx, hl, ha⟩ := h
  obtain ⟨t, ht⟩ := fold_max_real (by decide : 0 < 4096) (fun c : Fin 4096 => s (ix2 c r)) fun c => ⟨_, hs c⟩
  have hν : k0_pay18 (F := Ideal) s x (ix2 0 r) = ((max μ t : ℝ) : EReal) := by rw [shift, hx, ht, real_max]
  have hf : k0_pay19 (F := Ideal) s x (ix2 0 r) = Ideal.exp2 ((μ : EReal) - ((max μ t : ℝ) : EReal)) := by rw [factor, hx, hν]
  have hp : ∀ c : Fin 4096, k0_pay20 (F := Ideal) s x (ix2 c r) = Ideal.exp2 ((σ (n + c) : EReal) - ((max μ t : ℝ) : EReal)) := by
    intro c; rw [powers, hs, hν]
  refine ⟨max μ t, (shift_kept s x r).trans hν, ?_, fun d => ?_⟩
  · rw [total, hf, hl, ← mass_next σ μ (max μ t) n 4096, Finset.sum_range]
    exact congrArg (_ + ·) (Finset.sum_congr rfl fun c _ => hp c)
  · rw [kept, values, hf, ha d, ← weighted_next σ (v d) μ (max μ t) n 4096, Finset.sum_range]
    exact congrArg (_ + ·) (Finset.sum_congr rfl fun c _ => congrArg₂ (· * ·) (hw d c) (hp c))

/-- What two tiles leave is the softmax of the logits, and the logarithm of its denominator. -/
theorem kept_values {σ : ℕ → ℝ} {v : ℕ → ℕ → EReal} {n : ℕ} (hn : 0 < n) {x l : Vec Ideal S1x512 .f32} {a : Vec Ideal S64x512 .f32} {r : Fin 512}
    (h : Kept σ v n x l a r) (d : Fin 64) :
    Ideal.div (a (ix2 d r)) (l (ix2 0 r)) = ∑ c ∈ Finset.range n, v d c * (probability σ n c : EReal) := by
  obtain ⟨μ, -, hl, ha⟩ := h
  rw [hl, ha d, quotient σ (v d) μ hn]

theorem kept_log {σ : ℕ → ℝ} {v : ℕ → ℕ → EReal} {n : ℕ} (hn : 0 < n) {x l : Vec Ideal S1x512 .f32} {a : Vec Ideal S64x512 .f32} {r : Fin 512}
    (h : Kept σ v n x l a r) :
    x (ix2 0 r) + Ideal.div (Ideal.log (l (ix2 0 r))) (Ideal.log (Ideal.ofBits .f32 0x40000000#32)) = ((Real.log (denominator σ n) / Real.log 2 : ℝ) : EReal) := by
  obtain ⟨μ, hx, hl, -⟩ := h
  rw [hx, hl, Cert.MlaBwd.log_two_f32, logarithm σ μ hn]

end Cert.MlaFwd

end
-- ==== Proof.MlaFwd.Point.lean ====
/- The attention's forward call at a grid point: point `t` is of head pair `t / 32`, of the query tile `t / 2 % 16` and of the
   key tile `t % 2`. The first key tile starts the two heads' sums, the second ends them. -/
module

public import proofs.«01_k».proof.Proof.MlaFwd.Pay

@[expose] public section

set_option maxRecDepth 16384

noncomputable section

namespace Cert.MlaFwd

open Idealize.ShloMosaic Idealize.ShloMosaic.TcCoe Idealize.SL.Sem Cert.Kernel7Ideal Cert.Kernel7Ideal.Gen
open Cert.MlaBwd (at2 window_ix2)

variable (m : (ℓ : Loc nD τ sig) → Buf (Elt Ideal) ℓ) (c : Dev nD)

/-- The windows' index maps, of all points at once. -/
theorem index_in : ∀ t : Fin cfg0.N, win0_0.index t = ![t.val / 2 % 16, t.val / 32] ∧ win0_1.index t = ![t.val % 2, t.val / 32]
    ∧ win0_2.index t = ![t.val / 32, t.val % 2] :=
  (by decide +kernel : ∀ t : Fin grid0.N, _)

theorem lt_N (t : Fin cfg0.N) : t.val < 128 := lt_of_lt_of_eq t.isLt N_0

theorem block_q (t : Fin cfg0.N) (r : Fin 512) (l : Fin 256) :
    iblk m c 0 t (ix2 r l) = at2 (V m c main_arg0) (512 * (t.val / 2 % 16) + r.val) (256 * (t.val / 32) + l.val) := by
  have ht := lt_N t
  rw [at2, dif_pos ⟨by omega, by omega⟩]
  generalize hV : V m c = W
  unfold iblk
  rw [hV]
  blk_point [index_in t]

theorem block_k (t : Fin cfg0.N) (r : Fin 4096) (l : Fin 256) :
    iblk m c 1 t (ix2 r l) = at2 (V m c main_arg1) (4096 * (t.val % 2) + r.val) (256 * (t.val / 32) + l.val) := by
  have ht := lt_N t
  rw [at2, dif_pos ⟨by omega, by omega⟩]
  generalize hV : V m c = W
  unfold iblk
  rw [hV]
  blk_point [index_in t]

theorem block_v (t : Fin cfg0.N) (d : Fin 128) (r : Fin 4096) :
    iblk m c 2 t (ix2 d r) = at2 (V m c main_arg2) (128 * (t.val / 32) + d.val) (4096 * (t.val % 2) + r.val) := by
  have ht := lt_N t
  rw [at2, dif_pos ⟨by omega, by omega⟩]
  generalize hV : V m c = W
  unfold iblk
  rw [hV]
  blk_point [index_in t]

/-- What a point loads for its two heads. -/
abbrev q0 (t : Fin cfg0.N) : Vec Ideal S512x128 .bf16 := View.ld (iblk m c 0 t) (Rect.unit ![0, 0] ![512, 128] inb_S512x256_S512x128_0_0)
abbrev q1 (t : Fin cfg0.N) : Vec Ideal S512x128 .bf16 := View.ld (iblk m c 0 t) (Rect.unit ![0, 128] ![512, 128] inb_S512x256_S512x128_0_128)
abbrev k0 (t : Fin cfg0.N) : Vec Ideal S4096x128 .bf16 := View.ld (iblk m c 1 t) (Rect.unit ![0, 0] ![4096, 128] inb_S4096x256_S4096x128_0_0)
abbrev k1 (t : Fin cfg0.N) : Vec Ideal S4096x128 .bf16 := View.ld (iblk m c 1 t) (Rect.unit ![0, 128] ![4096, 128] inb_S4096x256_S4096x128_0_128)
abbrev v0 (t : Fin cfg0.N) : Vec Ideal S64x4096 .bf16 := View.ld (iblk m c 2 t) (Rect.unit ![0, 0] ![64, 4096] inb_S128x4096_S64x4096_0_0)
abbrev v1 (t : Fin cfg0.N) : Vec Ideal S64x4096 .bf16 := View.ld (iblk m c 2 t) (Rect.unit ![64, 0] ![64, 4096] inb_S128x4096_S64x4096_64_0)

/-- A load at an index of its block. -/
theorem load {a b o₀ o₁ s₀ s₁ : ℕ} (x : (⟨2, ![a, b]⟩ : Shape).Idx → EReal) (inb) (i : Fin s₀) (j : Fin s₁) (h0 : o₀ + s₀ ≤ a) (h1 : o₁ + s₁ ≤ b) :
    View.ld (Val := Elt Ideal) (e' := .bf16) x (Rect.unit (s := ⟨2, ![a, b]⟩) ![o₀, o₁] ![s₀, s₁] inb) (ix2 i j) = x (ix2 ⟨o₀ + i.val, by omega⟩ ⟨o₁ + j.val, by omega⟩) := by
  refine (window_ix2 x inb i j).trans ?_
  rw [at2, dif_pos ⟨by omega, by omega⟩]

/-- The two heads' logits. -/
abbrev s0 (t : Fin cfg0.N) : FVec Ideal S4096x512 .f32 := k0_pay10 (F := Ideal) (k0 m c t) (q0 m c t)
abbrev s1 (t : Fin cfg0.N) : FVec Ideal S4096x512 .f32 := k0_pay10 (F := Ideal) (k1 m c t) (q1 m c t)

/-- What the first key tile leaves. -/
theorem first0 (t : Fin cfg0.N) (h : t.val % 2 = 0) :
    (outsAt0 m c t.val t.isLt).2.2.1 = k0_pay22 (F := Ideal) (s0 m c t) (k0_pay4 (F := Ideal))
    ∧ (outsAt0 m c t.val t.isLt).2.2.2.1 = k0_pay21 (F := Ideal) (s0 m c t) (k0_pay4 (F := Ideal)) (k0_pay5 (F := Ideal))
    ∧ (outsAt0 m c t.val t.isLt).2.2.2.2.1 = k0_pay1 (F := Ideal) (k0_pay23 (F := Ideal) (s0 m c t) (k0_pay4 (F := Ideal)) (v0 m c t) (k0_pay6 (F := Ideal))) := by
  rw [outsAt0_A m c t h (by omega)]
  refine ⟨?_, ?_, ?_⟩
  · frame_out
    exact shift_first _ _ _
  · frame_out
    exact sum_first _ _ _ _
  · frame_out
    exact values_first _ _ _ _ _

theorem first1 (t : Fin cfg0.N) (h : t.val % 2 = 0) :
    (outsAt0 m c t.val t.isLt).2.2.2.2.2.1 = k0_pay22 (F := Ideal) (s1 m c t) (k0_pay4 (F := Ideal))
    ∧ (outsAt0 m c t.val t.isLt).2.2.2.2.2.2.1 = k0_pay21 (F := Ideal) (s1 m c t) (k0_pay4 (F := Ideal)) (k0_pay5 (F := Ideal))
    ∧ (outsAt0 m c t.val t.isLt).2.2.2.2.2.2.2 = k0_pay1 (F := Ideal) (k0_pay23 (F := Ideal) (s1 m c t) (k0_pay4 (F := Ideal)) (v1 m c t) (k0_pay6 (F := Ideal))) := by
  rw [outsAt0_A m c t h (by omega)]
  refine ⟨?_, ?_, ?_⟩
  · frame_out
    exact congrArg (fun s => k0_pay22 (F := Ideal) s _) (logits_second _ _)
  · frame_out
    exact congrArg (fun s => k0_pay21 (F := Ideal) s _ _) (logits_second _ _)
  · frame_out
    exact congrArg (fun s => k0_pay1 (F := Ideal) (k0_pay23 (F := Ideal) s _ _ _)) (logits_second _ _)

/-- What the state was at the point before. -/
abbrev prev (t : Fin cfg0.N) := outsAt0 m c (t.val - 1) (Nat.lt_of_le_of_lt (Nat.sub_le _ _) t.isLt)

/-- What the second one leaves, of what the first one left. -/
theorem second0 (t : Fin cfg0.N) (h : t.val % 2 = 1) :
    (outsAt0 m c t.val t.isLt).2.2.1 = k0_pay22 (F := Ideal) (s0 m c t) (prev m c t).2.2.1
    ∧ (outsAt0 m c t.val t.isLt).2.2.2.1 = k0_pay21 (F := Ideal) (s0 m c t) (prev m c t).2.2.1 (prev m c t).2.2.2.1
    ∧ (outsAt0 m c t.val t.isLt).2.2.2.2.1 = k0_pay1 (F := Ideal) (k0_pay23 (F := Ideal) (s0 m c t) (prev m c t).2.2.1 (v0 m c t) (prev m c t).2.2.2.2.1) := by
  rw [outsAt0_B m c t (by omega) h]
  refine ⟨?_, ?_, ?_⟩
  · frame_out
    exact (congrArg (fun x => k0_pay16 (F := Ideal) _ _ x) ((Memref.isWhole_whole cc0_scratch0).read_unread _)).trans (shift_first _ _ _)
  · frame_out
    exact (congrArg₂ (fun x l => k0_pay15 (F := Ideal) _ _ x l) ((Memref.isWhole_whole cc0_scratch0).read_unread _) ((Memref.isWhole_whole cc0_scratch1).read_unread _)).trans (sum_first _ _ _ _)
  · frame_out
    exact (congrArg₂ (fun x a => k0_pay17 (F := Ideal) (k0_pay13 (F := Ideal) _ _ x) (k0_pay14 (F := Ideal) _ _ x) _ a) ((Memref.isWhole_whole cc0_scratch0).read_unread _) ((Memref.isWhole_whole cc0_scratch2).read_unread _)).trans (values_first _ _ _ _ _)

theorem second1 (t : Fin cfg0.N) (h : t.val % 2 = 1) :
    (outsAt0 m c t.val t.isLt).2.2.2.2.2.1 = k0_pay22 (F := Ideal) (s1 m c t) (prev m c t).2.2.2.2.2.1
    ∧ (outsAt0 m c t.val t.isLt).2.2.2.2.2.2.1 = k0_pay21 (F := Ideal) (s1 m c t) (prev m c t).2.2.2.2.2.1 (prev m c t).2.2.2.2.2.2.1
    ∧ (outsAt0 m c t.val t.isLt).2.2.2.2.2.2.2 = k0_pay1 (F := Ideal) (k0_pay23 (F := Ideal) (s1 m c t) (prev m c t).2.2.2.2.2.1 (v1 m c t) (prev m c t).2.2.2.2.2.2.2) := by
  rw [outsAt0_B m c t (by omega) h]
  refine ⟨?_, ?_, ?_⟩
  · frame_out
    exact congrArg (fun x => k0_pay22 (F := Ideal) _ x) ((Memref.isWhole_whole cc0_scratch3).read_unread _)
  · frame_out
    exact congrArg₂ (fun x l => k0_pay21 (F := Ideal) _ x l) ((Memref.isWhole_whole cc0_scratch3).read_unread _) ((Memref.isWhole_whole cc0_scratch4).read_unread _)
  · frame_out
    exact congrArg₂ (fun x a => k0_pay1 (F := Ideal) (k0_pay23 (F := Ideal) _ x _ a)) ((Memref.isWhole_whole cc0_scratch3).read_unread _) ((Memref.isWhole_whole cc0_scratch5).read_unread _)

/-- The second key tile's outputs. -/
theorem outs (t : Fin cfg0.N) (h : t.val % 2 = 1) :
    (outsAt0 m c t.val t.isLt).1 = k0_pay2 (F := Ideal) (outsAt0 m c t.val t.isLt).2.2.2.2.1 (outsAt0 m c t.val t.isLt).2.2.2.1
        (outsAt0 m c t.val t.isLt).2.2.2.2.2.2.2 (outsAt0 m c t.val t.isLt).2.2.2.2.2.2.1
    ∧ (outsAt0 m c t.val t.isLt).2.1 = k0_pay3 (F := Ideal) (outsAt0 m c t.val t.isLt).2.2.1 (outsAt0 m c t.val t.isLt).2.2.2.1
        (outsAt0 m c t.val t.isLt).2.2.2.2.2.1 (outsAt0 m c t.val t.isLt).2.2.2.2.2.2.1 := by
  rw [outsAt0_B m c t (by omega) h]
  refine ⟨?_, ?_⟩
  · frame_out
  · frame_out

end Cert.MlaFwd

end
-- ==== Proof.MlaFwd.Spec.lean ====
/- What the attention's forward call computes, of its three operands read at natural numbers: the queries' and the keys'
   rows hold eight heads of 128 lanes, the values' rows eight heads of 64. -/
module

public import proofs.«01_k».proof.Proof.MlaFwd.Reals
public import proofs.«01_k».proof.Proof.MlaBwd.Nat

@[expose] public section

noncomputable section

namespace Cert.MlaFwd

open Idealize.ShloMosaic Idealize.SL.Sem
open Cert.MlaBwd (at2 sum_range_coe)

/-- The logit of a head at a query and a key. -/
def logit (q k : (⟨2, ![8192, 1024]⟩ : Shape).Idx → EReal) (H R C : ℕ) : ℝ :=
  ∑ l ∈ Finset.range 128, (at2 q R (128 * H + l)).toReal * (at2 k C (128 * H + l)).toReal

/-- A head's output, … -/
def attn (q k : (⟨2, ![8192, 1024]⟩ : Shape).Idx → EReal) (v : (⟨2, ![512, 8192]⟩ : Shape).Idx → EReal) (H R d : ℕ) : EReal :=
  ∑ C ∈ Finset.range 8192, at2 v (64 * H + d) C * (probability (logit q k H R) 8192 C : EReal)

/-- … and the logarithm, to the base two, of its softmax's denominator. -/
def lse (q k : (⟨2, ![8192, 1024]⟩ : Shape).Idx → EReal) (H R : ℕ) : EReal :=
  ((Real.log (denominator (logit q k H R) 8192) / Real.log 2 : ℝ) : EReal)

theorem at2_real {x : (⟨2, ![8192, 1024]⟩ : Shape).Idx → EReal} (h : ∀ i, ∃ r : ℝ, x i = (r : EReal)) (i j : ℕ) : at2 x i j = ((at2 x i j).toReal : EReal) := by
  unfold at2
  split
  · obtain ⟨r, e⟩ := h (ix2 ⟨i, by omega⟩ ⟨j, by omega⟩)
    rw [e, EReal.toReal_coe]
  · simp

theorem product_real {q k : (⟨2, ![8192, 1024]⟩ : Shape).Idx → EReal} (hq : ∀ i, ∃ r : ℝ, q i = (r : EReal)) (hk : ∀ i, ∃ r : ℝ, k i = (r : EReal)) (H R C : ℕ) :
    (∑ l : Fin 128, at2 q R (128 * H + l.val) * at2 k C (128 * H + l.val)) = (logit q k H R C : EReal) := by
  rw [← Finset.sum_range (fun l => at2 q R (128 * H + l) * at2 k C (128 * H + l)), logit]
  exact sum_range_coe _ _ fun l _ => by rw [EReal.coe_mul, ← at2_real hq, ← at2_real hk]

end Cert.MlaFwd

end
-- ==== Proof.MlaFwd.Final.lean ====
/- The attention's forward call: what its grid leaves in the two results, when the queries and the keys are reals. -/
module

public import proofs.«01_k».proof.Proof.MlaFwd.Step
public import proofs.«01_k».proof.Proof.MlaFwd.Point
public import proofs.«01_k».proof.Proof.MlaFwd.Spec

@[expose] public section

set_option maxRecDepth 16384

noncomputable section

namespace Cert.MlaFwd

open Idealize.ShloMosaic Idealize.ShloMosaic.TcCoe Idealize.SL.Sem Cert.Kernel7Ideal Cert.Kernel7Ideal.Gen
open Cert.MlaBwd (at2 at2_ix sum_range_coe)
open Cert.Kernel7Ideal.Value (G3 G4 pt3Of pt4Of)

variable (m : (ℓ : Loc nD τ sig) → Buf (Elt Ideal) ℓ) (c : Dev nD)

/-- A point's values, for its two heads. -/
theorem values0 (t : Fin cfg0.N) (d : Fin 64) (x : Fin 4096) :
    v0 m c t (ix2 d x) = at2 (V m c main_arg2) (64 * (2 * (t.val / 32)) + d.val) (4096 * (t.val % 2) + x.val) := by
  refine (load (iblk m c 2 t) _ d x (by norm_num) (by norm_num)).trans ((block_v m c t _ _).trans ?_)
  congr 1 <;> simp only [] <;> omega

theorem values1 (t : Fin cfg0.N) (d : Fin 64) (x : Fin 4096) :
    v1 m c t (ix2 d x) = at2 (V m c main_arg2) (64 * (2 * (t.val / 32) + 1) + d.val) (4096 * (t.val % 2) + x.val) := by
  refine (load (iblk m c 2 t) _ d x (by norm_num) (by norm_num)).trans ((block_v m c t _ _).trans ?_)
  congr 1 <;> simp only [] <;> omega

section Real

variable (hq : ∀ i, ∃ r : ℝ, (V m c main_arg0 : (⟨2, ![8192, 1024]⟩ : Shape).Idx → EReal) i = (r : EReal))
  (hk : ∀ i, ∃ r : ℝ, (V m c main_arg1 : (⟨2, ![8192, 1024]⟩ : Shape).Idx → EReal) i = (r : EReal))
include hq hk

/-- A point's logits. -/
theorem logits0 (t : Fin cfg0.N) (x : Fin 4096) (r : Fin 512) :
    s0 m c t (ix2 x r) = (logit (V m c main_arg0) (V m c main_arg1) (2 * (t.val / 32)) (512 * (t.val / 2 % 16) + r.val) (4096 * (t.val % 2) + x.val) : EReal) := by
  rw [← product_real hq hk]
  refine (logits _ _ x r).trans (Finset.sum_congr rfl fun l _ => ?_)
  refine (mul_comm _ _).trans (congrArg₂ (· * ·) ?_ ?_)
  · refine (load (iblk m c 0 t) _ r l (by norm_num) (by norm_num)).trans ((block_q m c t _ _).trans ?_)
    congr 1 <;> simp only [] <;> omega
  · refine (load (iblk m c 1 t) _ x l (by norm_num) (by norm_num)).trans ((block_k m c t _ _).trans ?_)
    congr 1 <;> simp only [] <;> omega

theorem logits1 (t : Fin cfg0.N) (x : Fin 4096) (r : Fin 512) :
    s1 m c t (ix2 x r) = (logit (V m c main_arg0) (V m c main_arg1) (2 * (t.val / 32) + 1) (512 * (t.val / 2 % 16) + r.val) (4096 * (t.val % 2) + x.val) : EReal) := by
  rw [← product_real hq hk]
  refine (logits _ _ x r).trans (Finset.sum_congr rfl fun l _ => ?_)
  refine (mul_comm _ _).trans (congrArg₂ (· * ·) ?_ ?_)
  · refine (load (iblk m c 0 t) _ r l (by norm_num) (by norm_num)).trans ((block_q m c t _ _).trans ?_)
    congr 1 <;> simp only [] <;> omega
  · refine (load (iblk m c 1 t) _ x l (by norm_num) (by norm_num)).trans ((block_k m c t _ _).trans ?_)
    congr 1 <;> simp only [] <;> omega

/-- What a point keeps of its two heads: of the first key tile's keys after the first, of all the keys after the second. -/
abbrev Head (H : ℕ) (n : ℕ) (R : ℕ) := Kept (logit (V m c main_arg0) (V m c main_arg1) H R) (fun d C => at2 (V m c main_arg2) (64 * H + d) C) n

omit hq hk in
theorem head_congr {H H' R R' n : ℕ} {x l : Vec Ideal S1x512 .f32} {a : Vec Ideal S64x512 .f32} {r : Fin 512} (h : Head m c H n R x l a r) (e : H = H') (e' : R = R') :
    Head m c H' n R' x l a r := by
  subst e e'; exact h

theorem head0_first (t : Fin cfg0.N) (h : t.val % 2 = 0) (r : Fin 512) :
    Head m c (2 * (t.val / 32)) 4096 (512 * (t.val / 2 % 16) + r.val) (outsAt0 m c t.val t.isLt).2.2.1 (outsAt0 m c t.val t.isLt).2.2.2.1 (outsAt0 m c t.val t.isLt).2.2.2.2.1 r := by
  obtain ⟨e0, e1, e2⟩ := first0 m c t h
  rw [e0, e1, e2]
  refine kept_next (n := 0) (kept_start _ _ r) _ _ (fun x => ?_) fun d x => ?_
  · rw [logits0 m c hq hk, h, Nat.mul_zero]
  · rw [values0 m c, h, Nat.mul_zero]

theorem head1_first (t : Fin cfg0.N) (h : t.val % 2 = 0) (r : Fin 512) :
    Head m c (2 * (t.val / 32) + 1) 4096 (512 * (t.val / 2 % 16) + r.val) (outsAt0 m c t.val t.isLt).2.2.2.2.2.1 (outsAt0 m c t.val t.isLt).2.2.2.2.2.2.1 (outsAt0 m c t.val t.isLt).2.2.2.2.2.2.2 r := by
  obtain ⟨e0, e1, e2⟩ := first1 m c t h
  rw [e0, e1, e2]
  refine kept_next (n := 0) (kept_start _ _ r) _ _ (fun x => ?_) fun d x => ?_
  · rw [logits1 m c hq hk, h, Nat.mul_zero]
  · rw [values1 m c, h, Nat.mul_zero]

theorem head0 (t : Fin cfg0.N) (h : t.val % 2 = 1) (r : Fin 512) :
    Head m c (2 * (t.val / 32)) 8192 (512 * (t.val / 2 % 16) + r.val) (outsAt0 m c t.val t.isLt).2.2.1 (outsAt0 m c t.val t.isLt).2.2.2.1 (outsAt0 m c t.val t.isLt).2.2.2.2.1 r := by
  obtain ⟨e0, e1, e2⟩ := second0 m c t h
  rw [e0, e1, e2]
  have p := head0_first m c hq hk ⟨t.val - 1, Nat.lt_of_le_of_lt (Nat.sub_le _ _) t.isLt⟩ (by show (t.val - 1) % 2 = 0; omega) r
  refine kept_next (n := 4096) (head_congr m c p (by show 2 * ((t.val - 1) / 32) = _; omega) (by show 512 * ((t.val - 1) / 2 % 16) + r.val = _; omega)) _ _ (fun x => ?_) fun d x => ?_
  · rw [logits0 m c hq hk, h, Nat.mul_one]
  · rw [values0 m c, h, Nat.mul_one]

theorem head1 (t : Fin cfg0.N) (h : t.val % 2 = 1) (r : Fin 512) :
    Head m c (2 * (t.val / 32) + 1) 8192 (512 * (t.val / 2 % 16) + r.val) (outsAt0 m c t.val t.isLt).2.2.2.2.2.1 (outsAt0 m c t.val t.isLt).2.2.2.2.2.2.1 (outsAt0 m c t.val t.isLt).2.2.2.2.2.2.2 r := by
  obtain ⟨e0, e1, e2⟩ := second1 m c t h
  rw [e0, e1, e2]
  have p := head1_first m c hq hk ⟨t.val - 1, Nat.lt_of_le_of_lt (Nat.sub_le _ _) t.isLt⟩ (by show (t.val - 1) % 2 = 0; omega) r
  refine kept_next (n := 4096) (head_congr m c p (by show 2 * ((t.val - 1) / 32) + 1 = _; omega) (by show 512 * ((t.val - 1) / 2 % 16) + r.val = _; omega)) _ _ (fun x => ?_) fun d x => ?_
  · rw [logits1 m c hq hk, h, Nat.mul_one]
  · rw [values1 m c, h, Nat.mul_one]

/-- A block of the output, and one of the logarithms. -/
theorem out_block (t : Fin cfg0.N) (h : t.val % 2 = 1) (r : Fin 512) (d : Fin 128) :
    (outsAt0 m c t.val t.isLt).1 (ix2 r d)
      = attn (V m c main_arg0) (V m c main_arg1) (V m c main_arg2) (2 * (t.val / 32) + d.val / 64) (512 * (t.val / 2 % 16) + r.val) (d.val % 64) := by
  rw [(outs m c t h).1, output]
  unfold attn
  by_cases hd : d.val < 64
  · rw [dif_pos hd, kept_values (by norm_num) (head0 m c hq hk t h r), show d.val / 64 = 0 by omega, show d.val % 64 = d.val by omega, Nat.add_zero]
  · rw [dif_neg hd, kept_values (by norm_num) (head1 m c hq hk t h r), show d.val / 64 = 1 by omega, show d.val % 64 = d.val - 64 by omega]

theorem lse_block (t : Fin cfg0.N) (h : t.val % 2 = 1) (e : Fin 2) (r : Fin 512) :
    (outsAt0 m c t.val t.isLt).2.1 (ix3 0 e r)
      = lse (V m c main_arg0) (V m c main_arg1) (2 * (t.val / 32) + e.val) (512 * (t.val / 2 % 16) + r.val) := by
  rw [(outs m c t h).2, log_sums]
  unfold lse
  by_cases hd : e.val < 1
  · rw [if_pos hd, kept_log (by norm_num) (head0 m c hq hk t h r), show e.val = 0 by omega, Nat.add_zero]
  · rw [if_neg hd, kept_log (by norm_num) (head1 m c hq hk t h r), show e.val = 1 by omega]

omit hq hk in
/-- An index's place in its block. -/
theorem loc_out (R : Fin 8192) (A : Fin 512) : Cert.Kernel7Ideal.Value.loc3Of (ix2 R A) = ix2 ⟨R.val % 512, by omega⟩ ⟨A.val % 128, by omega⟩ := by
  funext d
  match d with
  | ⟨0, _⟩ => rfl
  | ⟨1, _⟩ => rfl

omit hq hk in
theorem loc_lse (P : Fin 4) (e : Fin 2) (R : Fin 8192) : Cert.Kernel7Ideal.Value.loc4Of (ix3 P e R) = ix3 0 ⟨e.val % 2, by omega⟩ ⟨R.val % 512, by omega⟩ := by
  have one : ∀ i : Fin 1, i = 0 := by decide
  funext d
  match d with
  | ⟨0, _⟩ => exact one _
  | ⟨1, _⟩ => rfl
  | ⟨2, _⟩ => rfl

/-- The whole results. -/
theorem out_eq (R : Fin 8192) (A : Fin 512) :
    G3 m c (ix2 R A) = attn (V m c main_arg0) (V m c main_arg1) (V m c main_arg2) (A.val / 64) R.val (A.val % 64) := by
  have hp : pt3Of (ix2 R A) = 2 * (R.val / 512 + 16 * (A.val / 128)) + 1 := by
    show 2 * (1 * (R.val / 512 - 0) + 16 * (A.val / 128 - 0)) + 1 = _
    omega
  have hlt : pt3Of (ix2 R A) < cfg0.N := by rw [hp]; exact lt_of_lt_of_eq (by omega) N_0.symm
  rw [G3, dif_pos hlt, ← Cert.Kernel7Ideal.Value.outsAt0_sweep m c _ hlt, loc_out]
  refine (out_block m c hq hk ⟨_, hlt⟩ (by show pt3Of _ % 2 = 1; omega) ⟨R.val % 512, by omega⟩ ⟨A.val % 128, by omega⟩).trans ?_
  show attn _ _ _ (2 * (pt3Of _ / 32) + A.val % 128 / 64) (512 * (pt3Of _ / 2 % 16) + R.val % 512) (A.val % 128 % 64) = _
  rw [hp]
  congr 1 <;> omega

theorem lse_eq (P : Fin 4) (e : Fin 2) (R : Fin 8192) :
    G4 m c (ix3 P e R) = lse (V m c main_arg0) (V m c main_arg1) (2 * P.val + e.val) R.val := by
  have hp : pt4Of (ix3 P e R) = 2 * (16 * P.val + R.val / 512) + 1 := by
    show 2 * (16 * (P.val / 1 - 0) + 16 * (e.val / 2 - 0) + 1 * (R.val / 512 - 0)) + 1 = _
    omega
  have hlt : pt4Of (ix3 P e R) < cfg0.N := by rw [hp]; exact lt_of_lt_of_eq (by omega) N_0.symm
  rw [G4, dif_pos hlt, ← Cert.Kernel7Ideal.Value.outsAt0_sweep m c _ hlt, loc_lse]
  refine (lse_block m c hq hk ⟨_, hlt⟩ (by show pt4Of _ % 2 = 1; omega) ⟨e.val % 2, by omega⟩ ⟨R.val % 512, by omega⟩).trans ?_
  show lse _ _ (2 * (pt4Of _ / 32) + e.val % 2) (512 * (pt4Of _ / 2 % 16) + R.val % 512) = _
  rw [hp]
  congr 1 <;> omega

end Real

end Cert.MlaFwd

end
-- ==== Proof.MlaFwd.RefRead.lean ====
/- The forward reference's values read at indices: the softmax of the scaled logits, the values it weighs, and its
   denominator's logarithm. -/
module

public import proofs.«01_k».proof.Proof.Gen.Reference7Ideal.Read
public import proofs.«01_k».proof.Proof.MlaBwd.Nat
public import proofs.«01_k».proof.Proof.MlaBwd.Reals

@[expose] public section

set_option maxRecDepth 16384
set_option maxHeartbeats 1000000

noncomputable section

namespace Cert.MlaFwd.Ref

open Idealize.ShloMosaic Idealize.ShloMosaic.TcCoe Idealize.SL.Sem Cert.Reference7Ideal Cert.Reference7Ideal.Gen Cert.Reference7Ideal.Read
open Cert.MlaBwd (negInf_f32 fold_max_real)

variable (x0 x1 : FVec Ideal S8192x1024 .bf16) (x2 : FVec Ideal S512x8192 .bf16)

/-- The operands by heads. -/
theorem v2_at (r : Fin 8192) (h : Fin 8) (l : Fin 128) : val_main_v2 (F := Ideal) x0 (ix3 r h l) = x0 (ix2 r ⟨h.val * 128 + l.val, by omega⟩) := by
  unfold val_main_v2 val_main_v1
  pointwise []

theorem v4_at (r : Fin 8192) (h : Fin 8) (l : Fin 128) : val_main_v4 (F := Ideal) x1 (ix3 r h l) = x1 (ix2 r ⟨h.val * 128 + l.val, by omega⟩) := by
  unfold val_main_v4 val_main_v3
  pointwise []

theorem v20_at (h : Fin 8) (d : Fin 64) (c : Fin 8192) : val_main_v20 (F := Ideal) x2 (ix3 h d c) = x2 (ix2 ⟨h.val * 64 + d.val, by omega⟩ c) := by
  unfold val_main_v20 val_main_v19
  pointwise []

/-- The logits, … -/
theorem v5_at (h : Fin 8) (r c : Fin 8192) : val_main_v5 (F := Ideal) x0 x1 (ix3 h r c)
    = ∑ l : Fin 128, val_main_v2 (F := Ideal) x0 (ix3 r h l) * val_main_v4 (F := Ideal) x1 (ix3 c h l) := by
  unfold val_main_v5
  generalize val_main_v2 (F := Ideal) x0 = y2
  generalize val_main_v4 (F := Ideal) x1 = y4
  pointwise []

/-- … scaled. -/
theorem v7_at (h : Fin 8) (r c : Fin 8192) : val_main_v7 (F := Ideal) x0 x1 (ix3 h r c)
    = val_main_v5 (F := Ideal) x0 x1 (ix3 h r c) * Ideal.log (Ideal.ofBits .f32 0x40000000#32) := by
  unfold val_main_v7 val_main_v6 val_main_v0 val_main_cst
  generalize val_main_v5 (F := Ideal) x0 x1 = y5
  pointwise []

/-- The largest logit of a query is a real if all are. -/
theorem v8_real (hs : ∀ (h : Fin 8) (r c : Fin 8192), ∃ s : ℝ, val_main_v7 (F := Ideal) x0 x1 (ix3 h r c) = (s : EReal)) (h : Fin 8) (r : Fin 8192) :
    ∃ t : ℝ, val_main_v8 (F := Ideal) x0 x1 (ix2 h r) = (t : EReal) := by
  unfold val_main_v8 val_main_cst_0
  generalize val_main_v7 (F := Ideal) x0 x1 = y at hs
  pointwise []
  rw [negInf_f32]
  exact fold_max_real (by norm_num) _ fun c => hs h r c

/-- … and so is what the softmax shifts by. -/
theorem v10_real (hs : ∀ (h : Fin 8) (r c : Fin 8192), ∃ s : ℝ, val_main_v7 (F := Ideal) x0 x1 (ix3 h r c) = (s : EReal)) (h : Fin 8) (r : Fin 8192) :
    ∃ t : ℝ, val_main_v10 (F := Ideal) x0 x1 (ix2 h r) = (t : EReal) := by
  obtain ⟨t, e⟩ := v8_real x0 x1 hs h r
  refine ⟨t, ?_⟩
  rw [val_main_v10_apply, val_main_v9_apply, val_main_cst_1_apply, e]
  show max (Ideal.ofBits .f32 0xFF800000#32) (t : EReal) = _
  rw [negInf_f32, max_eq_right bot_le]

/-- The shifted exponentials, … -/
theorem v14_at (h : Fin 8) (r c : Fin 8192) : val_main_v14 (F := Ideal) x0 x1 (ix3 h r c)
    = Ideal.exp (val_main_v7 (F := Ideal) x0 x1 (ix3 h r c) - val_main_v10 (F := Ideal) x0 x1 (ix2 h r)) := by
  unfold val_main_v14 val_main_v13 val_main_v12 val_main_v11
  generalize val_main_v7 (F := Ideal) x0 x1 = y7
  generalize val_main_v10 (F := Ideal) x0 x1 = y10
  pointwise []

/-- … their sums, … -/
theorem v15_at (h : Fin 8) (r : Fin 8192) : val_main_v15 (F := Ideal) x0 x1 (ix2 h r) = ∑ x : Fin 8192, val_main_v14 (F := Ideal) x0 x1 (ix3 h r x) := by
  unfold val_main_v15 val_main_cst_2
  generalize val_main_v14 (F := Ideal) x0 x1 = y
  pointwise []

/-- … and the probabilities. -/
theorem v18_at (h : Fin 8) (r c : Fin 8192) : val_main_v18 (F := Ideal) x0 x1 (ix3 h r c)
    = Ideal.div (val_main_v14 (F := Ideal) x0 x1 (ix3 h r c)) (val_main_v15 (F := Ideal) x0 x1 (ix2 h r)) := by
  unfold val_main_v18 val_main_v17 val_main_v16
  generalize val_main_v14 (F := Ideal) x0 x1 = y14
  generalize val_main_v15 (F := Ideal) x0 x1 = y15
  pointwise []

/-- The weighted values, … -/
theorem v21_at (h : Fin 8) (d : Fin 64) (r : Fin 8192) : val_main_v21 (F := Ideal) x0 x1 x2 (ix3 h d r)
    = ∑ c : Fin 8192, val_main_v20 (F := Ideal) x2 (ix3 h d c) * val_main_v18 (F := Ideal) x0 x1 (ix3 h r c) := by
  unfold val_main_v21
  generalize val_main_v20 (F := Ideal) x2 = y20
  generalize val_main_v18 (F := Ideal) x0 x1 = y18
  pointwise []

/-- … row by row. -/
theorem v28_at (r : Fin 8192) (a : Fin 512) : val_main_v28 (F := Ideal) x0 x1 x2 (ix2 r a)
    = val_main_v21 (F := Ideal) x0 x1 x2 (ix3 ⟨a.val / 64, by omega⟩ ⟨a.val % 64, by omega⟩ r) := by
  unfold val_main_v28 val_main_v22
  generalize val_main_v21 (F := Ideal) x0 x1 x2 = y
  pointwise []

/-- The denominator's logarithm, … -/
theorem v24_at (h : Fin 8) (r : Fin 8192) : val_main_v24 (F := Ideal) x0 x1 (ix2 h r) = ∑ x : Fin 8192, Ideal.exp (val_main_v7 (F := Ideal) x0 x1 (ix3 h r x)) := by
  unfold val_main_v24 val_main_v23 val_main_cst_3
  generalize val_main_v7 (F := Ideal) x0 x1 = y
  pointwise []

theorem v27_at (h : Fin 8) (r : Fin 8192) : val_main_v27 (F := Ideal) x0 x1 (ix2 h r)
    = Ideal.div (Ideal.log (val_main_v24 (F := Ideal) x0 x1 (ix2 h r))) (Ideal.log (Ideal.ofBits .f32 0x40000000#32)) := by
  unfold val_main_v27 val_main_v26 val_main_v25 val_main_v0 val_main_cst
  generalize val_main_v24 (F := Ideal) x0 x1 = y
  pointwise []

/-- … by pairs of heads. -/
theorem v29_at (p : Fin 4) (e : Fin 2) (r : Fin 8192) : val_main_v29 (F := Ideal) x0 x1 (ix3 p e r)
    = val_main_v27 (F := Ideal) x0 x1 (ix2 ⟨p.val * 2 + e.val, by omega⟩ r) := by
  unfold val_main_v29
  generalize val_main_v27 (F := Ideal) x0 x1 = y
  pointwise []

end Cert.MlaFwd.Ref

end
-- ==== Proof.MlaFwd.RefReal.lean ====
/- The forward reference's two results, when the queries and the keys are reals. -/
module

public import proofs.«01_k».proof.Proof.MlaFwd.RefRead
public import proofs.«01_k».proof.Proof.MlaFwd.Spec

@[expose] public section

set_option maxRecDepth 16384

noncomputable section

namespace Cert.MlaFwd.Ref

open Idealize.ShloMosaic Idealize.ShloMosaic.TcCoe Idealize.SL.Sem Cert.Reference7Ideal Cert.Reference7Ideal.Gen Cert.Reference7Ideal.Read
open Cert.MlaBwd (at2 at2_ix div_real sub_real log_real sum_fin log_two_f32)

variable {x0 x1 : FVec Ideal S8192x1024 .bf16} (x2 : FVec Ideal S512x8192 .bf16)
  (hq : ∀ i, ∃ r : ℝ, x0 i = (r : EReal)) (hk : ∀ i, ∃ r : ℝ, x1 i = (r : EReal))
include hq hk

/-- The scaled logits, … -/
theorem logit_real (h : Fin 8) (r c : Fin 8192) : val_main_v7 (F := Ideal) x0 x1 (ix3 h r c) = ((logit x0 x1 h.val r.val c.val * Real.log 2 : ℝ) : EReal) := by
  rw [v7_at, v5_at, log_two_f32, EReal.coe_mul, ← product_real hq hk]
  refine congrArg (· * _) (Finset.sum_congr rfl fun l _ => ?_)
  rw [v2_at, v4_at, Nat.mul_comm 128 h.val]
  exact congrArg₂ (· * ·) (at2_ix x0 _ _) (at2_ix x1 _ _)

/-- … the probabilities … -/
theorem probability_real (h : Fin 8) (r c : Fin 8192) : val_main_v18 (F := Ideal) x0 x1 (ix3 h r c) = (probability (logit x0 x1 h.val r.val) 8192 c.val : EReal) := by
  obtain ⟨t, ht⟩ := v10_real x0 x1 (fun h r c => ⟨_, logit_real hq hk h r c⟩) h r
  have e14 : ∀ c : Fin 8192, val_main_v14 (F := Ideal) x0 x1 (ix3 h r c) = ((Real.exp (logit x0 x1 h.val r.val c.val * Real.log 2 - t) : ℝ) : EReal) := by
    intro c
    rw [v14_at, ht, logit_real hq hk, sub_real, Ideal.exp_coe]
  have e15 : val_main_v15 (F := Ideal) x0 x1 (ix2 h r) = ((∑ x ∈ Finset.range 8192, Real.exp (logit x0 x1 h.val r.val x * Real.log 2 - t) : ℝ) : EReal) :=
    (v15_at x0 x1 h r).trans (sum_fin _ (fun x => Real.exp (logit x0 x1 h.val r.val x * Real.log 2 - t)) e14)
  have hp : 0 < ∑ x ∈ Finset.range 8192, Real.exp (logit x0 x1 h.val r.val x * Real.log 2 - t) :=
    Finset.sum_pos (fun _ _ => Real.exp_pos _) ⟨0, Finset.mem_range.mpr (by norm_num)⟩
  rw [v18_at, e14, e15, div_real hp.ne', shifted _ _ _ _ (by norm_num)]

/-- … and the denominator's logarithm. -/
theorem lse_real (h : Fin 8) (r : Fin 8192) : val_main_v27 (F := Ideal) x0 x1 (ix2 h r) = lse x0 x1 h.val r.val := by
  have hl : Real.log 2 ≠ 0 := (Real.log_pos (by norm_num)).ne'
  have e24 : val_main_v24 (F := Ideal) x0 x1 (ix2 h r) = ((denominator (logit x0 x1 h.val r.val) 8192 : ℝ) : EReal) :=
    (v24_at x0 x1 h r).trans (sum_fin _ (fun x => Real.exp (logit x0 x1 h.val r.val x * Real.log 2)) fun c => by rw [logit_real hq hk, Ideal.exp_coe])
  rw [v27_at, e24, log_two_f32, log_real (denominator_pos _ (by norm_num)), div_real hl, lse]

/-- The whole results. -/
theorem out_eq (R : Fin 8192) (A : Fin 512) : val_main_v28 (F := Ideal) x0 x1 x2 (ix2 R A) = attn x0 x1 x2 (A.val / 64) R.val (A.val % 64) := by
  rw [v28_at, v21_at, attn, Finset.sum_range]
  refine Finset.sum_congr rfl fun c _ => ?_
  rw [v20_at, probability_real hq hk, Nat.mul_comm 64]
  exact congrArg (· * _) (at2_ix x2 _ _)

theorem lse_eq (P : Fin 4) (e : Fin 2) (R : Fin 8192) : val_main_v29 (F := Ideal) x0 x1 (ix3 P e R) = lse x0 x1 (2 * P.val + e.val) R.val := by
  rw [v29_at, lse_real hq hk, Nat.mul_comm 2]

end Cert.MlaFwd.Ref

end
-- ==== Proof.MlaFwd.Finite.lean ====
/- What the forward call's precondition says: no element of the queries and of the keys is infinite. -/
module

public import proofs.«01_k».proof.Defs
public import proofs.«01_k».proof.Proof.Gen.Pre_finite_logits
public import Idealize.ShloMosaic.Lib.ReduceAll

@[expose] public section

set_option maxRecDepth 16384

noncomputable section

namespace Cert.MlaFwd

open Idealize.ShloMosaic Idealize.SL.Sem

/-- A comparison with infinity that holds everywhere. -/
theorem real_of_all {s t u : Shape} {axes : List (Fin s.rank)} [Subsingleton t.Idx] (x b : FVec Ideal s .bf16) (init : u.Idx → BitVec 1) (h : s.ReducesTo axes t)
    (hu : 0 < u.numel) (j : t.Idx) (hb : ∀ i, b i = ⊤) (e : Host.reduce IntOp.andi (cmpf .olt (Host.absf x) b) init h hu j = 1#1) (i : s.Idx) :
    ∃ r : ℝ, x i = (r : EReal) := by
  have e1 := Host.reduce_andi_all _ _ _ _ j e i
  have e2 : Ideal.cmp .olt (max (x i) (-(x i))) (b i) = 1#1 := e1
  rw [hb i] at e2
  generalize x i = y at e2
  induction y using EReal.rec with
  | bot => exact absurd e2 (by simp [Ideal.cmp])
  | coe r => exact ⟨r, rfl⟩
  | top => exact absurd e2 (by simp [Ideal.cmp])

theorem posInf_bf16 : Ideal.ofBits .bf16 0x7F80#16 = ⊤ := by
  simp [Ideal.ofBits, Ideal.ieee]

instance : Subsingleton Cert.Pre_finite_logits.S_.Idx := ⟨fun a b => funext fun d => d.elim0⟩

/-- The conjunction of the two arguments' checks, taken apart. -/
theorem real_args (x0 x1 : FVec Ideal Cert.Pre_finite_logits.S8192x1024 .bf16) (x2 : FVec Ideal Cert.Pre_finite_logits.S512x8192 .bf16)
    (h : Cert.Pre_finite_logits.fn (F := Ideal) x0 x1 x2 = fun _ => 1#1) :
    (∀ i, ∃ r : ℝ, x0 i = (r : EReal)) ∧ ∀ i, ∃ r : ℝ, x1 i = (r : EReal) := by
  have j : Cert.Pre_finite_logits.S_.Idx := fun d => d.elim0
  have e := congrFun h j
  unfold Cert.Pre_finite_logits.fn at e
  obtain ⟨e0, e1⟩ := IntOp.andi_eq_one.1 e
  exact ⟨real_of_all _ _ _ _ _ j (fun i => posInf_bf16) e0, real_of_all _ _ _ _ _ j (fun i => posInf_bf16) e1⟩

end Cert.MlaFwd

end
-- ==== Proof.MlaFwd.Value.lean ====
/- The attention's forward call: its two results are the reference's. -/
module

public import proofs.«01_k».proof.Proof.MlaFwd.Final
public import proofs.«01_k».proof.Proof.MlaFwd.RefReal
public import proofs.«01_k».proof.Proof.MlaFwd.Finite
public import proofs.«01_k».proof.Proof.Gen.Reference7Ideal.Run

@[expose] public section

set_option maxRecDepth 16384

noncomputable section

namespace Cert.MlaFwd

open Idealize.ShloMosaic Idealize.SL.Sem

section Results

variable (q k : (⟨2, ![8192, 1024]⟩ : Shape).Idx → EReal) (v : (⟨2, ![512, 8192]⟩ : Shape).Idx → EReal)

/-- The two results as arrays. -/
def attnArray : (⟨2, ![8192, 512]⟩ : Shape).Idx → EReal := fun i => attn q k v ((i 1).val / 64) (i 0).val ((i 1).val % 64)

def lseArray : (⟨3, ![4, 2, 8192]⟩ : Shape).Idx → EReal := fun i => lse q k (2 * (i 0).val + (i 1).val) (i 2).val

end Results

theorem eq_triple {a b c : ℕ} (x : (⟨3, ![a, b, c]⟩ : Shape).Idx) : x = ix3 (x 0) (x 1) (x 2) := by
  funext d
  match d with
  | ⟨0, _⟩ => rfl
  | ⟨1, _⟩ => rfl
  | ⟨2, _⟩ => rfl

section Kernel

open Cert.Kernel7Ideal Cert.Kernel7Ideal.Gen Idealize.ShloMosaic.TcCoe

variable (m : (ℓ : Loc nD τ sig) → Buf (Elt Ideal) ℓ) (c : Dev nD)
  (hq : ∀ i, ∃ r : ℝ, (m ((c : Thread nD τ).loc main_arg0) : (⟨2, ![8192, 1024]⟩ : Shape).Idx → EReal) i = (r : EReal))
  (hk : ∀ i, ∃ r : ℝ, (m ((c : Thread nD τ).loc main_arg1) : (⟨2, ![8192, 1024]⟩ : Shape).Idx → EReal) i = (r : EReal))
include hq hk

theorem kernel_attn : Cert.Kernel7Ideal.Value.G3 m c
    = attnArray (m ((c : Thread nD τ).loc main_arg0)) (m ((c : Thread nD τ).loc main_arg1)) (m ((c : Thread nD τ).loc main_arg2)) := by
  rw [← V_main_arg0 m c] at hq
  rw [← V_main_arg1 m c] at hk
  rw [← V_main_arg0 m c, ← V_main_arg1 m c, ← V_main_arg2 m c]
  funext i
  rw [eq_ix2 i]
  exact out_eq m c hq hk (i 0) (i 1)

theorem kernel_lse : Cert.Kernel7Ideal.Value.G4 m c = lseArray (m ((c : Thread nD τ).loc main_arg0)) (m ((c : Thread nD τ).loc main_arg1)) := by
  rw [← V_main_arg0 m c] at hq
  rw [← V_main_arg1 m c] at hk
  rw [← V_main_arg0 m c, ← V_main_arg1 m c]
  funext i
  rw [eq_triple i]
  exact lse_eq m c hq hk (i 0) (i 1) (i 2)

end Kernel

section Reference

open Cert.Reference7Ideal Cert.Reference7Ideal.Gen Cert.Reference7Ideal.Read

variable {x0 x1 : FVec Ideal S8192x1024 .bf16} (x2 : FVec Ideal S512x8192 .bf16)
  (hq : ∀ i, ∃ r : ℝ, x0 i = (r : EReal)) (hk : ∀ i, ∃ r : ℝ, x1 i = (r : EReal))
include hq hk

theorem reference_attn : val_main_v28 (F := Ideal) x0 x1 x2 = attnArray x0 x1 x2 := by
  funext i
  rw [eq_ix2 i]
  exact Ref.out_eq x2 hq hk (i 0) (i 1)

theorem reference_lse : val_main_v29 (F := Ideal) x0 x1 = lseArray x0 x1 := by
  funext i
  rw [eq_triple i]
  exact Ref.lse_eq hq hk (i 0) (i 1) (i 2)

end Reference

theorem algebraic : Cert.algebraic_Kernel7Ideal_Reference7Ideal_pre_finite_logits := by
  intro m g m' g' hm ha
  have hr := fun c => real_args _ _ _ (hm c)
  refine ⟨_, _, (θ_run Cert.Kernel7Ideal.defs _ _).mono
    (fun r h c => ⟨(h c).1.trans (kernel_attn m c (hr c).1 (hr c).2), (h c).2.1.trans (kernel_lse m c (hr c).1 (hr c).2), (h c).2.2⟩) (Cert.Kernel7Ideal.Value.run (F := Ideal) m g), ?_⟩
  refine (θ_run Cert.Reference7Ideal.defs _ _).mono (fun r h c => ?_) (Cert.Reference7Ideal.Value.run (F := Ideal) m' g')
  obtain ⟨e0, e1, e2⟩ := ha c
  refine ⟨(h c).1.trans ((Cert.Reference7Ideal.Read.val_main_v28_eq _ _ _).trans ?_), (h c).2.1.trans ((Cert.Reference7Ideal.Read.val_main_v29_eq _ _).trans ?_), (h c).2.2⟩
  · rw [e0, e1, e2]
    exact reference_attn _ (hr c).1 (hr c).2
  · rw [e0, e1]
    exact reference_lse (hr c).1 (hr c).2

end Cert.MlaFwd

end
-- ==== Proof.OutProj.Sum.lean ====
/- The output projection's weight gradient: the result is a sum over eight blocks of rows, which is the sum over all the
   rows. Point `t` is of the rows' block `t`. -/
module

public import proofs.«01_k».proof.Proof.Gen.Kernel8Ideal.Value
public import proofs.«01_k».proof.Proof.MlaBwd.Nat

@[expose] public section

set_option maxRecDepth 16384

noncomputable section

namespace Cert.OutProj.Weight

open Idealize.ShloMosaic Idealize.ShloMosaic.TcCoe Idealize.SL.Sem Cert.Kernel8Ideal Cert.Kernel8Ideal.Gen
open Idealize.ShloMosaic.Pipeline (Dat)
open Cert.Kernel8Ideal.Value (G2 pt2Of)
open Cert.MlaBwd (at2 at2_ix)

/-- The windows' index maps, of all points at once. -/
theorem index_in : ∀ t : Fin cfg0.N, win0_0.index t = ![t.val % 8, 0] ∧ win0_1.index t = ![t.val % 8, 0] :=
  (by decide +kernel : ∀ t : Fin grid0.N, _)

/-- One block's product. -/
theorem part (v0 : Vec Ideal S1024x1024 .bf16) (v1 : Vec Ideal S1024x1024 .f32) (a : Fin 1024) (b : Fin 1024) :
    k0_pay1 (F := Ideal) v0 v1 (ix2 a b) = ∑ k : Fin 1024, v0 (ix2 k a) * v1 (ix2 k b) := by
  pointwise [k0_pay1]

theorem first (v0 : Vec Ideal S1024x1024 .bf16) (v1 : Vec Ideal S1024x1024 .f32) (a : Fin 1024) (b : Fin 1024) :
    k0_pay2 (F := Ideal) v0 v1 (ix2 a b) = k0_pay1 (F := Ideal) v0 v1 (ix2 a b) := by
  unfold k0_pay2
  generalize k0_pay1 (F := Ideal) v0 v1 = y
  pointwise []

theorem next (v0 : Vec Ideal S1024x1024 .bf16) (v1 : Vec Ideal S1024x1024 .f32) (x : Vec Ideal S1024x1024 .f32) (a : Fin 1024) (b : Fin 1024) :
    k0_pay3 (F := Ideal) v0 v1 x (ix2 a b) = x (ix2 a b) + k0_pay1 (F := Ideal) v0 v1 (ix2 a b) := by
  unfold k0_pay3
  generalize k0_pay1 (F := Ideal) v0 v1 = y
  pointwise []

variable (m : (ℓ : Loc nD τ sig) → Buf (Elt Ideal) ℓ) (c : Dev nD)

/-- What point `n` adds to its block at `x`: the products of its rows. -/
def term (n : ℕ) (x : S1024x1024.Idx) : EReal :=
  ∑ k ∈ Finset.range 1024, at2 (V m c main_arg0) (1024 * (n % 8) + k) (1024 * (0) + (x 0).val) * at2 (V m c main_arg1) (1024 * (n % 8) + k) (1024 * (0) + (x 1).val)

theorem lt_N (t : Fin cfg0.N) : t.val < 8 := lt_of_lt_of_eq t.isLt N_0

theorem block_h (t : Fin cfg0.N) (k : Fin 1024) (a : Fin 1024) :
    iblk m c 0 t (ix2 k a) = at2 (V m c main_arg0) (1024 * (t.val % 8) + k.val) (1024 * (0) + a.val) := by
  have ht := lt_N t
  rw [at2, dif_pos ⟨by omega, by omega⟩]
  generalize hV : V m c = W
  unfold iblk
  rw [hV]
  blk_point [index_in t]

theorem block_ct (t : Fin cfg0.N) (k : Fin 1024) (b : Fin 1024) :
    iblk m c 1 t (ix2 k b) = at2 (V m c main_arg1) (1024 * (t.val % 8) + k.val) (1024 * (0) + b.val) := by
  have ht := lt_N t
  rw [at2, dif_pos ⟨by omega, by omega⟩]
  generalize hV : V m c = W
  unfold iblk
  rw [hV]
  blk_point [index_in t]

theorem part_eq (t : Fin cfg0.N) (a : Fin 1024) (b : Fin 1024) :
    k0_pay1 (F := Ideal) (iblk m c 0 t) (iblk m c 1 t) (ix2 a b) = term m c t.val (ix2 a b) := by
  rw [part, term, Finset.sum_range]
  exact Finset.sum_congr rfl fun k _ => congrArg₂ (· * ·) (block_h m c t k a) (block_ct m c t k b)

/-- The accumulator at the first point of a block. -/
theorem acc_first (t : Fin cfg0.N) (h : t.val % 8 = 0) (x : S1024x1024.Idx) :
    (outsAt0 m c t.val t.isLt).2 x = 0 + term m c t.val x := by
  rw [eq_ix2 x, zero_add, outsAt0_A m c t h (by have := lt_N t; omega) (by omega)]
  frame_out
  exact (first _ _ _ _).trans (part_eq m c t _ _)

/-- At a later one. -/
theorem acc_pay (t : Fin cfg0.N) (h : ¬t.val % 8 = 0) :
    (outsAt0 m c t.val t.isLt).2 = k0_pay3 (F := Ideal) (iblk m c 0 t) (iblk m c 1 t) (outsAt0 m c (t.val - 1) (Nat.lt_of_le_of_lt (Nat.sub_le _ _) t.isLt)).2 := by
  by_cases h2 : t.val % 8 = 7
  · rw [outsAt0_C m c t h (by omega) h2]
    frame_out
    exact congrArg (k0_pay3 (F := Ideal) _ _) ((Memref.isWhole_whole cc0_scratch0).read_unread _)
  · rw [outsAt0_B m c t h (by omega) h2]
    frame_out
    exact congrArg (k0_pay3 (F := Ideal) _ _) ((Memref.isWhole_whole cc0_scratch0).read_unread _)

theorem acc_next (t : Fin cfg0.N) (h : ¬t.val % 8 = 0) (x : S1024x1024.Idx) :
    (outsAt0 m c t.val t.isLt).2 x = (outsAt0 m c (t.val - 1) (Nat.lt_of_le_of_lt (Nat.sub_le _ _) t.isLt)).2 x + term m c t.val x := by
  rw [acc_pay m c t h, eq_ix2 x]
  exact (next _ _ _ _ _).trans (congrArg (_ + ·) (part_eq m c t _ _))

/-- The last point of a block writes the accumulator out. -/
theorem out_last (t : Fin cfg0.N) (h : t.val % 8 = 7) : (outsAt0 m c t.val t.isLt).1 = (outsAt0 m c t.val t.isLt).2 := by
  rw [outsAt0_C m c t (by omega) (by omega) h]
  frame_out

/-- The block after its last point. -/
theorem out_sum (t : Fin cfg0.N) (h : t.val % 8 = 7) (x : S1024x1024.Idx) :
    (outsAt0 m c t.val t.isLt).1 x = ∑ R ∈ Finset.range 8192, at2 (V m c main_arg0) R (1024 * (0) + (x 0).val) * at2 (V m c main_arg1) R (1024 * (0) + (x 1).val) := by
  rw [out_last m c t h, Pipeline.eq_sum_of_reset_step_apply_of_mod (fun n h => (outsAt0 m c n h).2) 8 (fun _ => 0) (term m c)
    (acc_first m c) (acc_next m c) t h x, zero_add]
  refine Eq.trans (Finset.sum_congr rfl fun k hk => ?_) (Finset.sum_range_range_mul_add 8 1024 _)
  have hk := Finset.mem_range.mp hk
  unfold term
  rw [show (8 * (t.val / 8) + k) % 8 = k by omega, Nat.mul_comm 1024 k]

/-- The whole result. -/
theorem out_eq (A : Fin 1024) (B : Fin 1024) :
    G2 m c (ix2 A B) = ∑ R ∈ Finset.range 8192, at2 (V m c main_arg0) R A.val * at2 (V m c main_arg1) R B.val := by
  have hp : pt2Of (ix2 A B) = 7 := by
    show 8 * (1 * (A.val / 1024 - 0) + 1 * (B.val / 1024 - 0)) + 7 = _
    omega
  have hlt : pt2Of (ix2 A B) < cfg0.N := by rw [hp]; exact lt_of_lt_of_eq (by omega) N_0.symm
  rw [G2, dif_pos hlt, ← Cert.Kernel8Ideal.Value.outsAt0_sweep m c _ hlt, out_sum m c ⟨_, hlt⟩ (by show pt2Of _ % 8 = 7; omega)]
  show ∑ R ∈ Finset.range 8192, at2 (V m c main_arg0) R (1024 * 0 + A.val % 1024) * at2 (V m c main_arg1) R (1024 * 0 + B.val % 1024) = _
  rw [show 1024 * 0 + A.val % 1024 = A.val by omega, show 1024 * 0 + B.val % 1024 = B.val by omega]

end Cert.OutProj.Weight

end
-- ==== Proof.OutProj.Weight.lean ====
/- The output projection's weight gradient: the call's result is the reference's. -/
module

public import proofs.«01_k».proof.Proof.OutProj.Sum
public import proofs.«01_k».proof.Proof.Gen.Reference8Ideal.Run
public import proofs.«01_k».proof.Proof.Gen.Reference8Ideal.Read
public import proofs.«01_k».proof.Defs

@[expose] public section

set_option maxRecDepth 16384

noncomputable section

namespace Cert.OutProj.Weight

open Idealize.ShloMosaic Idealize.SL.Sem
open Cert.MlaBwd (at2 at2_ix)

/-- The gradient of `h · w` in `w`, for the gradient `y` of the product. -/
def grad (h : (⟨2, ![8192, 1024]⟩ : Shape).Idx → EReal) (y : (⟨2, ![8192, 1024]⟩ : Shape).Idx → EReal) : (⟨2, ![1024, 1024]⟩ : Shape).Idx → EReal :=
  fun x => ∑ R ∈ Finset.range 8192, at2 h R (x 0).val * at2 y R (x 1).val

section Kernel

open Cert.Kernel8Ideal Cert.Kernel8Ideal.Gen Idealize.ShloMosaic.TcCoe

theorem kernel_grad (m : (ℓ : Loc nD τ sig) → Buf (Elt Ideal) ℓ) (c : Dev nD) :
    Cert.Kernel8Ideal.Value.G2 m c = grad (m ((c : Thread nD τ).loc main_arg0)) (m ((c : Thread nD τ).loc main_arg1)) := by
  rw [← V_main_arg0 m c, ← V_main_arg1 m c]
  funext x
  rw [eq_ix2 x]
  exact out_eq m c (x 0) (x 1)

end Kernel

section Reference

open Cert.Reference8Ideal Cert.Reference8Ideal.Gen Cert.Reference8Ideal.Read

variable (x0 : (⟨S8192x1024, .bf16⟩ : BufTy).Contents (Elt Ideal)) (x1 : (⟨S8192x1024, .f32⟩ : BufTy).Contents (Elt Ideal))

theorem product (b : Fin 1024) (a : Fin 1024) :
    val_main_v3 (F := Ideal) x0 x1 (ix2 b a) = ∑ R : Fin 8192, x1 (ix2 R b) * x0 (ix2 R a) := by
  pointwise [val_main_v3, val_main_v1]

theorem turned (a : Fin 1024) (b : Fin 1024) : val_main_v4 (F := Ideal) x0 x1 (ix2 a b) = val_main_v3 (F := Ideal) x0 x1 (ix2 b a) := by
  unfold val_main_v4
  generalize val_main_v3 (F := Ideal) x0 x1 = y
  pointwise []

theorem reference_grad : val_main_v4 (F := Ideal) x0 x1 = grad x0 x1 := by
  funext x
  rw [eq_ix2 x]
  refine (turned x0 x1 (x 0) (x 1)).trans ((product x0 x1 (x 1) (x 0)).trans ?_)
  unfold grad
  rw [Finset.sum_range]
  exact Finset.sum_congr rfl fun R _ => (mul_comm _ _).trans (congrArg₂ (· * ·) (at2_ix (a := 8192) (b := 1024) x0 R (x 0)) (at2_ix (a := 8192) (b := 1024) x1 R (x 1)))

end Reference

theorem algebraic : Cert.algebraic_Kernel8Ideal_Reference8Ideal := by
  intro m g m' g' _ ha
  refine ⟨fun c => grad (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run Cert.Kernel8Ideal.defs _ _).mono (fun r h c => ⟨(h c).1.trans (kernel_grad m c), (h c).2⟩) (Cert.Kernel8Ideal.Value.run (F := Ideal) m g), ?_⟩
  refine (θ_run Cert.Reference8Ideal.defs _ _).mono (fun r h c => ?_) (Cert.Reference8Ideal.Value.run (F := Ideal) m' g')
  refine ⟨(h c).1.trans ((Cert.Reference8Ideal.Read.val_main_v4_eq _ _).trans ((reference_grad _ _).trans ?_)), (h c).2⟩
  rw [(ha c).1, (ha c).2]

end Cert.OutProj.Weight

end
-- ==== Proof.OutProj.Data.lean ====
/- The output projection's data gradient: each point's block of the result is the product of a block of rows by the
   whole turned weight, which is that block of the whole product. Point `t` is of row block `t`. -/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Product.Sum
public import proofs.«01_k».proof.Defs

@[expose] public section

set_option maxRecDepth 16384

noncomputable section

namespace Cert.OutProj.Data

open Idealize.ShloMosaic Idealize.SL.Sem
open Cert.MlaBwd (at2 at2_ix)
open Cert.Product (prod prod_of prod_block)

section Kernel

open Cert.Kernel9Ideal Cert.Kernel9Ideal.Gen Idealize.ShloMosaic.TcCoe

/-- The windows' index maps, of all points at once. -/
theorem index_in : ∀ t : Fin cfg0.N, win0_0.index t = ![t.val, 0] ∧ win0_1.index t = ![0, 0] :=
  (by decide +kernel : ∀ t : Fin grid0.N, _)

theorem index_out : ∀ t : Fin cfg0.N, win0_2.index t = ![t.val, 0] := (by decide +kernel : ∀ t : Fin grid0.N, _)

theorem lt_N (t : Fin cfg0.N) : t.val < 8 := lt_of_lt_of_eq t.isLt N_0

/-- One block's product. -/
theorem part (v0 : Vec Ideal S1024x1024 .f32) (v1 : Vec Ideal S1024x1024 .bf16) (a : Fin 1024) (b : Fin 1024) :
    k0_pay1 (F := Ideal) v0 v1 (ix2 a b) = ∑ k : Fin 1024, v0 (ix2 a k) * v1 (ix2 k b) := by
  pointwise [k0_pay1]

/-- The body's one store is of the whole block. -/
theorem out_eq (v0 : Vec Ideal S1024x1024 .f32) (v1 : Vec Ideal S1024x1024 .bf16) (y : S1024x1024.Idx) :
    out0_2 (F := Ideal) v0 v1 y = k0_pay1 (F := Ideal) v0 v1 y := by
  have h := View.canon_cons_emb (Val := Elt Ideal) (s := S1024x1024) (e := .f32) r0_0 (k0_pay1 (F := Ideal) (View.ld v0 r0_0) (View.ld v1 r0_0)) [] y
  rw [Rect.emb_unit_full] at h
  refine h.trans (congrFun (congrArg₂ (k0_pay1 (F := Ideal)) ?_ ?_) y)
  · exact funext fun z => congrArg v0 (Rect.emb_unit_full _ z)
  · exact funext fun z => congrArg v1 (Rect.emb_unit_full _ z)

variable (m : (ℓ : Loc nD τ sig) → Buf (Elt Ideal) ℓ) (c : Dev nD)

theorem block_ct (t : Fin cfg0.N) (a : Fin 1024) (k : Fin 1024) :
    iblk m c 0 t (ix2 a k) = at2 (V m c main_arg0) (1024 * t.val + a.val) k.val := by
  have ht := lt_N t
  rw [at2, dif_pos ⟨by omega, by omega⟩]
  generalize hV : V m c = W
  unfold iblk
  rw [hV]
  blk_point [index_in t]

theorem block_w (t : Fin cfg0.N) (k : Fin 1024) (b : Fin 1024) :
    iblk m c 1 t (ix2 k b) = at2 (V m c main_arg1) k.val (0 + b.val) := by
  have ht := lt_N t
  rw [at2, dif_pos ⟨by omega, by omega⟩]
  generalize hV : V m c = W
  unfold iblk
  rw [hV]
  blk_point [index_in t]

/-- A point's block, at the place that `i` has in it. -/
theorem point (t : Fin cfg0.N) (y : S1024x1024.Idx) (i : S8192x1024.Idx) (e0 : (i 0).val = 1024 * t.val + (y 0).val) (e1 : (i 1).val = 0 + (y 1).val) :
    out0_2 (F := Ideal) (iblk m c 0 t) (iblk m c 1 t) y = prod (V m c main_arg0) (V m c main_arg1) i := by
  rw [out_eq, eq_ix2 y, eq_ix2 i]
  exact (part _ _ _ _).trans (prod_block (V m c main_arg0) (V m c main_arg1) _ _ (block_ct m c t) (block_w m c t) (y 0) (y 1) (i 0) (i 1) e0 e1)

/-- The indices of a point's block. -/
theorem mem_block (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The array after the run. -/
theorem kernel_prod : (dats m 0 c).arrAt 2 cfg0.N = prod (m ((c : Thread nD τ).loc main_arg0)) (m ((c : Thread nD τ).loc main_arg1)) := by
  rw [← V_main_arg0 m c, ← V_main_arg1 m c]
  refine (dats m 0 c).arrAt_eq_of_cover 2 _ (fun t _ => ?_) (fun i => ?_)
  · rw [Cert.Kernel9Ideal.Value.flushed2]
    have hi := index_out t
    have ht := lt_N t
    funext y
    have e0 : (((cfg0.win 2).blk t).view.emb y 0).val = 1024 * t.val + (y 0).val := by
      show win0_2.index t (0 : Fin 2) * 1024 + 1 * (y 0).val = _
      rw [hi]; show t.val * 1024 + 1 * (y 0).val = _; omega
    have e1 : (((cfg0.win 2).blk t).view.emb y 1).val = 0 + (y 1).val := by
      show win0_2.index t (1 : Fin 2) * 1024 + 1 * (y 1).val = _
      rw [hi]; show 0 * 1024 + 1 * (y 1).val = _; omega
    show out0_2 (F := Ideal) (iblk m c 0 t) (iblk m c 1 t) y = prod (V m c main_arg0) (V m c main_arg1) (((cfg0.win 2).blk t).view.emb y)
    exact point m c t y _ e0 e1
  · have h0 : (i 0).val < 8192 := (i 0).isLt
    have h1 : (i 1).val < 1024 := (i 1).isLt
    refine ⟨⟨(i 0).val / 1024, lt_of_lt_of_eq (by omega) N_0.symm⟩, flush0_2 _, ?_⟩
    rw [mem_block]
    intro a
    have hi := index_out ⟨(i 0).val / 1024, lt_of_lt_of_eq (by omega) N_0.symm⟩
    match a with
    | ⟨0, _⟩ =>
      show win0_2.index _ (0 : Fin 2) * 1024 ≤ (i 0).val ∧ (i 0).val < win0_2.index _ (0 : Fin 2) * 1024 + 1024
      rw [hi]
      show (i 0).val / 1024 * 1024 ≤ (i 0).val ∧ (i 0).val < (i 0).val / 1024 * 1024 + 1024
      omega
    | ⟨1, _⟩ =>
      show win0_2.index _ (1 : Fin 2) * 1024 ≤ (i 1).val ∧ (i 1).val < win0_2.index _ (1 : Fin 2) * 1024 + 1024
      rw [hi]
      show 0 * 1024 ≤ (i 1).val ∧ (i 1).val < 0 * 1024 + 1024
      omega

end Kernel

section Reference

open Cert.Reference9Ideal Cert.Reference9Ideal.Gen Cert.Reference9Ideal.Read

variable (x0 : (⟨S8192x1024, .f32⟩ : BufTy).Contents (Elt Ideal)) (x1 : (⟨S1024x1024, .bf16⟩ : BufTy).Contents (Elt Ideal))

theorem turned (b : Fin 1024) (k : Fin 1024) : val_main_v2 (F := Ideal) x1 (ix2 b k) = x1 (ix2 k b) := by
  unfold val_main_v2 val_main_v1
  pointwise []

theorem reference_at (a : Fin 8192) (b : Fin 1024) :
    val_main_v4 (F := Ideal) x0 x1 (ix2 a b) = ∑ k : Fin 1024, x0 (ix2 a k) * x1 (ix2 k b) := by
  have h : ∀ k : Fin 1024, val_main_v2 (F := Ideal) x1 (ix2 b k) = x1 (ix2 k b) := turned x1 b
  simp only [← h]
  unfold val_main_v4
  generalize val_main_v2 (F := Ideal) x1 = y
  pointwise []

theorem reference_prod : val_main_v4 (F := Ideal) x0 x1 = prod (a := 8192) (n := 1024) (b := 1024) x0 x1 := by
  funext x
  rw [eq_ix2 x]
  exact (reference_at x0 x1 (x 0) (x 1)).trans (prod_of (a := 8192) (n := 1024) (b := 1024) x0 x1 (x 0) (x 1))

end Reference

theorem algebraic : Cert.algebraic_Kernel9Ideal_Reference9Ideal := by
  intro m g m' g' _ ha
  refine ⟨fun c => prod (a := 8192) (n := 1024) (b := 1024) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun r h c => ⟨(h c).1.trans (kernel_prod m c), (h c).2⟩) (Cert.Kernel9Ideal.Value.run_blocks (F := Ideal) m g), ?_⟩
  refine (θ_run Cert.Reference9Ideal.defs _ _).mono (fun r h c => ?_) (Cert.Reference9Ideal.Value.run (F := Ideal) m' g')
  refine ⟨(h c).1.trans ((Cert.Reference9Ideal.Read.val_main_v4_eq _ _).trans ((reference_prod _ _).trans ?_)), (h c).2⟩
  rw [(ha c).1, (ha c).2]

end Cert.OutProj.Data

end
-- ==== Proof.OutProj.Forward.lean ====
/- The output projection: each point's block of the result is the product of a block of rows by the whole weight, and the
   block of the layer's input added to it, which is that block of the whole sum. Point `t` is of row block `t`. -/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Product.Sum
public import proofs.«01_k».proof.Defs

@[expose] public section

set_option maxRecDepth 16384

noncomputable section

namespace Cert.OutProj.Forward

open Idealize.ShloMosaic Idealize.SL.Sem
open Cert.MlaBwd (at2 at2_ix)
open Cert.Product (prod prod_of prod_block)

/-- `z + x · y`. -/
def added (x : (⟨2, ![8192, 1024]⟩ : Shape).Idx → EReal) (y : (⟨2, ![1024, 1024]⟩ : Shape).Idx → EReal) (z : (⟨2, ![8192, 1024]⟩ : Shape).Idx → EReal) :
    (⟨2, ![8192, 1024]⟩ : Shape).Idx → EReal := fun i => z i + prod x y i

section Kernel

open Cert.Kernel10Ideal Cert.Kernel10Ideal.Gen Idealize.ShloMosaic.TcCoe

/-- The windows' index maps, of all points at once. -/
theorem index_in : ∀ t : Fin cfg0.N, win0_0.index t = ![t.val, 0] ∧ win0_1.index t = ![0, 0] ∧ win0_2.index t = ![t.val, 0] :=
  (by decide +kernel : ∀ t : Fin grid0.N, _)

theorem index_out : ∀ t : Fin cfg0.N, win0_3.index t = ![t.val, 0] := (by decide +kernel : ∀ t : Fin grid0.N, _)

theorem lt_N (t : Fin cfg0.N) : t.val < 8 := lt_of_lt_of_eq t.isLt N_0

/-- One block's product and the added block. -/
theorem part (v0 v1 : Vec Ideal S1024x1024 .bf16) (v2 : Vec Ideal S1024x1024 .f32) (a : Fin 1024) (b : Fin 1024) :
    k0_pay1 (F := Ideal) v0 v1 v2 (ix2 a b) = (∑ k : Fin 1024, v0 (ix2 a k) * v1 (ix2 k b)) + v2 (ix2 a b) := by
  pointwise [k0_pay1]

/-- The body's one store is of the whole block. -/
theorem out_eq (v0 v1 : Vec Ideal S1024x1024 .bf16) (v2 : Vec Ideal S1024x1024 .f32) (y : S1024x1024.Idx) :
    out0_3 (F := Ideal) v0 v1 v2 y = k0_pay1 (F := Ideal) v0 v1 v2 y := by
  have h := View.canon_cons_emb (Val := Elt Ideal) (s := S1024x1024) (e := .f32) r0_0 (k0_pay1 (F := Ideal) (View.ld v0 r0_0) (View.ld v1 r0_0) (View.ld v2 r0_0)) [] y
  rw [Rect.emb_unit_full] at h
  refine h.trans (congrFun (congr (congrArg₂ (k0_pay1 (F := Ideal)) ?_ ?_) ?_) y)
  · exact funext fun z => congrArg v0 (Rect.emb_unit_full _ z)
  · exact funext fun z => congrArg v1 (Rect.emb_unit_full _ z)
  · exact funext fun z => congrArg v2 (Rect.emb_unit_full _ z)

variable (m : (ℓ : Loc nD τ sig) → Buf (Elt Ideal) ℓ) (c : Dev nD)

theorem block_h (t : Fin cfg0.N) (a : Fin 1024) (k : Fin 1024) :
    iblk m c 0 t (ix2 a k) = at2 (V m c main_arg0) (1024 * t.val + a.val) k.val := by
  have ht := lt_N t
  rw [at2, dif_pos ⟨by omega, by omega⟩]
  generalize hV : V m c = W
  unfold iblk
  rw [hV]
  blk_point [index_in t]

theorem block_w (t : Fin cfg0.N) (k : Fin 1024) (b : Fin 1024) :
    iblk m c 1 t (ix2 k b) = at2 (V m c main_arg1) k.val (0 + b.val) := by
  have ht := lt_N t
  rw [at2, dif_pos ⟨by omega, by omega⟩]
  generalize hV : V m c = W
  unfold iblk
  rw [hV]
  blk_point [index_in t]

theorem block_x (t : Fin cfg0.N) (a b : Fin 1024) (i : S8192x1024.Idx) (e0 : (i 0).val = 1024 * t.val + a.val) (e1 : (i 1).val = 0 + b.val) :
    iblk m c 2 t (ix2 a b) = V m c main_arg2 i := by
  have h : iblk m c 2 t (ix2 a b) = at2 (V m c main_arg2) (1024 * t.val + a.val) (0 + b.val) := by
    have ht := lt_N t
    rw [at2, dif_pos ⟨by omega, by omega⟩]
    generalize hV : V m c = W
    unfold iblk
    rw [hV]
    blk_point [index_in t]
  rw [h, ← e0, ← e1, eq_ix2 i]
  exact (at2_ix (a := 8192) (b := 1024) (V m c main_arg2) (i 0) (i 1)).symm

/-- A point's block, at the place that `i` has in it. -/
theorem point (t : Fin cfg0.N) (y : S1024x1024.Idx) (i : S8192x1024.Idx) (e0 : (i 0).val = 1024 * t.val + (y 0).val) (e1 : (i 1).val = 0 + (y 1).val) :
    out0_3 (F := Ideal) (iblk m c 0 t) (iblk m c 1 t) (iblk m c 2 t) y = added (V m c main_arg0) (V m c main_arg1) (V m c main_arg2) i := by
  rw [out_eq, eq_ix2 y]
  refine (part _ _ _ _ _).trans ((add_comm _ _).trans (congrArg₂ (· + ·) (block_x m c t (y 0) (y 1) i e0 e1) ?_))
  rw [eq_ix2 i]
  exact prod_block (V m c main_arg0) (V m c main_arg1) _ _ (block_h m c t) (block_w m c t) (y 0) (y 1) (i 0) (i 1) e0 e1

/-- The indices of a point's block. -/
theorem mem_block (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- The array after the run. -/
theorem kernel_added : (dats m 0 c).arrAt 3 cfg0.N = added (m ((c : Thread nD τ).loc main_arg0)) (m ((c : Thread nD τ).loc main_arg1)) (m ((c : Thread nD τ).loc main_arg2)) := by
  rw [← V_main_arg0 m c, ← V_main_arg1 m c, ← V_main_arg2 m c]
  refine (dats m 0 c).arrAt_eq_of_cover 3 _ (fun t _ => ?_) (fun i => ?_)
  · rw [Cert.Kernel10Ideal.Value.flushed3]
    have hi := index_out t
    have ht := lt_N t
    funext y
    have e0 : (((cfg0.win 3).blk t).view.emb y 0).val = 1024 * t.val + (y 0).val := by
      show win0_3.index t (0 : Fin 2) * 1024 + 1 * (y 0).val = _
      rw [hi]; show t.val * 1024 + 1 * (y 0).val = _; omega
    have e1 : (((cfg0.win 3).blk t).view.emb y 1).val = 0 + (y 1).val := by
      show win0_3.index t (1 : Fin 2) * 1024 + 1 * (y 1).val = _
      rw [hi]; show 0 * 1024 + 1 * (y 1).val = _; omega
    show out0_3 (F := Ideal) (iblk m c 0 t) (iblk m c 1 t) (iblk m c 2 t) y = added (V m c main_arg0) (V m c main_arg1) (V m c main_arg2) (((cfg0.win 3).blk t).view.emb y)
    exact point m c t y _ e0 e1
  · have h0 : (i 0).val < 8192 := (i 0).isLt
    have h1 : (i 1).val < 1024 := (i 1).isLt
    refine ⟨⟨(i 0).val / 1024, lt_of_lt_of_eq (by omega) N_0.symm⟩, flush0_3 _, ?_⟩
    rw [mem_block]
    intro a
    have hi := index_out ⟨(i 0).val / 1024, lt_of_lt_of_eq (by omega) N_0.symm⟩
    match a with
    | ⟨0, _⟩ =>
      show win0_3.index _ (0 : Fin 2) * 1024 ≤ (i 0).val ∧ (i 0).val < win0_3.index _ (0 : Fin 2) * 1024 + 1024
      rw [hi]
      show (i 0).val / 1024 * 1024 ≤ (i 0).val ∧ (i 0).val < (i 0).val / 1024 * 1024 + 1024
      omega
    | ⟨1, _⟩ =>
      show win0_3.index _ (1 : Fin 2) * 1024 ≤ (i 1).val ∧ (i 1).val < win0_3.index _ (1 : Fin 2) * 1024 + 1024
      rw [hi]
      show 0 * 1024 ≤ (i 1).val ∧ (i 1).val < 0 * 1024 + 1024
      omega

end Kernel

section Reference

open Cert.Reference10Ideal Cert.Reference10Ideal.Gen Cert.Reference10Ideal.Read

variable (x0 : (⟨S8192x1024, .bf16⟩ : BufTy).Contents (Elt Ideal)) (x1 : (⟨S1024x1024, .bf16⟩ : BufTy).Contents (Elt Ideal)) (x2 : (⟨S8192x1024, .f32⟩ : BufTy).Contents (Elt Ideal))

theorem reference_prod (a : Fin 8192) (b : Fin 1024) : val_main_v2 (F := Ideal) x0 x1 (ix2 a b) = ∑ k : Fin 1024, x0 (ix2 a k) * x1 (ix2 k b) := by
  pointwise [val_main_v2, val_main_v1, val_main_v0]

theorem reference_added : val_main_v3 (F := Ideal) x0 x1 x2 = added x0 x1 x2 := by
  funext x
  rw [val_main_v3_apply, eq_ix2 x]
  exact congrArg (x2 _ + ·) ((reference_prod x0 x1 (x 0) (x 1)).trans (prod_of (a := 8192) (n := 1024) (b := 1024) x0 x1 (x 0) (x 1)))

end Reference

theorem algebraic : Cert.algebraic_Kernel10Ideal_Reference10Ideal := by
  intro m g m' g' _ ha
  refine ⟨_, (θ_run Cert.Kernel10Ideal.defs _ _).mono (fun r h c => ⟨(h c).1.trans (kernel_added m c), (h c).2⟩) (Cert.Kernel10Ideal.Value.run_blocks (F := Ideal) m g), ?_⟩
  refine (θ_run Cert.Reference10Ideal.defs _ _).mono (fun r h c => ?_) (Cert.Reference10Ideal.Value.run (F := Ideal) m' g')
  refine ⟨(h c).1.trans ((Cert.Reference10Ideal.Read.val_main_v3_eq _ _ _).trans ((reference_added _ _ _).trans ?_)), (h c).2⟩
  rw [(ha c).1, (ha c).2.1, (ha c).2.2]

end Cert.OutProj.Forward

end
-- ==== Proof.Latent.QueriesSum.lean ====
/- The queries' weight: its gradient is a sum over four blocks of rows, which is the sum over all the
   rows. Point `t` is of the rows' block `t`. -/
module

public import proofs.«01_k».proof.Proof.Gen.Kernel11Ideal.Value
public import proofs.«01_k».proof.Proof.MlaBwd.Nat

@[expose] public section

set_option maxRecDepth 16384

noncomputable section

namespace Cert.Latent.Queries

open Idealize.ShloMosaic Idealize.ShloMosaic.TcCoe Idealize.SL.Sem Cert.Kernel11Ideal Cert.Kernel11Ideal.Gen
open Idealize.ShloMosaic.Pipeline (Dat)
open Cert.Kernel11Ideal.Value (G2 pt2Of)
open Cert.MlaBwd (at2 at2_ix)

/-- The windows' index maps, of all points at once. -/
theorem index_in : ∀ t : Fin cfg0.N, win0_0.index t = ![t.val % 4, 0] ∧ win0_1.index t = ![t.val % 4, 0] :=
  (by decide +kernel : ∀ t : Fin grid0.N, _)

/-- One block's product. -/
theorem part (v0 : Vec Ideal S2048x384 .bf16) (v1 : Vec Ideal S2048x1024 .bf16) (a : Fin 384) (b : Fin 1024) :
    k0_pay1 (F := Ideal) v0 v1 (ix2 a b) = ∑ k : Fin 2048, v0 (ix2 k a) * v1 (ix2 k b) := by
  pointwise [k0_pay1]

theorem first (v0 : Vec Ideal S2048x384 .bf16) (v1 : Vec Ideal S2048x1024 .bf16) (a : Fin 384) (b : Fin 1024) :
    k0_pay2 (F := Ideal) v0 v1 (ix2 a b) = k0_pay1 (F := Ideal) v0 v1 (ix2 a b) := by
  unfold k0_pay2
  generalize k0_pay1 (F := Ideal) v0 v1 = y
  pointwise []

theorem next (v0 : Vec Ideal S2048x384 .bf16) (v1 : Vec Ideal S2048x1024 .bf16) (x : Vec Ideal S384x1024 .f32) (a : Fin 384) (b : Fin 1024) :
    k0_pay3 (F := Ideal) v0 v1 x (ix2 a b) = x (ix2 a b) + k0_pay1 (F := Ideal) v0 v1 (ix2 a b) := by
  unfold k0_pay3
  generalize k0_pay1 (F := Ideal) v0 v1 = y
  pointwise []

variable (m : (ℓ : Loc nD τ sig) → Buf (Elt Ideal) ℓ) (c : Dev nD)

/-- What point `n` adds to its block at `x`: the products of its rows. -/
def term (n : ℕ) (x : S384x1024.Idx) : EReal :=
  ∑ k ∈ Finset.range 2048, at2 (V m c main_arg0) (2048 * (n % 4) + k) (384 * (0) + (x 0).val) * at2 (V m c main_arg1) (2048 * (n % 4) + k) (1024 * (0) + (x 1).val)

theorem lt_N (t : Fin cfg0.N) : t.val < 4 := lt_of_lt_of_eq t.isLt N_0

theorem block_h (t : Fin cfg0.N) (k : Fin 2048) (a : Fin 384) :
    iblk m c 0 t (ix2 k a) = at2 (V m c main_arg0) (2048 * (t.val % 4) + k.val) (384 * (0) + a.val) := by
  have ht := lt_N t
  rw [at2, dif_pos ⟨by omega, by omega⟩]
  generalize hV : V m c = W
  unfold iblk
  rw [hV]
  blk_point [index_in t]

theorem block_ct (t : Fin cfg0.N) (k : Fin 2048) (b : Fin 1024) :
    iblk m c 1 t (ix2 k b) = at2 (V m c main_arg1) (2048 * (t.val % 4) + k.val) (1024 * (0) + b.val) := by
  have ht := lt_N t
  rw [at2, dif_pos ⟨by omega, by omega⟩]
  generalize hV : V m c = W
  unfold iblk
  rw [hV]
  blk_point [index_in t]

theorem part_eq (t : Fin cfg0.N) (a : Fin 384) (b : Fin 1024) :
    k0_pay1 (F := Ideal) (iblk m c 0 t) (iblk m c 1 t) (ix2 a b) = term m c t.val (ix2 a b) := by
  rw [part, term, Finset.sum_range]
  exact Finset.sum_congr rfl fun k _ => congrArg₂ (· * ·) (block_h m c t k a) (block_ct m c t k b)

/-- The accumulator at the first point of a block. -/
theorem acc_first (t : Fin cfg0.N) (h : t.val % 4 = 0) (x : S384x1024.Idx) :
    (outsAt0 m c t.val t.isLt).2 x = 0 + term m c t.val x := by
  rw [eq_ix2 x, zero_add, outsAt0_A m c t h (by have := lt_N t; omega) (by omega)]
  frame_out
  exact (first _ _ _ _).trans (part_eq m c t _ _)

/-- At a later one. -/
theorem acc_pay (t : Fin cfg0.N) (h : ¬t.val % 4 = 0) :
    (outsAt0 m c t.val t.isLt).2 = k0_pay3 (F := Ideal) (iblk m c 0 t) (iblk m c 1 t) (outsAt0 m c (t.val - 1) (Nat.lt_of_le_of_lt (Nat.sub_le _ _) t.isLt)).2 := by
  by_cases h2 : t.val % 4 = 3
  · rw [outsAt0_C m c t h (by omega) h2]
    frame_out
    exact congrArg (k0_pay3 (F := Ideal) _ _) ((Memref.isWhole_whole cc0_scratch0).read_unread _)
  · rw [outsAt0_B m c t h (by omega) h2]
    frame_out
    exact congrArg (k0_pay3 (F := Ideal) _ _) ((Memref.isWhole_whole cc0_scratch0).read_unread _)

theorem acc_next (t : Fin cfg0.N) (h : ¬t.val % 4 = 0) (x : S384x1024.Idx) :
    (outsAt0 m c t.val t.isLt).2 x = (outsAt0 m c (t.val - 1) (Nat.lt_of_le_of_lt (Nat.sub_le _ _) t.isLt)).2 x + term m c t.val x := by
  rw [acc_pay m c t h, eq_ix2 x]
  exact (next _ _ _ _ _).trans (congrArg (_ + ·) (part_eq m c t _ _))

/-- The last point of a block writes the accumulator out. -/
theorem out_last (t : Fin cfg0.N) (h : t.val % 4 = 3) : (outsAt0 m c t.val t.isLt).1 = (outsAt0 m c t.val t.isLt).2 := by
  rw [outsAt0_C m c t (by omega) (by omega) h]
  frame_out

/-- The block after its last point. -/
theorem out_sum (t : Fin cfg0.N) (h : t.val % 4 = 3) (x : S384x1024.Idx) :
    (outsAt0 m c t.val t.isLt).1 x = ∑ R ∈ Finset.range 8192, at2 (V m c main_arg0) R (384 * (0) + (x 0).val) * at2 (V m c main_arg1) R (1024 * (0) + (x 1).val) := by
  rw [out_last m c t h, Pipeline.eq_sum_of_reset_step_apply_of_mod (fun n h => (outsAt0 m c n h).2) 4 (fun _ => 0) (term m c)
    (acc_first m c) (acc_next m c) t h x, zero_add]
  refine Eq.trans (Finset.sum_congr rfl fun k hk => ?_) (Finset.sum_range_range_mul_add 4 2048 _)
  have hk := Finset.mem_range.mp hk
  unfold term
  rw [show (4 * (t.val / 4) + k) % 4 = k by omega, Nat.mul_comm 2048 k]

/-- The whole result. -/
theorem out_eq (A : Fin 384) (B : Fin 1024) :
    G2 m c (ix2 A B) = ∑ R ∈ Finset.range 8192, at2 (V m c main_arg0) R A.val * at2 (V m c main_arg1) R B.val := by
  have hp : pt2Of (ix2 A B) = 3 := by
    show 4 * (1 * (A.val / 384 - 0) + 1 * (B.val / 1024 - 0)) + 3 = _
    omega
  have hlt : pt2Of (ix2 A B) < cfg0.N := by rw [hp]; exact lt_of_lt_of_eq (by omega) N_0.symm
  rw [G2, dif_pos hlt, ← Cert.Kernel11Ideal.Value.outsAt0_sweep m c _ hlt, out_sum m c ⟨_, hlt⟩ (by show pt2Of _ % 4 = 3; omega)]
  show ∑ R ∈ Finset.range 8192, at2 (V m c main_arg0) R (384 * 0 + A.val % 384) * at2 (V m c main_arg1) R (1024 * 0 + B.val % 1024) = _
  rw [show 384 * 0 + A.val % 384 = A.val by omega, show 1024 * 0 + B.val % 1024 = B.val by omega]

end Cert.Latent.Queries

end
-- ==== Proof.Latent.Queries.lean ====
/- The queries' weight: the gradient's call gives the reference's result. -/
module

public import proofs.«01_k».proof.Proof.Latent.QueriesSum
public import proofs.«01_k».proof.Proof.Gen.Reference11Ideal.Run
public import proofs.«01_k».proof.Proof.Gen.Reference11Ideal.Read
public import proofs.«01_k».proof.Defs

@[expose] public section

set_option maxRecDepth 16384

noncomputable section

namespace Cert.Latent.Queries

open Idealize.ShloMosaic Idealize.SL.Sem
open Cert.MlaBwd (at2 at2_ix)

/-- The gradient of `h · w` in `w`, for the gradient `y` of the product. -/
def grad (h : (⟨2, ![8192, 384]⟩ : Shape).Idx → EReal) (y : (⟨2, ![8192, 1024]⟩ : Shape).Idx → EReal) : (⟨2, ![384, 1024]⟩ : Shape).Idx → EReal :=
  fun x => ∑ R ∈ Finset.range 8192, at2 h R (x 0).val * at2 y R (x 1).val

section Kernel

open Cert.Kernel11Ideal Cert.Kernel11Ideal.Gen Idealize.ShloMosaic.TcCoe

theorem kernel_grad (m : (ℓ : Loc nD τ sig) → Buf (Elt Ideal) ℓ) (c : Dev nD) :
    Cert.Kernel11Ideal.Value.G2 m c = grad (m ((c : Thread nD τ).loc main_arg0)) (m ((c : Thread nD τ).loc main_arg1)) := by
  rw [← V_main_arg0 m c, ← V_main_arg1 m c]
  funext x
  rw [eq_ix2 x]
  exact out_eq m c (x 0) (x 1)

end Kernel

section Reference

open Cert.Reference11Ideal Cert.Reference11Ideal.Gen Cert.Reference11Ideal.Read

variable (x0 : (⟨S8192x384, .bf16⟩ : BufTy).Contents (Elt Ideal)) (x1 : (⟨S8192x1024, .bf16⟩ : BufTy).Contents (Elt Ideal))

theorem product (b : Fin 1024) (a : Fin 384) :
    val_main_v4 (F := Ideal) x0 x1 (ix2 b a) = ∑ R : Fin 8192, x1 (ix2 R b) * x0 (ix2 R a) := by
  pointwise [val_main_v4, val_main_v3, val_main_v1]

theorem turned (a : Fin 384) (b : Fin 1024) : val_main_v5 (F := Ideal) x0 x1 (ix2 a b) = val_main_v4 (F := Ideal) x0 x1 (ix2 b a) := by
  unfold val_main_v5
  generalize val_main_v4 (F := Ideal) x0 x1 = y
  pointwise []

theorem reference_grad : val_main_v5 (F := Ideal) x0 x1 = grad x0 x1 := by
  funext x
  rw [eq_ix2 x]
  refine (turned x0 x1 (x 0) (x 1)).trans ((product x0 x1 (x 1) (x 0)).trans ?_)
  unfold grad
  rw [Finset.sum_range]
  exact Finset.sum_congr rfl fun R _ => (mul_comm _ _).trans (congrArg₂ (· * ·) (at2_ix (a := 8192) (b := 384) x0 R (x 0)) (at2_ix (a := 8192) (b := 1024) x1 R (x 1)))

end Reference

theorem algebraic : Cert.algebraic_Kernel11Ideal_Reference11Ideal := by
  intro m g m' g' _ ha
  refine ⟨fun c => grad (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run Cert.Kernel11Ideal.defs _ _).mono (fun r h c => ⟨(h c).1.trans (kernel_grad m c), (h c).2⟩) (Cert.Kernel11Ideal.Value.run (F := Ideal) m g), ?_⟩
  refine (θ_run Cert.Reference11Ideal.defs _ _).mono (fun r h c => ?_) (Cert.Reference11Ideal.Value.run (F := Ideal) m' g')
  refine ⟨(h c).1.trans ((Cert.Reference11Ideal.Read.val_main_v5_eq _ _).trans ((reference_grad _ _).trans ?_)), (h c).2⟩
  rw [(ha c).1, (ha c).2]

end Cert.Latent.Queries

end
-- ==== Proof.Latent.KeysSum.lean ====
/- The keys' and values' weight: its gradient is a sum over four blocks of rows, which is the sum over all the
   rows. Point `t` is of the rows' block `t`. -/
module

public import proofs.«01_k».proof.Proof.Gen.Kernel12Ideal.Value
public import proofs.«01_k».proof.Proof.MlaBwd.Nat

@[expose] public section

set_option maxRecDepth 16384

noncomputable section

namespace Cert.Latent.Keys

open Idealize.ShloMosaic Idealize.ShloMosaic.TcCoe Idealize.SL.Sem Cert.Kernel12Ideal Cert.Kernel12Ideal.Gen
open Idealize.ShloMosaic.Pipeline (Dat)
open Cert.Kernel12Ideal.Value (G2 pt2Of)
open Cert.MlaBwd (at2 at2_ix)

/-- The windows' index maps, of all points at once. -/
theorem index_in : ∀ t : Fin cfg0.N, win0_0.index t = ![t.val % 4, 0] ∧ win0_1.index t = ![t.val % 4, 0] :=
  (by decide +kernel : ∀ t : Fin grid0.N, _)

/-- One block's product. -/
theorem part (v0 : Vec Ideal S2048x256 .bf16) (v1 : Vec Ideal S2048x1536 .bf16) (a : Fin 256) (b : Fin 1536) :
    k0_pay1 (F := Ideal) v0 v1 (ix2 a b) = ∑ k : Fin 2048, v0 (ix2 k a) * v1 (ix2 k b) := by
  pointwise [k0_pay1]

theorem first (v0 : Vec Ideal S2048x256 .bf16) (v1 : Vec Ideal S2048x1536 .bf16) (a : Fin 256) (b : Fin 1536) :
    k0_pay2 (F := Ideal) v0 v1 (ix2 a b) = k0_pay1 (F := Ideal) v0 v1 (ix2 a b) := by
  unfold k0_pay2
  generalize k0_pay1 (F := Ideal) v0 v1 = y
  pointwise []

theorem next (v0 : Vec Ideal S2048x256 .bf16) (v1 : Vec Ideal S2048x1536 .bf16) (x : Vec Ideal S256x1536 .f32) (a : Fin 256) (b : Fin 1536) :
    k0_pay3 (F := Ideal) v0 v1 x (ix2 a b) = x (ix2 a b) + k0_pay1 (F := Ideal) v0 v1 (ix2 a b) := by
  unfold k0_pay3
  generalize k0_pay1 (F := Ideal) v0 v1 = y
  pointwise []

variable (m : (ℓ : Loc nD τ sig) → Buf (Elt Ideal) ℓ) (c : Dev nD)

/-- What point `n` adds to its block at `x`: the products of its rows. -/
def term (n : ℕ) (x : S256x1536.Idx) : EReal :=
  ∑ k ∈ Finset.range 2048, at2 (V m c main_arg0) (2048 * (n % 4) + k) (256 * (0) + (x 0).val) * at2 (V m c main_arg1) (2048 * (n % 4) + k) (1536 * (0) + (x 1).val)

theorem lt_N (t : Fin cfg0.N) : t.val < 4 := lt_of_lt_of_eq t.isLt N_0

theorem block_h (t : Fin cfg0.N) (k : Fin 2048) (a : Fin 256) :
    iblk m c 0 t (ix2 k a) = at2 (V m c main_arg0) (2048 * (t.val % 4) + k.val) (256 * (0) + a.val) := by
  have ht := lt_N t
  rw [at2, dif_pos ⟨by omega, by omega⟩]
  generalize hV : V m c = W
  unfold iblk
  rw [hV]
  blk_point [index_in t]

theorem block_ct (t : Fin cfg0.N) (k : Fin 2048) (b : Fin 1536) :
    iblk m c 1 t (ix2 k b) = at2 (V m c main_arg1) (2048 * (t.val % 4) + k.val) (1536 * (0) + b.val) := by
  have ht := lt_N t
  rw [at2, dif_pos ⟨by omega, by omega⟩]
  generalize hV : V m c = W
  unfold iblk
  rw [hV]
  blk_point [index_in t]

theorem part_eq (t : Fin cfg0.N) (a : Fin 256) (b : Fin 1536) :
    k0_pay1 (F := Ideal) (iblk m c 0 t) (iblk m c 1 t) (ix2 a b) = term m c t.val (ix2 a b) := by
  rw [part, term, Finset.sum_range]
  exact Finset.sum_congr rfl fun k _ => congrArg₂ (· * ·) (block_h m c t k a) (block_ct m c t k b)

/-- The accumulator at the first point of a block. -/
theorem acc_first (t : Fin cfg0.N) (h : t.val % 4 = 0) (x : S256x1536.Idx) :
    (outsAt0 m c t.val t.isLt).2 x = 0 + term m c t.val x := by
  rw [eq_ix2 x, zero_add, outsAt0_A m c t h (by have := lt_N t; omega) (by omega)]
  frame_out
  exact (first _ _ _ _).trans (part_eq m c t _ _)

/-- At a later one. -/
theorem acc_pay (t : Fin cfg0.N) (h : ¬t.val % 4 = 0) :
    (outsAt0 m c t.val t.isLt).2 = k0_pay3 (F := Ideal) (iblk m c 0 t) (iblk m c 1 t) (outsAt0 m c (t.val - 1) (Nat.lt_of_le_of_lt (Nat.sub_le _ _) t.isLt)).2 := by
  by_cases h2 : t.val % 4 = 3
  · rw [outsAt0_C m c t h (by omega) h2]
    frame_out
    exact congrArg (k0_pay3 (F := Ideal) _ _) ((Memref.isWhole_whole cc0_scratch0).read_unread _)
  · rw [outsAt0_B m c t h (by omega) h2]
    frame_out
    exact congrArg (k0_pay3 (F := Ideal) _ _) ((Memref.isWhole_whole cc0_scratch0).read_unread _)

theorem acc_next (t : Fin cfg0.N) (h : ¬t.val % 4 = 0) (x : S256x1536.Idx) :
    (outsAt0 m c t.val t.isLt).2 x = (outsAt0 m c (t.val - 1) (Nat.lt_of_le_of_lt (Nat.sub_le _ _) t.isLt)).2 x + term m c t.val x := by
  rw [acc_pay m c t h, eq_ix2 x]
  exact (next _ _ _ _ _).trans (congrArg (_ + ·) (part_eq m c t _ _))

/-- The last point of a block writes the accumulator out. -/
theorem out_last (t : Fin cfg0.N) (h : t.val % 4 = 3) : (outsAt0 m c t.val t.isLt).1 = (outsAt0 m c t.val t.isLt).2 := by
  rw [outsAt0_C m c t (by omega) (by omega) h]
  frame_out

/-- The block after its last point. -/
theorem out_sum (t : Fin cfg0.N) (h : t.val % 4 = 3) (x : S256x1536.Idx) :
    (outsAt0 m c t.val t.isLt).1 x = ∑ R ∈ Finset.range 8192, at2 (V m c main_arg0) R (256 * (0) + (x 0).val) * at2 (V m c main_arg1) R (1536 * (0) + (x 1).val) := by
  rw [out_last m c t h, Pipeline.eq_sum_of_reset_step_apply_of_mod (fun n h => (outsAt0 m c n h).2) 4 (fun _ => 0) (term m c)
    (acc_first m c) (acc_next m c) t h x, zero_add]
  refine Eq.trans (Finset.sum_congr rfl fun k hk => ?_) (Finset.sum_range_range_mul_add 4 2048 _)
  have hk := Finset.mem_range.mp hk
  unfold term
  rw [show (4 * (t.val / 4) + k) % 4 = k by omega, Nat.mul_comm 2048 k]

/-- The whole result. -/
theorem out_eq (A : Fin 256) (B : Fin 1536) :
    G2 m c (ix2 A B) = ∑ R ∈ Finset.range 8192, at2 (V m c main_arg0) R A.val * at2 (V m c main_arg1) R B.val := by
  have hp : pt2Of (ix2 A B) = 3 := by
    show 4 * (1 * (A.val / 256 - 0) + 1 * (B.val / 1536 - 0)) + 3 = _
    omega
  have hlt : pt2Of (ix2 A B) < cfg0.N := by rw [hp]; exact lt_of_lt_of_eq (by omega) N_0.symm
  rw [G2, dif_pos hlt, ← Cert.Kernel12Ideal.Value.outsAt0_sweep m c _ hlt, out_sum m c ⟨_, hlt⟩ (by show pt2Of _ % 4 = 3; omega)]
  show ∑ R ∈ Finset.range 8192, at2 (V m c main_arg0) R (256 * 0 + A.val % 256) * at2 (V m c main_arg1) R (1536 * 0 + B.val % 1536) = _
  rw [show 256 * 0 + A.val % 256 = A.val by omega, show 1536 * 0 + B.val % 1536 = B.val by omega]

end Cert.Latent.Keys

end
-- ==== Proof.Latent.Keys.lean ====
/- The keys' and values' weight: the gradient's call gives the reference's result. -/
module

public import proofs.«01_k».proof.Proof.Latent.KeysSum
public import proofs.«01_k».proof.Proof.Gen.Reference12Ideal.Run
public import proofs.«01_k».proof.Proof.Gen.Reference12Ideal.Read
public import proofs.«01_k».proof.Defs

@[expose] public section

set_option maxRecDepth 16384

noncomputable section

namespace Cert.Latent.Keys

open Idealize.ShloMosaic Idealize.SL.Sem
open Cert.MlaBwd (at2 at2_ix)

/-- The gradient of `h · w` in `w`, for the gradient `y` of the product. -/
def grad (h : (⟨2, ![8192, 256]⟩ : Shape).Idx → EReal) (y : (⟨2, ![8192, 1536]⟩ : Shape).Idx → EReal) : (⟨2, ![256, 1536]⟩ : Shape).Idx → EReal :=
  fun x => ∑ R ∈ Finset.range 8192, at2 h R (x 0).val * at2 y R (x 1).val

section Kernel

open Cert.Kernel12Ideal Cert.Kernel12Ideal.Gen Idealize.ShloMosaic.TcCoe

theorem kernel_grad (m : (ℓ : Loc nD τ sig) → Buf (Elt Ideal) ℓ) (c : Dev nD) :
    Cert.Kernel12Ideal.Value.G2 m c = grad (m ((c : Thread nD τ).loc main_arg0)) (m ((c : Thread nD τ).loc main_arg1)) := by
  rw [← V_main_arg0 m c, ← V_main_arg1 m c]
  funext x
  rw [eq_ix2 x]
  exact out_eq m c (x 0) (x 1)

end Kernel

section Reference

open Cert.Reference12Ideal Cert.Reference12Ideal.Gen Cert.Reference12Ideal.Read

variable (x0 : (⟨S8192x256, .bf16⟩ : BufTy).Contents (Elt Ideal)) (x1 : (⟨S8192x1536, .bf16⟩ : BufTy).Contents (Elt Ideal))

theorem product (b : Fin 1536) (a : Fin 256) :
    val_main_v4 (F := Ideal) x0 x1 (ix2 b a) = ∑ R : Fin 8192, x1 (ix2 R b) * x0 (ix2 R a) := by
  pointwise [val_main_v4, val_main_v3, val_main_v1]

theorem turned (a : Fin 256) (b : Fin 1536) : val_main_v5 (F := Ideal) x0 x1 (ix2 a b) = val_main_v4 (F := Ideal) x0 x1 (ix2 b a) := by
  unfold val_main_v5
  generalize val_main_v4 (F := Ideal) x0 x1 = y
  pointwise []

theorem reference_grad : val_main_v5 (F := Ideal) x0 x1 = grad x0 x1 := by
  funext x
  rw [eq_ix2 x]
  refine (turned x0 x1 (x 0) (x 1)).trans ((product x0 x1 (x 1) (x 0)).trans ?_)
  unfold grad
  rw [Finset.sum_range]
  exact Finset.sum_congr rfl fun R _ => (mul_comm _ _).trans (congrArg₂ (· * ·) (at2_ix (a := 8192) (b := 256) x0 R (x 0)) (at2_ix (a := 8192) (b := 1536) x1 R (x 1)))

end Reference

theorem algebraic : Cert.algebraic_Kernel12Ideal_Reference12Ideal := by
  intro m g m' g' _ ha
  refine ⟨fun c => grad (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run Cert.Kernel12Ideal.defs _ _).mono (fun r h c => ⟨(h c).1.trans (kernel_grad m c), (h c).2⟩) (Cert.Kernel12Ideal.Value.run (F := Ideal) m g), ?_⟩
  refine (θ_run Cert.Reference12Ideal.defs _ _).mono (fun r h c => ?_) (Cert.Reference12Ideal.Value.run (F := Ideal) m' g')
  refine ⟨(h c).1.trans ((Cert.Reference12Ideal.Read.val_main_v5_eq _ _).trans ((reference_grad _ _).trans ?_)), (h c).2⟩
  rw [(ha c).1, (ha c).2]

end Cert.Latent.Keys

end
-- ==== Proof.Optimiser.lean ====
/- The optimiser's call: both it and its reference are the same function of one element of each argument. -/
module

public import proofs.«01_k».proof.Proof.Gen.Kernel13Ideal.Value
public import proofs.«01_k».proof.Proof.Gen.Reference13Ideal.Run
public import proofs.«01_k».proof.Proof.Gen.Reference13Ideal.Read
public import proofs.«01_k».proof.Proof.MlaBwd.Nat
public import proofs.«01_k».proof.Defs

@[expose] public section

set_option maxRecDepth 16384

noncomputable section

namespace Cert.Optimiser

open Idealize.ShloMosaic Idealize.SL.Sem
open Cert.MlaBwd (at2 at2_ix)

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The step of a weight `w` with the gradient `g` and the moments `m` and `v`. -/
def step (w g m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

section Kernel

open Cert.Kernel13Ideal Cert.Kernel13Ideal.Gen Idealize.ShloMosaic.TcCoe

/-- The windows' index maps, of all points at once. -/
theorem index_in : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

theorem index_out : ∀ t : Fin cfg0.N, win0_4.index t = ![t.val, 0] ∧ win0_5.index t = ![t.val, 0] ∧ win0_6.index t = ![t.val, 0] :=
  (by decide +kernel : ∀ t : Fin grid0.N, _)

theorem lt_N (t : Fin cfg0.N) : t.val < 2 := lt_of_lt_of_eq t.isLt N_0

theorem pay_first (g m : Vec Ideal S512x1024 .f32) (y : S512x1024.Idx) : k0_pay1 (F := Ideal) g m y = first (g y) (m y) := rfl

theorem pay_second (g v : Vec Ideal S512x1024 .f32) (y : S512x1024.Idx) : k0_pay2 (F := Ideal) g v y = second (g y) (v y) := rfl

theorem pay_step (w g m v : Vec Ideal S512x1024 .f32) (y : S512x1024.Idx) :
    k0_pay3 (F := Ideal) g m v w y = step (w y) (g y) (m y) (v y) := by
  unfold step
  rw [← pay_first, ← pay_second]
  unfold k0_pay3
  generalize k0_pay1 (F := Ideal) g m = p
  generalize k0_pay2 (F := Ideal) g v = q
  rfl

/-- A load of a whole block is the block. -/
theorem load (x : Vec Ideal S512x1024 .f32) : View.ld (Val := Elt Ideal) x r0_0 = x := funext fun z => congrArg x (Rect.emb_unit_full _ z)

/-- A store of a whole block leaves what was stored. -/
theorem stored (p : Vec Ideal S512x1024 .f32) (y : S512x1024.Idx) : View.canon (Val := Elt Ideal) [⟨r0_0, p⟩] y = p y := by
  have h := View.canon_cons_emb (Val := Elt Ideal) (s := S512x1024) (e := .f32) r0_0 p [] y
  rwa [Rect.emb_unit_full] at h

theorem out_step (w g m v : Vec Ideal S512x1024 .f32) (y : S512x1024.Idx) :
    out0_4 (F := Ideal) w g m v y = step (w y) (g y) (m y) (v y) := by
  unfold out0_4
  rw [stored, load, load, load, load, pay_step]

theorem out_first (w g m v : Vec Ideal S512x1024 .f32) (y : S512x1024.Idx) :
    out0_5 (F := Ideal) w g m v y = first (g y) (m y) := by
  unfold out0_5
  rw [stored, load, load, pay_first]

theorem out_second (w g m v : Vec Ideal S512x1024 .f32) (y : S512x1024.Idx) :
    out0_6 (F := Ideal) w g m v y = second (g y) (v y) := by
  unfold out0_6
  rw [stored, load, load, pay_second]

variable (m : (ℓ : Loc nD τ sig) → Buf (Elt Ideal) ℓ) (c : Dev nD)

theorem block0 (t : Fin cfg0.N) (y : S512x1024.Idx) (i : S1024x1024.Idx) (e0 : (i 0).val = 512 * t.val + (y 0).val) (e1 : (i 1).val = (y 1).val) :
    iblk m c 0 t y = V m c main_arg0 i := by
  have h : iblk m c 0 t (ix2 (y 0) (y 1)) = at2 (V m c main_arg0) (512 * t.val + (y 0).val) (y 1).val := by
    have ht := lt_N t
    have h0 : (y 0).val < 512 := (y 0).isLt
    have h1 : (y 1).val < 1024 := (y 1).isLt
    rw [at2, dif_pos ⟨by omega, by omega⟩]
    generalize hV : V m c = W
    unfold iblk
    rw [hV]
    blk_point [index_in t]
  rw [eq_ix2 y, h, ← e0, ← e1, eq_ix2 i]
  exact (at2_ix (a := 1024) (b := 1024) (V m c main_arg0) (i 0) (i 1)).symm

theorem block1 (t : Fin cfg0.N) (y : S512x1024.Idx) (i : S1024x1024.Idx) (e0 : (i 0).val = 512 * t.val + (y 0).val) (e1 : (i 1).val = (y 1).val) :
    iblk m c 1 t y = V m c main_arg1 i := by
  have h : iblk m c 1 t (ix2 (y 0) (y 1)) = at2 (V m c main_arg1) (512 * t.val + (y 0).val) (y 1).val := by
    have ht := lt_N t
    have h0 : (y 0).val < 512 := (y 0).isLt
    have h1 : (y 1).val < 1024 := (y 1).isLt
    rw [at2, dif_pos ⟨by omega, by omega⟩]
    generalize hV : V m c = W
    unfold iblk
    rw [hV]
    blk_point [index_in t]
  rw [eq_ix2 y, h, ← e0, ← e1, eq_ix2 i]
  exact (at2_ix (a := 1024) (b := 1024) (V m c main_arg1) (i 0) (i 1)).symm

theorem block2 (t : Fin cfg0.N) (y : S512x1024.Idx) (i : S1024x1024.Idx) (e0 : (i 0).val = 512 * t.val + (y 0).val) (e1 : (i 1).val = (y 1).val) :
    iblk m c 2 t y = V m c main_arg2 i := by
  have h : iblk m c 2 t (ix2 (y 0) (y 1)) = at2 (V m c main_arg2) (512 * t.val + (y 0).val) (y 1).val := by
    have ht := lt_N t
    have h0 : (y 0).val < 512 := (y 0).isLt
    have h1 : (y 1).val < 1024 := (y 1).isLt
    rw [at2, dif_pos ⟨by omega, by omega⟩]
    generalize hV : V m c = W
    unfold iblk
    rw [hV]
    blk_point [index_in t]
  rw [eq_ix2 y, h, ← e0, ← e1, eq_ix2 i]
  exact (at2_ix (a := 1024) (b := 1024) (V m c main_arg2) (i 0) (i 1)).symm

theorem block3 (t : Fin cfg0.N) (y : S512x1024.Idx) (i : S1024x1024.Idx) (e0 : (i 0).val = 512 * t.val + (y 0).val) (e1 : (i 1).val = (y 1).val) :
    iblk m c 3 t y = V m c main_arg3 i := by
  have h : iblk m c 3 t (ix2 (y 0) (y 1)) = at2 (V m c main_arg3) (512 * t.val + (y 0).val) (y 1).val := by
    have ht := lt_N t
    have h0 : (y 0).val < 512 := (y 0).isLt
    have h1 : (y 1).val < 1024 := (y 1).isLt
    rw [at2, dif_pos ⟨by omega, by omega⟩]
    generalize hV : V m c = W
    unfold iblk
    rw [hV]
    blk_point [index_in t]
  rw [eq_ix2 y, h, ← e0, ← e1, eq_ix2 i]
  exact (at2_ix (a := 1024) (b := 1024) (V m c main_arg3) (i 0) (i 1)).symm

/-- The row of an index is in the block of rows of its point. -/
theorem in_block (f : Fin 2 → ℕ) (i : S1024x1024.Idx) (h : f = ![(i 0).val / 512, 0]) (a : Fin 2) :
    f a * S512x1024.size a ≤ (i a).val ∧ (i a).val < f a * S512x1024.size a + S512x1024.size a := by
  have h0 : (i 0).val < 1024 := (i 0).isLt
  have h1 : (i 1).val < 1024 := (i 1).isLt
  rw [h]
  match a with
  | ⟨0, _⟩ =>
    show (i 0).val / 512 * 512 ≤ (i 0).val ∧ (i 0).val < (i 0).val / 512 * 512 + 512
    omega
  | ⟨1, _⟩ =>
    show 0 * 1024 ≤ (i 1).val ∧ (i 1).val < 0 * 1024 + 1024
    omega

/-- The point of an index. -/
def pointOf (i : S1024x1024.Idx) : Fin cfg0.N :=
  ⟨(i 0).val / 512, lt_of_lt_of_eq (by have h0 : (i 0).val < 1024 := (i 0).isLt; omega) N_0.symm⟩

/-- The array of the step after the run. -/
theorem kernel_step : (dats m 0 c).arrAt 4 cfg0.N = fun i : S1024x1024.Idx => step (m ((c : Thread nD τ).loc main_arg0) i) (m ((c : Thread nD τ).loc main_arg1) i) (m ((c : Thread nD τ).loc main_arg2) i) (m ((c : Thread nD τ).loc main_arg3) i) := by
  rw [← V_main_arg0 m c, ← V_main_arg1 m c, ← V_main_arg2 m c, ← V_main_arg3 m c]
  refine (dats m 0 c).arrAt_eq_of_cover 4 _ (fun t _ => ?_) (fun i => ?_)
  · rw [Cert.Kernel13Ideal.Value.flushed4]
    have hi := (index_out t).1
    have ht := lt_N t
    funext y
    have e0 : (((cfg0.win 4).blk t).view.emb y 0).val = 512 * t.val + (y 0).val := by
      show win0_4.index t (0 : Fin 2) * 512 + 1 * (y 0).val = _
      rw [hi]; show t.val * 512 + 1 * (y 0).val = _; omega
    have e1 : (((cfg0.win 4).blk t).view.emb y 1).val = (y 1).val := by
      show win0_4.index t (1 : Fin 2) * 1024 + 1 * (y 1).val = _
      rw [hi]; show 0 * 1024 + 1 * (y 1).val = _; omega
    refine (out_step _ _ _ _ y).trans ?_
    rw [block0 m c t y _ e0 e1, block1 m c t y _ e0 e1, block2 m c t y _ e0 e1, block3 m c t y _ e0 e1]
    rfl
  · refine ⟨pointOf i, flush0_4 _, ?_⟩
    show i ∈ ((View.whole main_v0_0).slice (win0_4.rect (pointOf i))).set
    rw [View.set_slice_whole, Rect.mem_set_unit]
    exact in_block _ i ((index_out (pointOf i)).1)

/-- The array of the new first moment after the run. -/
theorem kernel_first : (dats m 0 c).arrAt 5 cfg0.N = fun i : S1024x1024.Idx => first (m ((c : Thread nD τ).loc main_arg1) i) (m ((c : Thread nD τ).loc main_arg2) i) := by
  rw [← V_main_arg1 m c, ← V_main_arg2 m c]
  refine (dats m 0 c).arrAt_eq_of_cover 5 _ (fun t _ => ?_) (fun i => ?_)
  · rw [Cert.Kernel13Ideal.Value.flushed5]
    have hi := (index_out t).2.1
    have ht := lt_N t
    funext y
    have e0 : (((cfg0.win 5).blk t).view.emb y 0).val = 512 * t.val + (y 0).val := by
      show win0_5.index t (0 : Fin 2) * 512 + 1 * (y 0).val = _
      rw [hi]; show t.val * 512 + 1 * (y 0).val = _; omega
    have e1 : (((cfg0.win 5).blk t).view.emb y 1).val = (y 1).val := by
      show win0_5.index t (1 : Fin 2) * 1024 + 1 * (y 1).val = _
      rw [hi]; show 0 * 1024 + 1 * (y 1).val = _; omega
    refine (out_first _ _ _ _ y).trans ?_
    rw [block1 m c t y _ e0 e1, block2 m c t y _ e0 e1]
    rfl
  · refine ⟨pointOf i, flush0_5 _, ?_⟩
    show i ∈ ((View.whole main_v0_1).slice (win0_5.rect (pointOf i))).set
    rw [View.set_slice_whole, Rect.mem_set_unit]
    exact in_block _ i ((index_out (pointOf i)).2.1)

/-- The array of the new second moment after the run. -/
theorem kernel_second : (dats m 0 c).arrAt 6 cfg0.N = fun i : S1024x1024.Idx => second (m ((c : Thread nD τ).loc main_arg1) i) (m ((c : Thread nD τ).loc main_arg3) i) := by
  rw [← V_main_arg1 m c, ← V_main_arg3 m c]
  refine (dats m 0 c).arrAt_eq_of_cover 6 _ (fun t _ => ?_) (fun i => ?_)
  · rw [Cert.Kernel13Ideal.Value.flushed6]
    have hi := (index_out t).2.2
    have ht := lt_N t
    funext y
    have e0 : (((cfg0.win 6).blk t).view.emb y 0).val = 512 * t.val + (y 0).val := by
      show win0_6.index t (0 : Fin 2) * 512 + 1 * (y 0).val = _
      rw [hi]; show t.val * 512 + 1 * (y 0).val = _; omega
    have e1 : (((cfg0.win 6).blk t).view.emb y 1).val = (y 1).val := by
      show win0_6.index t (1 : Fin 2) * 1024 + 1 * (y 1).val = _
      rw [hi]; show 0 * 1024 + 1 * (y 1).val = _; omega
    refine (out_second _ _ _ _ y).trans ?_
    rw [block1 m c t y _ e0 e1, block3 m c t y _ e0 e1]
    rfl
  · refine ⟨pointOf i, flush0_6 _, ?_⟩
    show i ∈ ((View.whole main_v0_2).slice (win0_6.rect (pointOf i))).set
    rw [View.set_slice_whole, Rect.mem_set_unit]
    exact in_block _ i ((index_out (pointOf i)).2.2)

end Kernel

section Reference

open Cert.Reference13Ideal Cert.Reference13Ideal.Gen Cert.Reference13Ideal.Read

variable (x0 x1 x2 x3 : (⟨S1024x1024, .f32⟩ : BufTy).Contents (Elt Ideal))

theorem reference_first : val_main_v4 (F := Ideal) x1 x2 = fun i => first (x1 i) (x2 i) := by
  funext i
  rw [val_main_v4_apply, val_main_v1_apply, val_main_v3_apply, val_main_v0_apply, val_main_v2_apply]
  rfl

theorem reference_second : val_main_v10 (F := Ideal) x1 x3 = fun i => second (x1 i) (x3 i) := by
  funext i
  rw [val_main_v10_apply, val_main_v6_apply, val_main_v9_apply, val_main_v5_apply, val_main_v8_apply, val_main_v7_apply]
  rfl

theorem reference_step : val_main_v23 (F := Ideal) x0 x1 x2 x3 = fun i => step (x0 i) (x1 i) (x2 i) (x3 i) := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, reference_first,
    reference_second]
  rfl

end Reference

theorem algebraic : Cert.algebraic_Kernel13Ideal_Reference13Ideal := by
  intro m g m' g' _ ha
  refine ⟨_, _, _, (θ_run Cert.Kernel13Ideal.defs _ _).mono
    (fun r h c => ⟨(h c).1.trans (kernel_step m c), (h c).2.1.trans (kernel_first m c), (h c).2.2.1.trans (kernel_second m c), (h c).2.2.2⟩)
    (Cert.Kernel13Ideal.Value.run_blocks (F := Ideal) m g), ?_⟩
  refine (θ_run Cert.Reference13Ideal.defs _ _).mono (fun r h c => ?_) (Cert.Reference13Ideal.Value.run (F := Ideal) m' g')
  obtain ⟨e0, e1, e2, e3⟩ := ha c
  refine ⟨(h c).1.trans ((Cert.Reference13Ideal.Read.val_main_v23_eq _ _ _ _).trans ((reference_step _ _ _ _).trans ?_)),
    (h c).2.1.trans ((Cert.Reference13Ideal.Read.val_main_v4_eq _ _).trans ((reference_first _ _).trans ?_)),
    (h c).2.2.1.trans ((Cert.Reference13Ideal.Read.val_main_v10_eq _ _).trans ((reference_second _ _).trans ?_)), (h c).2.2.2⟩
  · rw [e0, e1, e2, e3]
  · rw [e1, e2]
  · rw [e1, e3]

end Cert.Optimiser

end
-- ==== Proof.NormFwd.lean ====
/- The forward norm's call: a row times one over the root of the mean of its squares, times the gain. Point `t` is of row
   block `t`. -/
module

public import proofs.«01_k».proof.Proof.Gen.Kernel14Ideal.Value
public import proofs.«01_k».proof.Proof.Gen.Reference14Ideal.Run
public import proofs.«01_k».proof.Proof.Gen.Reference14Ideal.Read
public import proofs.«01_k».proof.Proof.MlaBwd.Nat
public import proofs.«01_k».proof.Defs

@[expose] public section

set_option maxRecDepth 16384

noncomputable section

namespace Cert.NormFwd

open Idealize.ShloMosaic Idealize.SL.Sem
open Cert.MlaBwd (at2 at2_ix)

/-- The row's scale: one over the root of the mean of its squares and the constant. -/
def scale (x : (⟨2, ![8192, 1024]⟩ : Shape).Idx → EReal) (R : Fin 8192) : EReal :=
  Ideal.rsqrt (Ideal.div (∑ k : Fin 1024, x (ix2 R k) * x (ix2 R k)) (Ideal.ofBits .f32 0x44800000#32) + Ideal.ofBits .f32 0x358637BD#32)

/-- The normed rows. -/
def normed (x : (⟨2, ![8192, 1024]⟩ : Shape).Idx → EReal) (g : (⟨2, ![1, 1024]⟩ : Shape).Idx → EReal) : (⟨2, ![8192, 1024]⟩ : Shape).Idx → EReal :=
  fun i => x i * scale x (i 0) * g (ix2 0 (i 1))

section Kernel

open Cert.Kernel14Ideal Cert.Kernel14Ideal.Gen Idealize.ShloMosaic.TcCoe

/-- The windows' index maps, of all points at once. -/
theorem index_in : ∀ t : Fin cfg0.N, win0_0.index t = ![t.val, 0] ∧ win0_1.index t = ![0, 0] := (by decide +kernel : ∀ t : Fin grid0.N, _)

theorem index_out : ∀ t : Fin cfg0.N, win0_2.index t = ![t.val, 0] := (by decide +kernel : ∀ t : Fin grid0.N, _)

theorem lt_N (t : Fin cfg0.N) : t.val < 16 := lt_of_lt_of_eq t.isLt N_0

theorem row_sum (y : FVec Ideal S512x1024 .f32) (a : Fin 512) :
    multiReduction (F := Ideal) .add [1] S512 y 0x00000000#32 reduces_S512x1024_S512 (.inl rfl) rfl (ix1 a) = ∑ j : Fin 1024, y (ix2 a j) := by
  pointwise []

/-- A point's values. -/
theorem pay (x : Vec Ideal S512x1024 .f32) (g : Vec Ideal S1x1024 .f32) (a : Fin 512) (b : Fin 1024) :
    k0_pay1 (F := Ideal) x g (ix2 a b)
      = x (ix2 a b) * Ideal.rsqrt (Ideal.div (∑ k : Fin 1024, x (ix2 a k) * x (ix2 a k)) (Ideal.ofBits .f32 0x44800000#32) + Ideal.ofBits .f32 0x358637BD#32)
        * g (ix2 0 b) := by
  have e := row_sum (mulf x x) a
  unfold k0_pay1
  generalize multiReduction (F := Ideal) .add [1] S512 (mulf x x) 0x00000000#32 reduces_S512x1024_S512 (.inl rfl) rfl = y at e ⊢
  have e' : y (ix1 a) = ∑ k : Fin 1024, x (ix2 a k) * x (ix2 a k) := e
  rw [← e']
  pointwise []

/-- The body's one store is of the whole block. -/
theorem out_eq (x : Vec Ideal S512x1024 .f32) (g : Vec Ideal S1x1024 .f32) (y : S512x1024.Idx) :
    out0_2 (F := Ideal) x g y = k0_pay1 (F := Ideal) x g y := by
  have h := View.canon_cons_emb (Val := Elt Ideal) (s := S512x1024) (e := .bf16) r0_0 (k0_pay1 (F := Ideal) (View.ld x r0_0) (View.ld g r0_1)) [] y
  rw [Rect.emb_unit_full] at h
  refine h.trans (congrFun (congrArg₂ (k0_pay1 (F := Ideal)) ?_ ?_) y)
  · exact funext fun z => congrArg x (Rect.emb_unit_full _ z)
  · exact funext fun z => congrArg g (Rect.emb_unit_full _ z)

variable (m : (ℓ : Loc nD τ sig) → Buf (Elt Ideal) ℓ) (c : Dev nD)

theorem block_x (t : Fin cfg0.N) (a : Fin 512) (b : Fin 1024) (R : Fin 8192) (e : R.val = 512 * t.val + a.val) :
    iblk m c 0 t (ix2 a b) = V m c main_arg0 (ix2 R b) := by
  have h : iblk m c 0 t (ix2 a b) = at2 (V m c main_arg0) (512 * t.val + a.val) b.val := by
    have ht := lt_N t
    rw [at2, dif_pos ⟨by omega, by omega⟩]
    generalize hV : V m c = W
    unfold iblk
    rw [hV]
    blk_point [index_in t]
  rw [h, ← e]
  exact (at2_ix (a := 8192) (b := 1024) (V m c main_arg0) R b).symm

theorem block_g (t : Fin cfg0.N) (b : Fin 1024) : iblk m c 1 t (ix2 0 b) = V m c main_arg1 (ix2 0 b) := by
  have h : iblk m c 1 t (ix2 0 b) = at2 (V m c main_arg1) 0 b.val := by
    rw [at2, dif_pos ⟨by omega, by omega⟩]
    generalize hV : V m c = W
    unfold iblk
    rw [hV]
    blk_point [index_in t]
  rw [h]
  exact (at2_ix (a := 1) (b := 1024) (V m c main_arg1) 0 b).symm

/-- A point's block, at row `R`. -/
theorem point_at (t : Fin cfg0.N) (a : Fin 512) (b : Fin 1024) (R : Fin 8192) (e : R.val = 512 * t.val + a.val) :
    k0_pay1 (F := Ideal) (iblk m c 0 t) (iblk m c 1 t) (ix2 a b) = normed (V m c main_arg0) (V m c main_arg1) (ix2 R b) := by
  have ex : ∀ k : Fin 1024, iblk m c 0 t (ix2 a k) = V m c main_arg0 (ix2 R k) := fun k => block_x m c t a k R e
  refine (pay _ _ _ _).trans (congrArg₂ (· * ·) (congrArg₂ (· * ·) (ex b) ?_) (block_g m c t b))
  exact congrArg (fun s => Ideal.rsqrt (Ideal.div s _ + _)) (Finset.sum_congr rfl fun k _ => congrArg₂ (· * ·) (ex k) (ex k))

/-- A point's block, at the place that `i` has in it. -/
theorem point (t : Fin cfg0.N) (y : S512x1024.Idx) (i : S8192x1024.Idx) (e0 : (i 0).val = 512 * t.val + (y 0).val) (e1 : (i 1).val = (y 1).val) :
    out0_2 (F := Ideal) (iblk m c 0 t) (iblk m c 1 t) y = normed (V m c main_arg0) (V m c main_arg1) i := by
  rw [out_eq, eq_ix2 y, eq_ix2 i, show i 1 = y 1 from Fin.ext e1]
  exact point_at m c t (y 0) (y 1) (i 0) e0

/-- The indices of a point's block. -/
theorem mem_block (t : Fin cfg0.N) (i : S8192x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- The array after the run. -/
theorem kernel_normed : (dats m 0 c).arrAt 2 cfg0.N = normed (m ((c : Thread nD τ).loc main_arg0)) (m ((c : Thread nD τ).loc main_arg1)) := by
  rw [← V_main_arg0 m c, ← V_main_arg1 m c]
  refine (dats m 0 c).arrAt_eq_of_cover 2 _ (fun t _ => ?_) (fun i => ?_)
  · rw [Cert.Kernel14Ideal.Value.flushed2]
    have hi := index_out t
    have ht := lt_N t
    funext y
    have e0 : (((cfg0.win 2).blk t).view.emb y 0).val = 512 * t.val + (y 0).val := by
      show win0_2.index t (0 : Fin 2) * 512 + 1 * (y 0).val = _
      rw [hi]; show t.val * 512 + 1 * (y 0).val = _; omega
    have e1 : (((cfg0.win 2).blk t).view.emb y 1).val = (y 1).val := by
      show win0_2.index t (1 : Fin 2) * 1024 + 1 * (y 1).val = _
      rw [hi]; show 0 * 1024 + 1 * (y 1).val = _; omega
    show out0_2 (F := Ideal) (iblk m c 0 t) (iblk m c 1 t) y = normed (V m c main_arg0) (V m c main_arg1) (((cfg0.win 2).blk t).view.emb y)
    exact point m c t y _ e0 e1
  · have h0 : (i 0).val < 8192 := (i 0).isLt
    have h1 : (i 1).val < 1024 := (i 1).isLt
    refine ⟨⟨(i 0).val / 512, lt_of_lt_of_eq (by omega) N_0.symm⟩, flush0_2 _, ?_⟩
    rw [mem_block]
    intro a
    have hi := index_out ⟨(i 0).val / 512, lt_of_lt_of_eq (by omega) N_0.symm⟩
    rw [hi]
    match a with
    | ⟨0, _⟩ =>
      show (i 0).val / 512 * 512 ≤ (i 0).val ∧ (i 0).val < (i 0).val / 512 * 512 + 512
      omega
    | ⟨1, _⟩ =>
      show 0 * 1024 ≤ (i 1).val ∧ (i 1).val < 0 * 1024 + 1024
      omega

end Kernel

section Reference

open Cert.Reference14Ideal Cert.Reference14Ideal.Gen Cert.Reference14Ideal.Read

variable (x0 : (⟨S8192x1024, .f32⟩ : BufTy).Contents (Elt Ideal)) (x1 : (⟨S1x1024, .f32⟩ : BufTy).Contents (Elt Ideal))

theorem reference_sum (R : Fin 8192) : val_main_v1 (F := Ideal) x0 (ix1 R) = ∑ k : Fin 1024, x0 (ix2 R k) * x0 (ix2 R k) := by
  unfold val_main_v1
  pointwise [val_main_cst, val_main_v0]

theorem reference_scale (R : Fin 8192) : val_main_v7 (F := Ideal) x0 (ix2 R 0) = scale x0 R := by
  unfold scale
  rw [← reference_sum x0 R]
  unfold val_main_v7 val_main_v6 val_main_v4 val_main_v2
  generalize val_main_v1 (F := Ideal) x0 = y
  pointwise [val_main_v5, val_main_v3, val_main_cst_0, val_main_cst_1]

theorem reference_at (R : Fin 8192) (b : Fin 1024) : val_main_v14 (F := Ideal) x0 x1 (ix2 R b) = x0 (ix2 R b) * scale x0 R * x1 (ix2 0 b) := by
  rw [← reference_scale x0 R]
  unfold val_main_v14 val_main_v13 val_main_v9 val_main_v8
  generalize val_main_v7 (F := Ideal) x0 = y
  pointwise [val_main_v12, val_main_v11, val_main_v10]

theorem reference_normed : val_main_v14 (F := Ideal) x0 x1 = normed x0 x1 := by
  funext i
  have h := reference_at x0 x1 (i 0) (i 1)
  rw [← eq_ix2 i] at h
  exact h

end Reference

theorem algebraic : Cert.algebraic_Kernel14Ideal_Reference14Ideal := by
  intro m g m' g' _ ha
  refine ⟨_, (θ_run Cert.Kernel14Ideal.defs _ _).mono (fun r h c => ⟨(h c).1.trans (kernel_normed m c), (h c).2⟩) (Cert.Kernel14Ideal.Value.run_blocks (F := Ideal) m g), ?_⟩
  refine (θ_run Cert.Reference14Ideal.defs _ _).mono (fun r h c => ?_) (Cert.Reference14Ideal.Value.run (F := Ideal) m' g')
  refine ⟨(h c).1.trans ((Cert.Reference14Ideal.Read.val_main_v14_eq _ _).trans ((reference_normed _ _).trans ?_)), (h c).2⟩
  rw [(ha c).1, (ha c).2]

end Cert.NormFwd

end
-- ==== Proof.Frames.lean ====
/- The frames of the calls and of their references, but for the attention's backward call. A reference is host operations alone, none of
   which writes an argument, and it declares no counter. -/
module

public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Pre_finite_logits
public import proofs.«01_k».proof.Defs
public import Idealize.ShloMosaic.Lib.Quiescent

@[expose] public section

noncomputable section

namespace Cert.Frames

open Idealize.ShloMosaic Idealize.SL.Sem

theorem kernel2 : Cert.quiescent_Kernel2 := fun m ρ _ => Cert.Kernel2.Gen.frame m ρ
theorem kernel2Ideal : Cert.quiescent_Kernel2Ideal := fun m ρ _ => Cert.Kernel2Ideal.Gen.frame m ρ
theorem kernel3 : Cert.quiescent_Kernel3 := fun m ρ _ => Cert.Kernel3.Gen.frame m ρ
theorem kernel3Ideal : Cert.quiescent_Kernel3Ideal := fun m ρ _ => Cert.Kernel3Ideal.Gen.frame m ρ
theorem kernel4 : Cert.quiescent_Kernel4 := fun m ρ _ => Cert.Kernel4.Gen.frame m ρ
theorem kernel4Ideal : Cert.quiescent_Kernel4Ideal := fun m ρ _ => Cert.Kernel4Ideal.Gen.frame m ρ
theorem kernel5 : Cert.quiescent_Kernel5 := fun m ρ _ => Cert.Kernel5.Gen.frame m ρ
theorem kernel5Ideal : Cert.quiescent_Kernel5Ideal := fun m ρ _ => Cert.Kernel5Ideal.Gen.frame m ρ
theorem kernel6 : Cert.quiescent_Kernel6 := fun m ρ _ => Cert.Kernel6.Gen.frame m ρ
theorem kernel6Ideal : Cert.quiescent_Kernel6Ideal := fun m ρ _ => Cert.Kernel6Ideal.Gen.frame m ρ

theorem kernel7 : Cert.quiescent_Kernel7 := fun m ρ _ => Cert.Kernel7.Gen.frame m ρ
theorem kernel7Ideal : Cert.quiescent_Kernel7Ideal := fun m ρ _ => Cert.Kernel7Ideal.Gen.frame m ρ
theorem kernel7Ideal_finite : Cert.quiescent_Kernel7Ideal_pre_finite_logits := fun m ρ _ => kernel7Ideal m ρ trivial

theorem reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem reference7Ideal : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem reference7Ideal_finite : Cert.quiescent_Reference7Ideal_pre_finite_logits := fun m ρ _ => reference7Ideal m ρ trivial

theorem kernel8 : Cert.quiescent_Kernel8 := fun m ρ _ => Cert.Kernel8.Gen.frame m ρ
theorem kernel8Ideal : Cert.quiescent_Kernel8Ideal := fun m ρ _ => Cert.Kernel8Ideal.Gen.frame m ρ
theorem kernel9 : Cert.quiescent_Kernel9 := fun m ρ _ => Cert.Kernel9.Gen.frame m ρ
theorem kernel9Ideal : Cert.quiescent_Kernel9Ideal := fun m ρ _ => Cert.Kernel9Ideal.Gen.frame m ρ
theorem kernel10 : Cert.quiescent_Kernel10 := fun m ρ _ => Cert.Kernel10.Gen.frame m ρ
theorem kernel10Ideal : Cert.quiescent_Kernel10Ideal := fun m ρ _ => Cert.Kernel10Ideal.Gen.frame m ρ

theorem reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem reference10Ideal : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem kernel11 : Cert.quiescent_Kernel11 := fun m ρ _ => Cert.Kernel11.Gen.frame m ρ
theorem kernel11Ideal : Cert.quiescent_Kernel11Ideal := fun m ρ _ => Cert.Kernel11Ideal.Gen.frame m ρ
theorem kernel12 : Cert.quiescent_Kernel12 := fun m ρ _ => Cert.Kernel12.Gen.frame m ρ
theorem kernel12Ideal : Cert.quiescent_Kernel12Ideal := fun m ρ _ => Cert.Kernel12Ideal.Gen.frame m ρ
theorem kernel13 : Cert.quiescent_Kernel13 := fun m ρ _ => Cert.Kernel13.Gen.frame m ρ
theorem kernel13Ideal : Cert.quiescent_Kernel13Ideal := fun m ρ _ => Cert.Kernel13Ideal.Gen.frame m ρ
theorem kernel14 : Cert.quiescent_Kernel14 := fun m ρ _ => Cert.Kernel14.Gen.frame m ρ
theorem kernel14Ideal : Cert.quiescent_Kernel14Ideal := fun m ρ _ => Cert.Kernel14Ideal.Gen.frame m ρ

theorem reference11Ideal : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem reference12Ideal : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem reference13Ideal : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem reference14Ideal : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

end Cert.Frames

end
-- ==== Proof.Wgrad.Sum.lean ====
/- The weight gradient's call: each block of the result is a sum over four blocks of rows, which is the sum over all
   the rows. Point `t` is of row block `t / 12` and column block `t / 4 % 3` of the result, and of rows' block `t % 4`. -/
module

public import proofs.«01_k».proof.Proof.Gen.Kernel2Ideal.Value
public import proofs.«01_k».proof.Proof.MlaBwd.Nat

@[expose] public section

set_option maxRecDepth 16384

noncomputable section

namespace Cert.Wgrad

open Idealize.ShloMosaic Idealize.ShloMosaic.TcCoe Idealize.SL.Sem Cert.Kernel2Ideal Cert.Kernel2Ideal.Gen
open Idealize.ShloMosaic.Pipeline (Dat)
open Cert.Kernel2Ideal.Value (G2 pt2Of)
open Cert.MlaBwd (at2 at2_ix)

/-- The windows' index maps, of all points at once. -/
theorem index_in : ∀ t : Fin cfg0.N, win0_0.index t = ![t.val % 4, t.val / 12] ∧ win0_1.index t = ![t.val % 4, t.val / 4 % 3] :=
  (by decide +kernel : ∀ t : Fin grid0.N, _)

/-- One block's product. -/
theorem part (v0 : Vec Ideal S2048x512 .bf16) (v1 : Vec Ideal S2048x1536 .bf16) (a : Fin 512) (b : Fin 1536) :
    k0_pay1 (F := Ideal) v0 v1 (ix2 a b) = ∑ k : Fin 2048, v0 (ix2 k a) * v1 (ix2 k b) := by
  pointwise [k0_pay1]

theorem first (v0 : Vec Ideal S2048x512 .bf16) (v1 : Vec Ideal S2048x1536 .bf16) (a : Fin 512) (b : Fin 1536) :
    k0_pay2 (F := Ideal) v0 v1 (ix2 a b) = k0_pay1 (F := Ideal) v0 v1 (ix2 a b) := by
  unfold k0_pay2
  generalize k0_pay1 (F := Ideal) v0 v1 = y
  pointwise []

theorem next (v0 : Vec Ideal S2048x512 .bf16) (v1 : Vec Ideal S2048x1536 .bf16) (x : Vec Ideal S512x1536 .f32) (a : Fin 512) (b : Fin 1536) :
    k0_pay3 (F := Ideal) v0 v1 x (ix2 a b) = x (ix2 a b) + k0_pay1 (F := Ideal) v0 v1 (ix2 a b) := by
  unfold k0_pay3
  generalize k0_pay1 (F := Ideal) v0 v1 = y
  pointwise []

variable (m : (ℓ : Loc nD τ sig) → Buf (Elt Ideal) ℓ) (c : Dev nD)

/-- What point `n` adds to its block at `x`: the products of its rows. -/
def term (n : ℕ) (x : S512x1536.Idx) : EReal :=
  ∑ k ∈ Finset.range 2048, at2 (V m c main_arg0) (2048 * (n % 4) + k) (512 * (n / 12) + (x 0).val) * at2 (V m c main_arg1) (2048 * (n % 4) + k) (1536 * (n / 4 % 3) + (x 1).val)

theorem lt_N (t : Fin cfg0.N) : t.val < 24 := lt_of_lt_of_eq t.isLt N_0

theorem block_h (t : Fin cfg0.N) (k : Fin 2048) (a : Fin 512) :
    iblk m c 0 t (ix2 k a) = at2 (V m c main_arg0) (2048 * (t.val % 4) + k.val) (512 * (t.val / 12) + a.val) := by
  have ht := lt_N t
  rw [at2, dif_pos ⟨by omega, by omega⟩]
  generalize hV : V m c = W
  unfold iblk
  rw [hV]
  blk_point [index_in t]

theorem block_ct (t : Fin cfg0.N) (k : Fin 2048) (b : Fin 1536) :
    iblk m c 1 t (ix2 k b) = at2 (V m c main_arg1) (2048 * (t.val % 4) + k.val) (1536 * (t.val / 4 % 3) + b.val) := by
  have ht := lt_N t
  rw [at2, dif_pos ⟨by omega, by omega⟩]
  generalize hV : V m c = W
  unfold iblk
  rw [hV]
  blk_point [index_in t]

theorem part_eq (t : Fin cfg0.N) (a : Fin 512) (b : Fin 1536) :
    k0_pay1 (F := Ideal) (iblk m c 0 t) (iblk m c 1 t) (ix2 a b) = term m c t.val (ix2 a b) := by
  rw [part, term, Finset.sum_range]
  exact Finset.sum_congr rfl fun k _ => congrArg₂ (· * ·) (block_h m c t k a) (block_ct m c t k b)

/-- The accumulator at the first point of a block. -/
theorem acc_first (t : Fin cfg0.N) (h : t.val % 4 = 0) (x : S512x1536.Idx) :
    (outsAt0 m c t.val t.isLt).2 x = 0 + term m c t.val x := by
  rw [eq_ix2 x, zero_add, outsAt0_A m c t h (by omega) (by omega)]
  frame_out
  exact (first _ _ _ _).trans (part_eq m c t _ _)

/-- At a later one. -/
theorem acc_pay (t : Fin cfg0.N) (h : ¬t.val % 4 = 0) :
    (outsAt0 m c t.val t.isLt).2 = k0_pay3 (F := Ideal) (iblk m c 0 t) (iblk m c 1 t) (outsAt0 m c (t.val - 1) (Nat.lt_of_le_of_lt (Nat.sub_le _ _) t.isLt)).2 := by
  by_cases h2 : t.val % 4 = 3
  · rw [outsAt0_C m c t h (by omega) h2]
    frame_out
    exact congrArg (k0_pay3 (F := Ideal) _ _) ((Memref.isWhole_whole cc0_scratch0).read_unread _)
  · rw [outsAt0_B m c t h (by omega) h2]
    frame_out
    exact congrArg (k0_pay3 (F := Ideal) _ _) ((Memref.isWhole_whole cc0_scratch0).read_unread _)

theorem acc_next (t : Fin cfg0.N) (h : ¬t.val % 4 = 0) (x : S512x1536.Idx) :
    (outsAt0 m c t.val t.isLt).2 x = (outsAt0 m c (t.val - 1) (Nat.lt_of_le_of_lt (Nat.sub_le _ _) t.isLt)).2 x + term m c t.val x := by
  rw [acc_pay m c t h, eq_ix2 x]
  exact (next _ _ _ _ _).trans (congrArg (_ + ·) (part_eq m c t _ _))

/-- The last point of a block writes the accumulator out. -/
theorem out_last (t : Fin cfg0.N) (h : t.val % 4 = 3) : (outsAt0 m c t.val t.isLt).1 = (outsAt0 m c t.val t.isLt).2 := by
  rw [outsAt0_C m c t (by omega) (by omega) h]
  frame_out

/-- The block after its last point. -/
theorem out_sum (t : Fin cfg0.N) (h : t.val % 4 = 3) (x : S512x1536.Idx) :
    (outsAt0 m c t.val t.isLt).1 x = ∑ R ∈ Finset.range 8192, at2 (V m c main_arg0) R (512 * (t.val / 12) + (x 0).val) * at2 (V m c main_arg1) R (1536 * (t.val / 4 % 3) + (x 1).val) := by
  rw [out_last m c t h, Pipeline.eq_sum_of_reset_step_apply_of_mod (fun n h => (outsAt0 m c n h).2) 4 (fun _ => 0) (term m c)
    (acc_first m c) (acc_next m c) t h x, zero_add]
  refine Eq.trans (Finset.sum_congr rfl fun k hk => ?_) (Finset.sum_range_range_mul_add 4 2048 _)
  have hk := Finset.mem_range.mp hk
  unfold term
  rw [show (4 * (t.val / 4) + k) % 4 = k by omega, show (4 * (t.val / 4) + k) / 12 = t.val / 12 by omega, show (4 * (t.val / 4) + k) / 4 % 3 = t.val / 4 % 3 by omega, Nat.mul_comm 2048 k]

/-- The whole result. -/
theorem out_eq (A : Fin 1024) (B : Fin 4608) :
    G2 m c (ix2 A B) = ∑ R ∈ Finset.range 8192, at2 (V m c main_arg0) R A.val * at2 (V m c main_arg1) R B.val := by
  have hp : pt2Of (ix2 A B) = 4 * (3 * (A.val / 512) + B.val / 1536) + 3 := by
    show 4 * (3 * (A.val / 512 - 0) + 1 * (B.val / 1536 - 0)) + 3 = _
    omega
  have hlt : pt2Of (ix2 A B) < cfg0.N := by rw [hp]; exact lt_of_lt_of_eq (by omega) N_0.symm
  rw [G2, dif_pos hlt, ← Cert.Kernel2Ideal.Value.outsAt0_sweep m c _ hlt, out_sum m c ⟨_, hlt⟩ (by show pt2Of _ % 4 = 3; omega)]
  show ∑ R ∈ Finset.range 8192, at2 (V m c main_arg0) R (512 * (pt2Of (ix2 A B) / 12) + A.val % 512) * at2 (V m c main_arg1) R (1536 * (pt2Of (ix2 A B) / 4 % 3) + B.val % 1536) = _
  rw [hp, show 512 * ((4 * (3 * (A.val / 512) + B.val / 1536) + 3) / 12) + A.val % 512 = A.val by omega,
    show 1536 * ((4 * (3 * (A.val / 512) + B.val / 1536) + 3) / 4 % 3) + B.val % 1536 = B.val by omega]

end Cert.Wgrad

end
-- ==== Proof.Wgrad.Value.lean ====
/- The weight gradient's call: its result is the reference's, the gradient of the product in the weight. -/
module

public import proofs.«01_k».proof.Proof.Wgrad.Sum
public import proofs.«01_k».proof.Proof.Gen.Reference2Ideal.Run
public import proofs.«01_k».proof.Proof.Gen.Reference2Ideal.Read
public import proofs.«01_k».proof.Defs

@[expose] public section

set_option maxRecDepth 16384

noncomputable section

namespace Cert.Wgrad

open Idealize.ShloMosaic Idealize.SL.Sem
open Cert.MlaBwd (at2 at2_ix)

/-- The gradient of `h · w` in `w`, for the gradient `y` of the product. -/
def grad (h : (⟨2, ![8192, 1024]⟩ : Shape).Idx → EReal) (y : (⟨2, ![8192, 4608]⟩ : Shape).Idx → EReal) : (⟨2, ![1024, 4608]⟩ : Shape).Idx → EReal :=
  fun x => ∑ R ∈ Finset.range 8192, at2 h R (x 0).val * at2 y R (x 1).val

section Kernel

open Cert.Kernel2Ideal Cert.Kernel2Ideal.Gen Idealize.ShloMosaic.TcCoe

theorem kernel_grad (m : (ℓ : Loc nD τ sig) → Buf (Elt Ideal) ℓ) (c : Dev nD) :
    Cert.Kernel2Ideal.Value.G2 m c = grad (m ((c : Thread nD τ).loc main_arg0)) (m ((c : Thread nD τ).loc main_arg1)) := by
  rw [← V_main_arg0 m c, ← V_main_arg1 m c]
  funext x
  rw [eq_ix2 x]
  exact out_eq m c (x 0) (x 1)

end Kernel

section Reference

open Cert.Reference2Ideal Cert.Reference2Ideal.Gen Cert.Reference2Ideal.Read

variable (x0 : (⟨S8192x1024, .bf16⟩ : BufTy).Contents (Elt Ideal)) (x1 : (⟨S8192x4608, .bf16⟩ : BufTy).Contents (Elt Ideal))

theorem product (b : Fin 4608) (a : Fin 1024) :
    val_main_v4 (F := Ideal) x0 x1 (ix2 b a) = ∑ R : Fin 8192, x1 (ix2 R b) * x0 (ix2 R a) := by
  pointwise [val_main_v4, val_main_v3, val_main_v1]

theorem turned (a : Fin 1024) (b : Fin 4608) : val_main_v5 (F := Ideal) x0 x1 (ix2 a b) = val_main_v4 (F := Ideal) x0 x1 (ix2 b a) := by
  unfold val_main_v5
  generalize val_main_v4 (F := Ideal) x0 x1 = y
  pointwise []

theorem reference_grad : val_main_v5 (F := Ideal) x0 x1 = grad x0 x1 := by
  funext x
  rw [eq_ix2 x]
  refine (turned x0 x1 (x 0) (x 1)).trans ((product x0 x1 (x 1) (x 0)).trans ?_)
  unfold grad
  rw [Finset.sum_range]
  exact Finset.sum_congr rfl fun R _ => (mul_comm _ _).trans (congrArg₂ (· * ·) (at2_ix (a := 8192) (b := 1024) x0 R (x 0)) (at2_ix (a := 8192) (b := 4608) x1 R (x 1)))

end Reference

theorem algebraic : Cert.algebraic_Kernel2Ideal_Reference2Ideal := by
  intro m g m' g' _ ha
  refine ⟨fun c => grad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run Cert.Kernel2Ideal.defs _ _).mono (fun r h c => ⟨(h c).1.trans (kernel_grad m c), (h c).2⟩) (Cert.Kernel2Ideal.Value.run (F := Ideal) m g), ?_⟩
  refine (θ_run Cert.Reference2Ideal.defs _ _).mono (fun r h c => ?_) (Cert.Reference2Ideal.Value.run (F := Ideal) m' g')
  refine ⟨(h c).1.trans ((Cert.Reference2Ideal.Read.val_main_v5_eq _ _).trans ((reference_grad _ _).trans ?_)), (h c).2⟩
  rw [(ha c).1, (ha c).2]

end Cert.Wgrad

end
-- ==== Proof.NormBwd.Pay.lean ====
/- The norm's backward call: what one grid point computes, of the blocks it reads. -/
module

public import proofs.«01_k».proof.Proof.Gen.Kernel3Ideal.Value
public import proofs.«01_k».proof.Proof.MlaBwd.Nat

@[expose] public section

set_option maxRecDepth 16384

noncomputable section

namespace Cert.NormBwd

open Idealize.ShloMosaic Idealize.ShloMosaic.TcCoe Idealize.SL.Sem Cert.Kernel3Ideal Cert.Kernel3Ideal.Gen

/-- One block's product. -/
theorem part (v0 : Vec Ideal S512x2304 .bf16) (v1 : Vec Ideal S2304x1024 .bf16) (a : Fin 512) (b : Fin 1024) :
    k0_pay1 (F := Ideal) v0 v1 (ix2 a b) = ∑ k : Fin 2304, v0 (ix2 a k) * v1 (ix2 k b) := by
  pointwise [k0_pay1]

theorem first (v0 : Vec Ideal S512x2304 .bf16) (v1 : Vec Ideal S2304x1024 .bf16) (x : Vec Ideal S512x1024 .f32) (a : Fin 512) (b : Fin 1024) :
    k0_pay3 (F := Ideal) v0 v1 x (ix2 a b) = k0_pay1 (F := Ideal) v0 v1 (ix2 a b) + x (ix2 a b) := by
  unfold k0_pay3
  generalize k0_pay1 (F := Ideal) v0 v1 = y
  pointwise []

theorem next (v0 : Vec Ideal S512x2304 .bf16) (v1 : Vec Ideal S2304x1024 .bf16) (x : Vec Ideal S512x1024 .f32) (a : Fin 512) (b : Fin 1024) :
    k0_pay4 (F := Ideal) v0 v1 x (ix2 a b) = x (ix2 a b) + k0_pay1 (F := Ideal) v0 v1 (ix2 a b) := by
  unfold k0_pay4
  generalize k0_pay1 (F := Ideal) v0 v1 = y
  pointwise []

theorem zero (b : Fin 1024) : k0_pay2 (F := Ideal) (ix2 0 b) = 0 := by
  pointwise [k0_pay2]

/-- A sum along each row, and one down each column. -/
theorem row_sum (y : FVec Ideal S512x1024 .f32) (a : Fin 512) :
    multiReduction (F := Ideal) .add [1] S512 y 0x00000000#32 reduces_S512x1024_S512 (.inl rfl) rfl (ix1 a) = ∑ j : Fin 1024, y (ix2 a j) := by
  pointwise []

theorem column_sum (y : FVec Ideal S512x1024 .f32) (b : Fin 1024) :
    multiReduction (F := Ideal) .add [0] S1024 y 0x00000000#32 reduces_S512x1024_S1024 (.inl rfl) rfl (ix1 b) = ∑ a : Fin 512, y (ix2 a b) := by
  pointwise []

/-- The row's scale: one over the root of the mean of its squares. -/
theorem scale (x : Vec Ideal S512x1024 .f32) (a : Fin 512) :
    k0_pay5 (F := Ideal) x (ix2 a 0)
      = Ideal.rsqrt (Ideal.div (∑ j : Fin 1024, x (ix2 a j) * x (ix2 a j)) (FloatOps.ofBits (F := Ideal) .f32 0x44800000#32) + FloatOps.ofBits (F := Ideal) .f32 0x358637BD#32) := by
  have e := row_sum (mulf x x) a
  unfold k0_pay5
  generalize multiReduction (F := Ideal) .add [1] S512 (mulf x x) 0x00000000#32 reduces_S512x1024_S512 (.inl rfl) rfl = y at e ⊢
  have e' : y (ix1 a) = ∑ j : Fin 1024, x (ix2 a j) * x (ix2 a j) := e
  rw [← e']
  pointwise []

/-- The input's gradient, of the product's accumulated gradient `y`, the input `x`, the gain `g` and the gradient `d` that goes around. -/
theorem input_grad (y x : Vec Ideal S512x1024 .f32) (g : Vec Ideal S1x1024 .f32) (d : Vec Ideal S512x1024 .f32) (a : Fin 512) (b : Fin 1024) :
    k0_pay6 (F := Ideal) y x g d (ix2 a b)
      = d (ix2 a b) + k0_pay5 (F := Ideal) x (ix2 a 0) * (y (ix2 a b) * g (ix2 0 b))
        - x (ix2 a b) * (k0_pay5 (F := Ideal) x (ix2 a 0) * k0_pay5 (F := Ideal) x (ix2 a 0) * k0_pay5 (F := Ideal) x (ix2 a 0))
          * Ideal.div (∑ j : Fin 1024, y (ix2 a j) * g (ix2 0 j) * x (ix2 a j)) (FloatOps.ofBits (F := Ideal) .f32 0x44800000#32) := by
  have eg : ∀ (a : Fin 512) (b : Fin 1024), broadcastTo S512x1024 (shapeCast S1x1024 g shapeCasts_S1x1024_S1x1024) broadcasts_S1x1024_S512x1024 (ix2 a b) = g (ix2 0 b) := by
    intro a b; pointwise []
  unfold k0_pay6
  generalize k0_pay5 (F := Ideal) x = r
  generalize broadcastTo S512x1024 (shapeCast S1x1024 g shapeCasts_S1x1024_S1x1024) broadcasts_S1x1024_S512x1024 = G at eg ⊢
  have e := row_sum (mulf (mulf y G) x) a
  generalize multiReduction (F := Ideal) .add [1] S512 (mulf (mulf y G) x) 0x00000000#32 reduces_S512x1024_S512 (.inl rfl) rfl = z at e ⊢
  have e' : z (ix1 a) = ∑ j : Fin 1024, y (ix2 a j) * G (ix2 a j) * x (ix2 a j) := e
  simp only [eg] at e'
  rw [← e', ← eg a b]
  pointwise []

/-- The gain's gradient so far and the block's own rows. -/
theorem gain_grad (y x : Vec Ideal S512x1024 .f32) (g : Vec Ideal S1x1024 .f32) (b : Fin 1024) :
    k0_pay7 (F := Ideal) y x g (ix2 0 b) = g (ix2 0 b) + ∑ a : Fin 512, y (ix2 a b) * x (ix2 a b) * k0_pay5 (F := Ideal) x (ix2 a 0) := by
  unfold k0_pay7
  generalize k0_pay5 (F := Ideal) x = r
  have er : ∀ (a : Fin 512) (b : Fin 1024), broadcastTo S512x1024 r broadcasts_S512x1_S512x1024 (ix2 a b) = r (ix2 a 0) := by
    intro a b; pointwise []
  generalize broadcastTo S512x1024 r broadcasts_S512x1_S512x1024 = G at er ⊢
  have e := column_sum (mulf (mulf y x) G) b
  generalize multiReduction (F := Ideal) .add [0] S1024 (mulf (mulf y x) G) 0x00000000#32 reduces_S512x1024_S1024 (.inl rfl) rfl = z at e ⊢
  have e' : z (ix1 b) = ∑ a : Fin 512, y (ix2 a b) * x (ix2 a b) * G (ix2 a b) := e
  simp only [er] at e'
  rw [← e']
  pointwise []

end Cert.NormBwd

end
-- ==== Proof.NormBwd.Scale.lean ====
/- The norm's gradient over the extended reals: the two ways of writing it agree, whatever the operands. -/
module

public import Idealize.ShloMosaic.PureOps.Ideal
public import Idealize.ShloMosaic.Lib.IdealHost

@[expose] public section

noncomputable section

namespace Cert.NormBwd

open Idealize.ShloMosaic

theorem n_f32 : Ideal.ofBits .f32 0x44800000#32 = ((1024 : ℝ) : EReal) := by
  simp [Ideal.ofBits, Ideal.ieee, -EReal.coe_mul]; norm_num

theorem half_f32 : Ideal.ofBits .f32 0xBF000000#32 = ((-(1 / 2) : ℝ) : EReal) := by
  simp [Ideal.ofBits, Ideal.ieee, -EReal.coe_mul]; norm_num

theorem eps_f32 : ∃ e : ℝ, Ideal.ofBits .f32 0x358637BD#32 = (e : EReal) ∧ 0 < e := by
  refine ⟨8796093 / 8796093022208, ?_, by norm_num⟩
  simp [Ideal.ofBits, Ideal.ieee, -EReal.coe_mul]; norm_num

/-- Division by the width is multiplication by its reciprocal. -/
theorem div_n (y : EReal) : Ideal.div y ((1024 : ℝ) : EReal) = y * ((1 / 1024 : ℝ) : EReal) := by
  have h : ((1024 : ℝ) : EReal) ≠ 0 := by norm_num
  unfold Ideal.div
  rw [if_neg h, ← EReal.coe_inv, one_div]

theorem sq_nonneg (x : EReal) : 0 ≤ x * x := by
  induction x with
  | bot => simp
  | top => simp
  | coe x => rw [← EReal.coe_mul]; exact EReal.coe_nonneg.mpr (mul_self_nonneg x)

/-- The mean of a row's squares and the constant is positive. -/
theorem mean_pos {ι : Type*} (s : Finset ι) (x : ι → EReal) :
    0 < Ideal.div (∑ j ∈ s, x j * x j) (Ideal.ofBits .f32 0x44800000#32) + Ideal.ofBits .f32 0x358637BD#32 := by
  obtain ⟨e, he, hp⟩ := eps_f32
  rw [n_f32, div_n, he]
  have h0 : 0 ≤ (∑ j ∈ s, x j * x j) * ((1 / 1024 : ℝ) : EReal) :=
    EReal.mul_nonneg (Finset.sum_nonneg fun j _ => sq_nonneg (x j)) (EReal.coe_nonneg.mpr (by norm_num))
  have h1 : (0 : EReal) < (e : EReal) := EReal.coe_pos.mpr hp
  exact lt_of_lt_of_le h1 (le_add_of_nonneg_left h0)

/-- A negated multiple is twice the negated half. -/
theorem neg_halves (z : EReal) {c : ℝ} (hc : 0 ≤ c) : -(z * (c : EReal)) = z * ((-(c / 2) : ℝ) : EReal) + z * ((-(c / 2) : ℝ) : EReal) := by
  rcases hc.eq_or_lt with rfl | hc
  · simp
  have h : -(c / 2) < 0 := by linarith
  induction z with
  | bot => rw [EReal.bot_mul_coe_of_pos hc, EReal.bot_mul_coe_of_neg h]; rfl
  | top => rw [EReal.top_mul_coe_of_pos hc, EReal.top_mul_coe_of_neg h]; rfl
  | coe z => rw [← EReal.coe_mul, ← EReal.coe_mul, ← EReal.coe_neg, ← EReal.coe_add]; congr 1; ring

/-- The scale's cube and its quotient by the mean are one real number. -/
theorem scale_cube {v : EReal} (hv : 0 < v) : ∃ c : ℝ, 0 ≤ c ∧ Ideal.rsqrt v * Ideal.rsqrt v * Ideal.rsqrt v = (c : EReal) ∧ Ideal.div (Ideal.rsqrt v) v = (c : EReal) := by
  induction v with
  | bot => exact absurd hv (by simp)
  | top =>
    refine ⟨0, le_rfl, ?_, ?_⟩
    · show (0 : EReal) * 0 * 0 = _
      simp
    · show Ideal.div (0 : EReal) ⊤ = _
      simp [Ideal.div]
  | coe v =>
    have hv : 0 < v := EReal.coe_pos.mp hv
    have hr : Ideal.rsqrt (v : EReal) = (((Real.sqrt v)⁻¹ : ℝ) : EReal) := by
      show (if v < 0 then ⊥ else if v = 0 then ⊤ else (((Real.sqrt v)⁻¹ : ℝ) : EReal)) = _
      rw [if_neg hv.le.not_gt, if_neg hv.ne']
    refine ⟨(Real.sqrt v)⁻¹ * (Real.sqrt v)⁻¹ * (Real.sqrt v)⁻¹, by positivity, ?_, ?_⟩
    · rw [hr, ← EReal.coe_mul, ← EReal.coe_mul]
    · have hne : ((v : ℝ) : EReal) ≠ 0 := EReal.coe_ne_zero.mpr hv.ne'
      rw [hr]
      unfold Ideal.div
      rw [if_neg hne, ← EReal.coe_inv, ← EReal.coe_mul]
      have hs : (Real.sqrt v)⁻¹ * (Real.sqrt v)⁻¹ = v⁻¹ := by rw [← mul_inv, Real.mul_self_sqrt hv.le]
      rw [hs, mul_comm]

/-- The input's gradient, as the call writes it and as the reference does. -/
theorem grad_eq {v : EReal} (hv : 0 < v) (A x s : EReal) :
    A - x * (Ideal.rsqrt v * Ideal.rsqrt v * Ideal.rsqrt v) * Ideal.div s (Ideal.ofBits .f32 0x44800000#32)
      = A + x * Ideal.div (s * (Ideal.ofBits .f32 0xBF000000#32 * Ideal.div (Ideal.rsqrt v) v)) (Ideal.ofBits .f32 0x44800000#32)
        + Ideal.div (s * (Ideal.ofBits .f32 0xBF000000#32 * Ideal.div (Ideal.rsqrt v) v)) (Ideal.ofBits .f32 0x44800000#32) * x := by
  obtain ⟨c, hc, e1, e2⟩ := scale_cube hv
  rw [e1, e2, n_f32, half_f32, div_n, div_n, sub_eq_add_neg, add_assoc]
  congr 1
  have h : x * ↑c * (s * ((1 / 1024 : ℝ) : EReal)) = x * s * ((c / 1024 : ℝ) : EReal) := by
    rw [show ((c / 1024 : ℝ) : EReal) = (c : EReal) * ((1 / 1024 : ℝ) : EReal) by rw [← EReal.coe_mul]; congr 1; ring]
    ac_rfl
  have h' : x * (s * (((-(1 / 2) : ℝ) : EReal) * (c : EReal)) * ((1 / 1024 : ℝ) : EReal)) = x * s * ((-(c / 1024 / 2) : ℝ) : EReal) := by
    rw [show ((-(c / 1024 / 2) : ℝ) : EReal) = ((-(1 / 2) : ℝ) : EReal) * (c : EReal) * ((1 / 1024 : ℝ) : EReal) by rw [← EReal.coe_mul, ← EReal.coe_mul]; congr 1; ring]
    ac_rfl
  rw [h, neg_halves (x * s) (by positivity), mul_comm _ x, h']

end Cert.NormBwd

end
-- ==== Proof.NormBwd.Spec.lean ====
/- What the norm's backward call computes: the gradients of a normed input and of its gain, of the gradient of the
   normed input's product with a weight. Matrices are read at natural numbers. -/
module

public import proofs.«01_k».proof.Proof.NormBwd.Scale
public import proofs.«01_k».proof.Proof.MlaBwd.Nat

@[expose] public section

noncomputable section

namespace Cert.NormBwd

open Idealize.ShloMosaic
open Cert.MlaBwd (at2)

variable (dp : (⟨2, ![8192, 4608]⟩ : Shape).Idx → EReal) (w : (⟨2, ![4608, 1024]⟩ : Shape).Idx → EReal)
  (dh x d : (⟨2, ![8192, 1024]⟩ : Shape).Idx → EReal) (g : (⟨1, ![1024]⟩ : Shape).Idx → EReal)

/-- The gradient of the normed input: what another branch gives and what the product does. -/
def upstream (R j : ℕ) : EReal := at2 dh R j + ∑ k ∈ Finset.range 4608, at2 dp R k * at2 w k j

/-- The mean of a row's squares and the constant. -/
def mean (R : ℕ) : EReal :=
  Ideal.div (∑ j : Fin 1024, at2 x R j.val * at2 x R j.val) (Ideal.ofBits .f32 0x44800000#32) + Ideal.ofBits .f32 0x358637BD#32

theorem mean_positive (R : ℕ) : 0 < mean x R := mean_pos Finset.univ fun j : Fin 1024 => at2 x R j.val

/-- The row's product with its normed gradient. -/
def along (R : ℕ) : EReal := ∑ j : Fin 1024, upstream dp w dh R j.val * g (ix1 j) * at2 x R j.val

/-- The input's gradient. -/
def inputGrad (R : ℕ) (b : Fin 1024) : EReal :=
  at2 d R b.val + Ideal.rsqrt (mean x R) * (upstream dp w dh R b.val * g (ix1 b))
    - at2 x R b.val * (Ideal.rsqrt (mean x R) * Ideal.rsqrt (mean x R) * Ideal.rsqrt (mean x R)) * Ideal.div (along dp w dh x g R) (Ideal.ofBits .f32 0x44800000#32)

/-- The gain's gradient. -/
def gainGrad (b : Fin 1024) : EReal := ∑ R ∈ Finset.range 8192, upstream dp w dh R b.val * at2 x R b.val * Ideal.rsqrt (mean x R)

end Cert.NormBwd

end
-- ==== Proof.NormBwd.Point.lean ====
/- The norm's backward call: what the grid's points leave, of the blocks they read. Point `t` is of row block `t / 2` and of
   the product's half `t % 2`. -/
module

public import proofs.«01_k».proof.Proof.NormBwd.Pay
public import proofs.«01_k».proof.Proof.NormBwd.Spec

@[expose] public section

set_option maxRecDepth 16384

noncomputable section

namespace Cert.NormBwd

open Idealize.ShloMosaic Idealize.ShloMosaic.TcCoe Idealize.SL.Sem Cert.Kernel3Ideal Cert.Kernel3Ideal.Gen
open Idealize.ShloMosaic.Pipeline (Dat)
open Cert.MlaBwd (at2 at2_ix)

/-- The windows' index maps, of all points at once. -/
theorem index_in : ∀ t : Fin cfg0.N, win0_0.index t = ![t.val / 2, t.val % 2] ∧ win0_1.index t = ![t.val % 2, 0] ∧ win0_2.index t = ![t.val / 2, 0]
    ∧ win0_3.index t = ![t.val / 2, 0] ∧ win0_4.index t = ![0, 0] ∧ win0_5.index t = ![t.val / 2, 0] :=
  (by decide +kernel : ∀ t : Fin grid0.N, _)

variable (m : (ℓ : Loc nD τ sig) → Buf (Elt Ideal) ℓ) (c : Dev nD)

theorem lt_N (t : Fin cfg0.N) : t.val < 32 := lt_of_lt_of_eq t.isLt N_0

theorem block_dp (t : Fin cfg0.N) (a : Fin 512) (k : Fin 2304) :
    iblk m c 0 t (ix2 a k) = at2 (V m c main_arg0) (512 * (t.val / 2) + a.val) (2304 * (t.val % 2) + k.val) := by
  have ht := lt_N t
  rw [at2, dif_pos ⟨by omega, by omega⟩]
  generalize hV : V m c = W
  unfold iblk
  rw [hV]
  blk_point [index_in t]

theorem block_w (t : Fin cfg0.N) (k : Fin 2304) (b : Fin 1024) :
    iblk m c 1 t (ix2 k b) = at2 (V m c main_arg1) (2304 * (t.val % 2) + k.val) b.val := by
  have ht := lt_N t
  rw [at2, dif_pos ⟨by omega, by omega⟩]
  generalize hV : V m c = W
  unfold iblk
  rw [hV]
  blk_point [index_in t]

theorem block_dh (t : Fin cfg0.N) (a : Fin 512) (b : Fin 1024) :
    iblk m c 2 t (ix2 a b) = at2 (V m c main_arg2) (512 * (t.val / 2) + a.val) b.val := by
  have ht := lt_N t
  rw [at2, dif_pos ⟨by omega, by omega⟩]
  generalize hV : V m c = W
  unfold iblk
  rw [hV]
  blk_point [index_in t]

theorem block_x (t : Fin cfg0.N) (a : Fin 512) (b : Fin 1024) :
    iblk m c 3 t (ix2 a b) = at2 (V m c main_arg3) (512 * (t.val / 2) + a.val) b.val := by
  have ht := lt_N t
  rw [at2, dif_pos ⟨by omega, by omega⟩]
  generalize hV : V m c = W
  unfold iblk
  rw [hV]
  blk_point [index_in t]

theorem block_d (t : Fin cfg0.N) (a : Fin 512) (b : Fin 1024) :
    iblk m c 5 t (ix2 a b) = at2 (V m c main_arg5) (512 * (t.val / 2) + a.val) b.val := by
  have ht := lt_N t
  rw [at2, dif_pos ⟨by omega, by omega⟩]
  generalize hV : V m c = W
  unfold iblk
  rw [hV]
  blk_point [index_in t]

/-- The gain as the call takes it, a row. -/
theorem gain_row : V m c main_v0 = broadcastInDim S1x1024 ![1] bcast_S1024_S1x1024_1 (m ((c : Thread nD τ).loc main_arg4)) := rfl

theorem gain_at (x : (⟨S1024, .f32⟩ : BufTy).Contents (Elt Ideal)) (b : Fin 1024) :
    broadcastInDim S1x1024 ![1] bcast_S1024_S1x1024_1 x (ix2 0 b) = x (ix1 b) := by
  pointwise []

theorem block_g (t : Fin cfg0.N) (b : Fin 1024) : iblk m c 4 t (ix2 0 b) = m ((c : Thread nD τ).loc main_arg4) (ix1 b) := by
  have ht := lt_N t
  refine Eq.trans (b := V m c main_v0 (ix2 0 b)) ?_ ((congrFun (gain_row m c) _).trans (gain_at _ b))
  generalize hV : V m c = W
  unfold iblk
  rw [hV]
  blk_point [index_in t]

/-- The first half: the other branch's gradient and the half's product. -/
theorem acc_even (t : Fin cfg0.N) (h : t.val % 2 = 0) :
    (outsAt0 m c t.val t.isLt).2.2 = k0_pay3 (F := Ideal) (iblk m c 0 t) (iblk m c 1 t) (iblk m c 2 t) := by
  by_cases h0 : t.val % 32 = 0
  · rw [outsAt0_A m c t h0 h (by omega) (by omega)]
    frame_out
  · rw [outsAt0_C m c t h0 h (by omega) (by omega)]
    frame_out

theorem dg_zero (t : Fin cfg0.N) (h : t.val % 32 = 0) : (outsAt0 m c t.val t.isLt).2.1 = k0_pay2 (F := Ideal) := by
  rw [outsAt0_A m c t h (by omega) (by omega) (by omega)]
  frame_out

theorem dg_even (t : Fin cfg0.N) (h : t.val % 2 = 0) (h0 : ¬t.val % 32 = 0) :
    (outsAt0 m c t.val t.isLt).2.1 = (outsAt0 m c (t.val - 1) (Nat.lt_of_le_of_lt (Nat.sub_le _ _) t.isLt)).2.1 := by
  rw [outsAt0_C m c t h0 h (by omega) (by omega)]
  unfold out0_C_7
  rfl

/-- The accumulated gradient after the second half. -/
def acc (t : Fin cfg0.N) : Vec Ideal S512x1024 .f32 :=
  k0_pay4 (F := Ideal) (iblk m c 0 t) (iblk m c 1 t) (outsAt0 m c (t.val - 1) (Nat.lt_of_le_of_lt (Nat.sub_le _ _) t.isLt)).2.2

theorem dx_odd (t : Fin cfg0.N) (h : t.val % 2 = 1) :
    (outsAt0 m c t.val t.isLt).1 = k0_pay6 (F := Ideal) (acc m c t) (iblk m c 3 t) (iblk m c 4 t) (iblk m c 5 t) := by
  rw [outsAt0_B m c t (by omega) (by omega) h h]
  unfold acc
  frame_out
  exact congrArg (fun z => k0_pay6 (F := Ideal) (k0_pay4 (F := Ideal) _ _ z) _ _ _) ((Memref.isWhole_whole cc0_scratch0).read_unread _)

theorem dg_odd (t : Fin cfg0.N) (h : t.val % 2 = 1) :
    (outsAt0 m c t.val t.isLt).2.1 = k0_pay7 (F := Ideal) (acc m c t) (iblk m c 3 t) (outsAt0 m c (t.val - 1) (Nat.lt_of_le_of_lt (Nat.sub_le _ _) t.isLt)).2.1 := by
  rw [outsAt0_B m c t (by omega) (by omega) h h]
  unfold acc
  frame_out
  exact congrArg (fun z => k0_pay7 (F := Ideal) (k0_pay4 (F := Ideal) _ _ z) _ _) ((Memref.isWhole_whole cc0_scratch0).read_unread _)

end Cert.NormBwd

end
-- ==== Proof.NormBwd.Sum.lean ====
/- The norm's backward call: its results are the gradients of `Spec`. -/
module

public import proofs.«01_k».proof.Proof.NormBwd.Point

@[expose] public section

set_option maxRecDepth 16384

noncomputable section

namespace Cert.NormBwd

open Idealize.ShloMosaic Idealize.ShloMosaic.TcCoe Idealize.SL.Sem Cert.Kernel3Ideal Cert.Kernel3Ideal.Gen
open Cert.Kernel3Ideal.Value (G6 G7 pt6Of)
open Cert.MlaBwd (at2 at2_ix)

variable (m : (ℓ : Loc nD τ sig) → Buf (Elt Ideal) ℓ) (c : Dev nD)

theorem sum_two (f : ℕ → EReal) : ∑ s ∈ Finset.range 2, f s = f 0 + f 1 := by
  rw [Finset.sum_range_succ, Finset.sum_range_one]

/-- `Spec`'s gradients of the call's arguments. -/
abbrev up (R j : ℕ) : EReal := upstream (V m c main_arg0) (V m c main_arg1) (V m c main_arg2) R j

abbrev dx (R : ℕ) (b : Fin 1024) : EReal :=
  inputGrad (V m c main_arg0) (V m c main_arg1) (V m c main_arg2) (V m c main_arg3) (V m c main_arg5) (m ((c : Thread nD τ).loc main_arg4)) R b

/-- One half's product. -/
theorem half (t : Fin cfg0.N) (a : Fin 512) (b : Fin 1024) :
    k0_pay1 (F := Ideal) (iblk m c 0 t) (iblk m c 1 t) (ix2 a b)
      = ∑ k ∈ Finset.range 2304, at2 (V m c main_arg0) (512 * (t.val / 2) + a.val) (2304 * (t.val % 2) + k) * at2 (V m c main_arg1) (2304 * (t.val % 2) + k) b.val := by
  rw [part, Finset.sum_range]
  exact Finset.sum_congr rfl fun k _ => congrArg₂ (· * ·) (block_dp m c t a k) (block_w m c t k b)

theorem acc_before (t : Fin cfg0.N) (h : t.val % 2 = 0) (a : Fin 512) (b : Fin 1024) :
    (outsAt0 m c t.val t.isLt).2.2 (ix2 a b)
      = (∑ k ∈ Finset.range 2304, at2 (V m c main_arg0) (512 * (t.val / 2) + a.val) (2304 * 0 + k) * at2 (V m c main_arg1) (2304 * 0 + k) b.val)
        + at2 (V m c main_arg2) (512 * (t.val / 2) + a.val) b.val := by
  rw [acc_even m c t h]
  have e := half m c t a b
  rw [h] at e
  exact (first _ _ _ _ _).trans (congrArg₂ (· + ·) e (block_dh m c t a b))

/-- The accumulated gradient is the normed input's. -/
theorem acc_eq (t : Fin cfg0.N) (h : t.val % 2 = 1) (a : Fin 512) (b : Fin 1024) :
    acc m c t (ix2 a b) = up m c (512 * (t.val / 2) + a.val) b.val := by
  have hlt : t.val - 1 < cfg0.N := Nat.lt_of_le_of_lt (Nat.sub_le _ _) t.isLt
  have e0 := acc_before m c ⟨t.val - 1, hlt⟩ (by show (t.val - 1) % 2 = 0; omega) a b
  have e1 := half m c t a b
  rw [h] at e1
  have hd : (t.val - 1) / 2 = t.val / 2 := by omega
  have e0' : (outsAt0 m c (t.val - 1) hlt).2.2 (ix2 a b) = _ := e0
  unfold acc
  refine (next _ _ _ _ _).trans ((congrArg₂ (· + ·) e0' e1).trans ?_)
  show _ + at2 (V m c main_arg2) (512 * ((t.val - 1) / 2) + a.val) b.val + _ = _
  unfold up upstream
  rw [hd, ← Finset.sum_range_range_mul_add 2 2304, sum_two, Nat.mul_comm 0 2304, Nat.mul_comm 1 2304]
  exact (congrArg (· + _) (add_comm _ _)).trans (add_assoc _ _ _)

theorem scale_eq (t : Fin cfg0.N) (a : Fin 512) :
    k0_pay5 (F := Ideal) (iblk m c 3 t) (ix2 a 0) = Ideal.rsqrt (mean (V m c main_arg3) (512 * (t.val / 2) + a.val)) := by
  refine (scale _ a).trans ?_
  unfold mean
  have e : ∀ j : Fin 1024, iblk m c 3 t (ix2 a j) = at2 (V m c main_arg3) (512 * (t.val / 2) + a.val) j.val := fun j => block_x m c t a j
  exact congrArg (fun s => Ideal.rsqrt (Ideal.div s (Ideal.ofBits .f32 0x44800000#32) + Ideal.ofBits .f32 0x358637BD#32))
    (Finset.sum_congr rfl fun j _ => congrArg₂ (· * ·) (e j) (e j))

/-- A row block of the input's gradient. -/
theorem dx_block (t : Fin cfg0.N) (h : t.val % 2 = 1) (a : Fin 512) (b : Fin 1024) :
    (outsAt0 m c t.val t.isLt).1 (ix2 a b) = dx m c (512 * (t.val / 2) + a.val) b := by
  rw [dx_odd m c t h]
  refine (input_grad _ _ _ _ a b).trans ?_
  rw [scale_eq m c t a, acc_eq m c t h a b, block_g m c t b, block_d m c t a b, block_x m c t a b]
  unfold dx inputGrad along
  refine congrArg (fun s => _ - _ * Ideal.div s _) (Finset.sum_congr rfl fun j _ => ?_)
  exact congrArg₂ (· * ·) (congrArg₂ (· * ·) (acc_eq m c t h a j) (block_g m c t j)) (block_x m c t a j)

/-- What point `n` adds to the gain's gradient. -/
def term (n : ℕ) (y : S1x1024.Idx) : EReal :=
  if n % 2 = 1 then
    ∑ a ∈ Finset.range 512, up m c (512 * (n / 2) + a) (y 1).val * at2 (V m c main_arg3) (512 * (n / 2) + a) (y 1).val * Ideal.rsqrt (mean (V m c main_arg3) (512 * (n / 2) + a))
  else 0

theorem eq_row {b : ℕ} (x : (⟨2, ![1, b]⟩ : Shape).Idx) : x = ix2 0 (x 1) := by
  funext d
  match d with
  | ⟨0, _⟩ => exact Subsingleton.elim (α := Fin 1) _ _
  | ⟨1, _⟩ => rfl

theorem dg_first (t : Fin cfg0.N) (h : t.val % 32 = 0) (y : S1x1024.Idx) :
    (outsAt0 m c t.val t.isLt).2.1 y = 0 + term m c t.val y := by
  rw [dg_zero m c t h, term, if_neg (by omega), eq_row y, zero_add]
  exact zero (y 1)

theorem dg_next (t : Fin cfg0.N) (h : ¬t.val % 32 = 0) (y : S1x1024.Idx) :
    (outsAt0 m c t.val t.isLt).2.1 y = (outsAt0 m c (t.val - 1) (Nat.lt_of_le_of_lt (Nat.sub_le _ _) t.isLt)).2.1 y + term m c t.val y := by
  by_cases h1 : t.val % 2 = 1
  · rw [dg_odd m c t h1, term, if_pos h1, eq_row y]
    refine (gain_grad _ _ _ (y 1)).trans (congrArg (_ + ·) ?_)
    rw [Finset.sum_range]
    exact Finset.sum_congr rfl fun a _ => congrArg₂ (· * ·) (congrArg₂ (· * ·) (acc_eq m c t h1 a (y 1)) (block_x m c t a (y 1))) (scale_eq m c t a)
  · rw [dg_even m c t (by omega) h, term, if_neg h1, add_zero]

/-- The gain's gradient after the last point. -/
theorem dg_last (t : Fin cfg0.N) (h : t.val % 32 = 31) (y : S1x1024.Idx) :
    (outsAt0 m c t.val t.isLt).2.1 y = ∑ R ∈ Finset.range 8192, up m c R (y 1).val * at2 (V m c main_arg3) R (y 1).val * Ideal.rsqrt (mean (V m c main_arg3) R) := by
  have ht := lt_N t
  rw [Pipeline.eq_sum_of_reset_step_apply_of_mod (fun n h => (outsAt0 m c n h).2.1) 32 (fun _ => 0) (term m c)
    (dg_first m c) (dg_next m c) t h y, zero_add]
  refine Eq.trans ?_ ((Finset.sum_range_range_mul_add 16 2 (fun n => term m c n y)).symm.trans (Eq.trans ?_ (Finset.sum_range_range_mul_add 16 512 _)))
  · refine Finset.sum_congr rfl fun k hk => ?_
    rw [show 32 * (t.val / 32) + k = k by omega]
  · refine Finset.sum_congr rfl fun i hi => ?_
    rw [sum_two]
    unfold term
    rw [if_neg (by omega), if_pos (by omega), zero_add, show (i * 2 + 1) / 2 = i by omega, Nat.mul_comm 512 i]

/-- The whole results. -/
theorem dx_eq (R : Fin 8192) (b : Fin 1024) : G6 m c (ix2 R b) = dx m c R.val b := by
  have hp : pt6Of (ix2 R b) = 2 * (R.val / 512) + 1 := by
    show 2 * (1 * (R.val / 512 - 0) + 1 * (b.val / 1024 - 0)) + 1 = _
    omega
  have hlt : pt6Of (ix2 R b) < cfg0.N := by rw [hp]; exact lt_of_lt_of_eq (by omega) N_0.symm
  rw [G6, dif_pos hlt, ← Cert.Kernel3Ideal.Value.outsAt0_sweep m c _ hlt]
  have e : Cert.Kernel3Ideal.Value.loc6Of (ix2 R b) = ix2 ⟨R.val % 512, Nat.mod_lt _ (by decide)⟩ b := by
    funext d
    match d with
    | ⟨0, _⟩ => rfl
    | ⟨1, _⟩ => exact Fin.ext (Nat.mod_eq_of_lt b.isLt)
  rw [e]
  refine (dx_block m c ⟨_, hlt⟩ (by show pt6Of _ % 2 = 1; omega) _ b).trans ?_
  show dx m c (512 * (pt6Of (ix2 R b) / 2) + R.val % 512) b = _
  rw [hp, show 512 * ((2 * (R.val / 512) + 1) / 2) + R.val % 512 = R.val by omega]

theorem dg_eq (b : Fin 1024) :
    G7 m c (ix2 0 b) = gainGrad (V m c main_arg0) (V m c main_arg1) (V m c main_arg2) (V m c main_arg3) b := by
  have hlt : 31 < cfg0.N := lt_of_lt_of_eq (by decide) N_0.symm
  rw [Cert.Kernel3Ideal.Value.G7_last, ← Cert.Kernel3Ideal.Value.outsAt0_sweep m c 31 hlt]
  exact dg_last m c ⟨31, hlt⟩ rfl (ix2 0 b)

end Cert.NormBwd

end
-- ==== Proof.NormBwd.Ref.lean ====
/- The reference's gradients, read off its stages. -/
module

public import proofs.«01_k».proof.Proof.NormBwd.Spec
public import proofs.«01_k».proof.Proof.Gen.Reference3Ideal.Read

@[expose] public section

set_option maxRecDepth 16384

noncomputable section

namespace Cert.NormBwd.Ref

open Idealize.ShloMosaic Cert.Reference3Ideal Cert.Reference3Ideal.Gen Cert.Reference3Ideal.Read
open Cert.MlaBwd (at2 at2_ix)

variable (x0 : (⟨S8192x4608, .bf16⟩ : BufTy).Contents (Elt Ideal)) (x1 : (⟨S4608x1024, .bf16⟩ : BufTy).Contents (Elt Ideal))
  (x2 x3 x5 : (⟨S8192x1024, .f32⟩ : BufTy).Contents (Elt Ideal)) (x4 : (⟨S1024, .f32⟩ : BufTy).Contents (Elt Ideal))

theorem product (R : Fin 8192) (j : Fin 1024) : val_main_v20 (F := Ideal) x0 x1 (ix2 R j) = ∑ k : Fin 4608, x0 (ix2 R k) * x1 (ix2 k j) := by
  pointwise [val_main_v20, val_main_v19, val_main_v1, val_main_v0]

theorem normed_grad (R : Fin 8192) (j : Fin 1024) : val_main_v21 (F := Ideal) x0 x1 x2 (ix2 R j) = upstream x0 x1 x2 R.val j.val := by
  unfold val_main_v21 upstream
  have e := product x0 x1 R j
  generalize val_main_v20 (F := Ideal) x0 x1 = y at e ⊢
  have e' : y (ix2 R j) = ∑ k ∈ Finset.range 4608, at2 x0 R.val k * at2 x1 k j.val := by
    rw [e, Finset.sum_range]
    exact Finset.sum_congr rfl fun k _ => congrArg₂ (· * ·) (at2_ix (a := 8192) (b := 4608) x0 R k) (at2_ix (a := 4608) (b := 1024) x1 k j)
  rw [← e']
  refine Eq.trans ?_ (congrArg (· + _) (at2_ix (a := 8192) (b := 1024) x2 R j))
  pointwise []

theorem squares (R : Fin 8192) : val_main_v3 (F := Ideal) x3 (ix1 R) = ∑ j : Fin 1024, x3 (ix2 R j) * x3 (ix2 R j) := by
  pointwise [val_main_v3, val_main_v2, val_main_cst]

theorem mean_read (R : Fin 8192) : val_main_v8 (F := Ideal) x3 (ix2 R 0) = mean x3 R.val := by
  have e := squares x3 R
  unfold val_main_v8 val_main_v6 val_main_v4 mean
  generalize val_main_v3 (F := Ideal) x3 = y at e ⊢
  have e' : y (ix1 R) = ∑ j : Fin 1024, at2 x3 R.val j.val * at2 x3 R.val j.val := by
    rw [e]
    exact Finset.sum_congr rfl fun j _ => congrArg₂ (· * ·) (at2_ix (a := 8192) (b := 1024) x3 R j) (at2_ix (a := 8192) (b := 1024) x3 R j)
  rw [← e']
  pointwise [val_main_v5, val_main_v7, val_main_cst_0, val_main_cst_1]

theorem scale_read (R : Fin 8192) : val_main_v9 (F := Ideal) x3 (ix2 R 0) = Ideal.rsqrt (mean x3 R.val) := by
  rw [← mean_read x3 R]
  unfold val_main_v9
  generalize val_main_v8 (F := Ideal) x3 = y
  pointwise []

theorem slope_read (R : Fin 8192) :
    val_main_v12 (F := Ideal) x3 (ix2 R 0) = Ideal.ofBits .f32 0xBF000000#32 * Ideal.div (Ideal.rsqrt (mean x3 R.val)) (mean x3 R.val) := by
  rw [← scale_read x3 R, ← mean_read x3 R]
  unfold val_main_v12 val_main_v10
  generalize val_main_v9 (F := Ideal) x3 = y
  generalize val_main_v8 (F := Ideal) x3 = z
  pointwise [val_main_v11, val_main_cst_2]

theorem scaled (R : Fin 8192) (j : Fin 1024) : val_main_v14 (F := Ideal) x3 (ix2 R j) = at2 x3 R.val j.val * Ideal.rsqrt (mean x3 R.val) := by
  rw [← scale_read x3 R]
  unfold val_main_v14 val_main_v13
  generalize val_main_v9 (F := Ideal) x3 = y
  refine Eq.trans ?_ (congrArg (· * _) (at2_ix (a := 8192) (b := 1024) x3 R j))
  pointwise []

theorem gain_sum (b : Fin 1024) : val_main_v23 (F := Ideal) x0 x1 x2 x3 (ix1 b) = gainGrad x0 x1 x2 x3 b := by
  have e : ∀ R : Fin 8192, val_main_v22 (F := Ideal) x0 x1 x2 x3 (ix2 R b) = upstream x0 x1 x2 R.val b.val * at2 x3 R.val b.val * Ideal.rsqrt (mean x3 R.val) := by
    intro R
    have ea := scaled x3 R b
    have eb := normed_grad x0 x1 x2 R b
    unfold val_main_v22
    generalize val_main_v14 (F := Ideal) x3 = y at ea ⊢
    generalize val_main_v21 (F := Ideal) x0 x1 x2 = z at eb ⊢
    rw [mul_assoc, mul_comm, ← ea, ← eb]
    pointwise []
  unfold val_main_v23 gainGrad
  generalize val_main_v22 (F := Ideal) x0 x1 x2 x3 = y at e ⊢
  rw [Finset.sum_range, ← Finset.sum_congr rfl fun R _ => e R]
  pointwise [val_main_cst_3]

theorem gain_read (b : Fin 1024) : val_main_v43 (F := Ideal) x0 x1 x2 x3 (ix2 0 b) = gainGrad x0 x1 x2 x3 b := by
  rw [← gain_sum x0 x1 x2 x3 b]
  unfold val_main_v43 val_main_v27 val_main_v24
  generalize val_main_v23 (F := Ideal) x0 x1 x2 x3 = y
  pointwise [val_main_cst_4]
  exact Fin.sum_univ_one _

theorem gained (R : Fin 8192) (j : Fin 1024) : val_main_v26 (F := Ideal) x0 x1 x2 x4 (ix2 R j) = upstream x0 x1 x2 R.val j.val * x4 (ix1 j) := by
  rw [← normed_grad x0 x1 x2 R j]
  unfold val_main_v26 val_main_v25
  generalize val_main_v21 (F := Ideal) x0 x1 x2 = y
  pointwise [val_main_v15]

theorem along_read (R : Fin 8192) : val_main_v29 (F := Ideal) x0 x1 x2 x3 x4 (ix1 R) = along x0 x1 x2 x3 x4 R.val := by
  have e : ∀ j : Fin 1024, val_main_v28 (F := Ideal) x0 x1 x2 x3 x4 (ix2 R j) = upstream x0 x1 x2 R.val j.val * x4 (ix1 j) * at2 x3 R.val j.val := by
    intro j
    rw [← gained x0 x1 x2 x4 R j, mul_comm]
    unfold val_main_v28
    generalize val_main_v26 (F := Ideal) x0 x1 x2 x4 = y
    refine Eq.trans ?_ (congrArg (· * _) (at2_ix (a := 8192) (b := 1024) x3 R j))
    pointwise []
  unfold val_main_v29 along
  generalize val_main_v28 (F := Ideal) x0 x1 x2 x3 x4 = y at e ⊢
  rw [← Finset.sum_congr rfl fun j _ => e j]
  pointwise [val_main_cst_5]

/-- The gradient through the row's scale. -/
theorem turn_read (R : Fin 8192) :
    val_main_v37 (F := Ideal) x0 x1 x2 x3 x4 (ix1 R)
      = Ideal.div (along x0 x1 x2 x3 x4 R.val * (Ideal.ofBits .f32 0xBF000000#32 * Ideal.div (Ideal.rsqrt (mean x3 R.val)) (mean x3 R.val))) (Ideal.ofBits .f32 0x44800000#32) := by
  rw [← along_read x0 x1 x2 x3 x4 R, ← slope_read x3 R]
  have e : val_main_v36 (F := Ideal) x0 x1 x2 x3 x4 (ix2 R 0)
      = Ideal.div (val_main_v29 (F := Ideal) x0 x1 x2 x3 x4 (ix1 R) * val_main_v12 (F := Ideal) x3 (ix2 R 0)) (Ideal.ofBits .f32 0x44800000#32) := by
    unfold val_main_v36 val_main_v34 val_main_v30
    generalize val_main_v29 (F := Ideal) x0 x1 x2 x3 x4 = y
    generalize val_main_v12 (F := Ideal) x3 = z
    pointwise [val_main_v35, val_main_cst_6]
  rw [← e]
  unfold val_main_v37
  generalize val_main_v36 (F := Ideal) x0 x1 x2 x3 x4 = y
  pointwise [val_main_cst_7]
  exact Fin.sum_univ_one _

theorem around (R : Fin 8192) (b : Fin 1024) :
    val_main_v33 (F := Ideal) x0 x1 x2 x3 x4 x5 (ix2 R b) = at2 x5 R.val b.val + Ideal.rsqrt (mean x3 R.val) * (upstream x0 x1 x2 R.val b.val * x4 (ix1 b)) := by
  rw [← gained x0 x1 x2 x4 R b, ← scale_read x3 R, mul_comm]
  unfold val_main_v33 val_main_v32 val_main_v31
  generalize val_main_v26 (F := Ideal) x0 x1 x2 x4 = y
  generalize val_main_v9 (F := Ideal) x3 = z
  refine Eq.trans ?_ (congrArg (· + _) (at2_ix (a := 8192) (b := 1024) x5 R b))
  pointwise []

theorem input_read (R : Fin 8192) (b : Fin 1024) :
    val_main_v42 (F := Ideal) x0 x1 x2 x3 x4 x5 (ix2 R b) = inputGrad x0 x1 x2 x3 x5 x4 R.val b := by
  unfold inputGrad
  rw [grad_eq (mean_positive x3 R.val), ← turn_read x0 x1 x2 x3 x4 R, ← around x0 x1 x2 x3 x5 x4 R b]
  unfold val_main_v42 val_main_v41 val_main_v40 val_main_v39 val_main_v38
  generalize val_main_v33 (F := Ideal) x0 x1 x2 x3 x4 x5 = y
  generalize val_main_v37 (F := Ideal) x0 x1 x2 x3 x4 = z
  refine Eq.trans ?_ (congrArg₂ (· + ·) (congrArg (_ + ·) (congrArg (· * _) (at2_ix (a := 8192) (b := 1024) x3 R b))) (congrArg (_ * ·) (at2_ix (a := 8192) (b := 1024) x3 R b)))
  pointwise []

end Cert.NormBwd.Ref

end
-- ==== Proof.NormBwd.Value.lean ====
/- The norm's backward call: its two results are the reference's. -/
module

public import proofs.«01_k».proof.Proof.NormBwd.Sum
public import proofs.«01_k».proof.Proof.NormBwd.Ref
public import proofs.«01_k».proof.Proof.Gen.Reference3Ideal.Run
public import proofs.«01_k».proof.Defs

@[expose] public section

set_option maxRecDepth 16384

noncomputable section

namespace Cert.NormBwd

open Idealize.ShloMosaic Idealize.SL.Sem

section Results

variable (dp : (⟨2, ![8192, 4608]⟩ : Shape).Idx → EReal) (w : (⟨2, ![4608, 1024]⟩ : Shape).Idx → EReal)
  (dh x d : (⟨2, ![8192, 1024]⟩ : Shape).Idx → EReal) (g : (⟨1, ![1024]⟩ : Shape).Idx → EReal)

/-- The two results as arrays. -/
def inputArray : (⟨2, ![8192, 1024]⟩ : Shape).Idx → EReal := fun i => inputGrad dp w dh x d g (i 0).val (i 1)

def gainArray : (⟨2, ![1, 1024]⟩ : Shape).Idx → EReal := fun i => gainGrad dp w dh x (i 1)

end Results

section Kernel

open Cert.Kernel3Ideal Cert.Kernel3Ideal.Gen Idealize.ShloMosaic.TcCoe

variable (m : (ℓ : Loc nD τ sig) → Buf (Elt Ideal) ℓ) (c : Dev nD)

theorem kernel_input : Cert.Kernel3Ideal.Value.G6 m c
    = inputArray (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg4)) := by
  rw [← V_main_arg0 m c, ← V_main_arg1 m c, ← V_main_arg2 m c, ← V_main_arg3 m c, ← V_main_arg5 m c]
  funext i
  rw [eq_ix2 i]
  exact dx_eq m c (i 0) (i 1)

theorem kernel_gain : Cert.Kernel3Ideal.Value.G7 m c
    = gainArray (m ((c : Thread nD τ).loc main_arg0)) (m ((c : Thread nD τ).loc main_arg1)) (m ((c : Thread nD τ).loc main_arg2)) (m ((c : Thread nD τ).loc main_arg3)) := by
  rw [← V_main_arg0 m c, ← V_main_arg1 m c, ← V_main_arg2 m c, ← V_main_arg3 m c]
  funext i
  rw [eq_row i]
  exact dg_eq m c (i 1)

end Kernel

section Reference

open Cert.Reference3Ideal Cert.Reference3Ideal.Gen Cert.Reference3Ideal.Read

variable (x0 : (⟨S8192x4608, .bf16⟩ : BufTy).Contents (Elt Ideal)) (x1 : (⟨S4608x1024, .bf16⟩ : BufTy).Contents (Elt Ideal))
  (x2 x3 x5 : (⟨S8192x1024, .f32⟩ : BufTy).Contents (Elt Ideal)) (x4 : (⟨S1024, .f32⟩ : BufTy).Contents (Elt Ideal))

theorem reference_input : val_main_v42 (F := Ideal) x0 x1 x2 x3 x4 x5 = inputArray x0 x1 x2 x3 x5 x4 := by
  funext i
  rw [eq_ix2 i]
  exact Ref.input_read x0 x1 x2 x3 x5 x4 (i 0) (i 1)

theorem reference_gain : val_main_v43 (F := Ideal) x0 x1 x2 x3 = gainArray x0 x1 x2 x3 := by
  funext i
  rw [eq_row i]
  exact Ref.gain_read x0 x1 x2 x3 (i 1)

end Reference

theorem algebraic : Cert.algebraic_Kernel3Ideal_Reference3Ideal := by
  intro m g m' g' _ ha
  refine ⟨_, _, (θ_run Cert.Kernel3Ideal.defs _ _).mono
    (fun r h c => ⟨(h c).1.trans (kernel_input m c), (h c).2.1.trans (kernel_gain m c), (h c).2.2⟩) (Cert.Kernel3Ideal.Value.run (F := Ideal) m g), ?_⟩
  refine (θ_run Cert.Reference3Ideal.defs _ _).mono (fun r h c => ?_) (Cert.Reference3Ideal.Value.run (F := Ideal) m' g')
  obtain ⟨e0, e1, e2, e3, e4, e5⟩ := ha c
  refine ⟨(h c).1.trans ((Cert.Reference3Ideal.Read.val_main_v42_eq m' c).trans ((reference_input _ _ _ _ _ _).trans ?_)),
    (h c).2.1.trans ((Cert.Reference3Ideal.Read.val_main_v43_eq _ _ _ _).trans ((reference_gain _ _ _ _).trans ?_)), (h c).2.2⟩
  · rw [e0, e1, e2, e3, e4, e5]
  · rw [e0, e1, e2, e3]

end Cert.NormBwd

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.MlaBwd.Value
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Pre_finite_logits
public import proofs.«01_k».proof.Proof.Product.Forward
public import proofs.«01_k».proof.Proof.Product.Data
public import proofs.«01_k».proof.Proof.WgradA.Value
public import proofs.«01_k».proof.Proof.MlaFwd.Value
public import proofs.«01_k».proof.Proof.OutProj.Weight
public import proofs.«01_k».proof.Proof.OutProj.Data
public import proofs.«01_k».proof.Proof.OutProj.Forward
public import proofs.«01_k».proof.Proof.Latent.Queries
public import proofs.«01_k».proof.Proof.Latent.Keys
public import proofs.«01_k».proof.Proof.Optimiser
public import proofs.«01_k».proof.Proof.NormFwd
public import proofs.«01_k».proof.Proof.Frames
public import proofs.«01_k».proof.Proof.Wgrad.Value
public import proofs.«01_k».proof.Proof.NormBwd.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite.Gen.facts, Cert.Pre_finite_logits.Gen.facts,
    Cert.MlaBwd.frame_kernel, Cert.MlaBwd.frame_kernelIdeal, Cert.MlaBwd.frame_kernelIdeal_finite, Cert.MlaBwd.frame_referenceIdeal,
    Cert.MlaBwd.frame_referenceIdeal_finite,
    Cert.Frames.kernel2, Cert.Frames.kernel2Ideal, Cert.Frames.reference2Ideal,
    Cert.Frames.kernel3, Cert.Frames.kernel3Ideal, Cert.Frames.reference3Ideal,
    Cert.Frames.kernel4, Cert.Frames.kernel4Ideal, Cert.Frames.reference4Ideal,
    Cert.Frames.kernel5, Cert.Frames.kernel5Ideal, Cert.Frames.reference5Ideal,
    Cert.Frames.kernel6, Cert.Frames.kernel6Ideal, Cert.Frames.reference6Ideal,
    Cert.Frames.kernel7, Cert.Frames.kernel7Ideal, Cert.Frames.kernel7Ideal_finite, Cert.Frames.reference7Ideal, Cert.Frames.reference7Ideal_finite,
    Cert.Frames.kernel8, Cert.Frames.kernel8Ideal, Cert.Frames.reference8Ideal,
    Cert.Frames.kernel9, Cert.Frames.kernel9Ideal, Cert.Frames.reference9Ideal,
    Cert.Frames.kernel10, Cert.Frames.kernel10Ideal, Cert.Frames.reference10Ideal,
    Cert.Frames.kernel11, Cert.Frames.kernel11Ideal, Cert.Frames.reference11Ideal,
    Cert.Frames.kernel12, Cert.Frames.kernel12Ideal, Cert.Frames.reference12Ideal,
    Cert.Frames.kernel13, Cert.Frames.kernel13Ideal, Cert.Frames.reference13Ideal,
    Cert.Frames.kernel14, Cert.Frames.kernel14Ideal, Cert.Frames.reference14Ideal,
    trivial, Cert.MlaBwd.algebraic, trivial, Cert.Wgrad.algebraic, trivial, Cert.NormBwd.algebraic,
    trivial, Cert.Product.Forward.algebraic, trivial, Cert.Product.Data.algebraic, trivial, Cert.WgradA.algebraic,
    trivial, Cert.MlaFwd.algebraic, trivial, Cert.OutProj.Weight.algebraic, trivial, Cert.OutProj.Data.algebraic,
    trivial, Cert.OutProj.Forward.algebraic, trivial, Cert.Latent.Queries.algebraic, trivial, Cert.Latent.Keys.algebraic,
    trivial, Cert.Optimiser.algebraic, trivial, Cert.NormFwd.algebraic⟩

end Cert.Proof

end
